-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S16384x1024 : Shape := ⟨2, ![16384, 1024]⟩
abbrev S16384x128 : Shape := ⟨2, ![16384, 128]⟩
abbrev S16384x512 : Shape := ⟨2, ![16384, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_v16 : IVec S_ 1) (main_v17 : FVec F S16384x512 .f32) : IVec S_ 1 :=
  let main_v18 : FVec F S16384x512 .f32 := Host.absf main_v17
  let main_cst_4 : FVec F S_ .f32 := constant S_ .f32 0x7F800000#32
  let main_v19 : FVec F S16384x512 .f32 := broadcastInDim S16384x512 ![] bcast_S_S16384x512 main_cst_4
  let main_v20 : IVec S16384x512 1 := cmpf .olt main_v18 main_v19
  let main_c_5 : IVec S_ 1 := constantI S_ 1 1#1
  let main_v21 : IVec S_ 1 := (fun x v => Host.reduce IntOp.andi x v reducesTo_S16384x512_S_d0_1 h_S_) main_v20 main_c_5
  let main_v22 : IVec S_ 1 := andi main_v16 main_v21
  main_v22

def fn {F : FTy → Type} [FloatOps F] (main_arg0 : FVec F S16384x1024 .bf16) (main_arg1 : FVec F S16384x1024 .bf16) (main_arg2 : FVec F S16384x128 .bf16) (main_arg3 : FVec F S16384x512 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x128 .f32 := (extf .f32 · bitsLt_bf16_f32) main_arg2
  let main_v12 : FVec F S16384x128 .f32 := Host.absf main_v11
  let main_cst_2 : FVec F S_ .f32 := constant S_ .f32 0x7F800000#32
  let main_v13 : FVec F S16384x128 .f32 := broadcastInDim S16384x128 ![] bcast_S_S16384x128 main_cst_2
  let main_v14 : IVec S16384x128 1 := cmpf .olt main_v12 main_v13
  let main_c_3 : IVec S_ 1 := constantI S_ 1 1#1
  let main_v15 : IVec S_ 1 := (fun x v => Host.reduce IntOp.andi x v reducesTo_S16384x128_S_d0_1 h_S_) main_v14 main_c_3
  let main_v16 : IVec S_ 1 := andi main_v10 main_v15
  let main_v17 : FVec F S16384x512 .f32 := (extf .f32 · bitsLt_bf16_f32) main_arg3
  fn_part1 (F := F) main_v16 main_v17
-- ==== Pre_finite5.lean ====
abbrev S16384x2816 : Shape := ⟨2, ![16384, 2816]⟩
abbrev S16384x1024 : Shape := ⟨2, ![16384, 1024]⟩
abbrev S2816x1024 : Shape := ⟨2, ![2816, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S16384x2816 .bf16) (main_arg1 : FVec F S16384x2816 .bf16) (main_arg2 : FVec F S16384x1024 .f32) (main_arg3 : FVec F S2816x1024 .bf16) : IVec S_ 1 :=
  let main_v0 : FVec F S16384x2816 .f32 := (extf .f32 · bitsLt_bf16_f32) main_arg1
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_c : IVec S_ 1 := constantI S_ 1 1#1
  let main_v4 : IVec S_ 1 := (fun x v => Host.reduce IntOp.andi x v reducesTo_S16384x2816_S_d0_1 h_S_) main_v3 main_c
  let main_v5 : FVec F S16384x1024 .f32 := Host.absf main_arg2
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v4 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  main_v15
-- ==== Kernel.lean ====
abbrev S16384x1024 : Shape := ⟨2, ![16384, 1024]⟩
abbrev S16384x128 : Shape := ⟨2, ![16384, 128]⟩
abbrev S16384x512 : Shape := ⟨2, ![16384, 512]⟩
abbrev S136 : Shape := ⟨1, ![136]⟩
abbrev S16384x4x256 : Shape := ⟨3, ![16384, 4, 256]⟩
abbrev S16384x1x128 : Shape := ⟨3, ![16384, 1, 128]⟩
abbrev S16384x4x128 : Shape := ⟨3, ![16384, 4, 128]⟩
abbrev S4x16384x16384 : Shape := ⟨3, ![4, 16384, 16384]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S4x16384 : Shape := ⟨2, ![4, 16384]⟩
abbrev S4x16384x1 : Shape := ⟨3, ![4, 16384, 1]⟩
abbrev S4x16384x128 : Shape := ⟨3, ![4, 16384, 128]⟩
abbrev S4x16384x256 : Shape := ⟨3, ![4, 16384, 256]⟩
abbrev S1024x256 : Shape := ⟨2, ![1024, 256]⟩
abbrev S1 : Shape := ⟨1, ![1]⟩
abbrev S1024x128 : Shape := ⟨2, ![1024, 128]⟩
abbrev S16384x256 : Shape := ⟨2, ![16384, 256]⟩
abbrev S1024x1024 : Shape := ⟨2, ![1024, 1024]⟩
abbrev S1024x1 : Shape := ⟨2, ![1024, 1]⟩
abbrev S1x16384x256 : Shape := ⟨3, ![1, 16384, 256]⟩

abbrev nBuf : Space → Nat
  | .hbm => 62
  | .vmem => 19
  | .smem => 2
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x128, .bf16⟩
  | .hbm, ⟨3, _⟩ => ⟨S16384x512, .bf16⟩
  | .hbm, ⟨4, _⟩ => ⟨S16384x1024, .f32⟩
  | .hbm, ⟨5, _⟩ => ⟨S16384x4x256, .f32⟩
  | .hbm, ⟨6, _⟩ => ⟨S16384x1024, .f32⟩
  | .hbm, ⟨7, _⟩ => ⟨S16384x128, .f32⟩
  | .hbm, ⟨8, _⟩ => ⟨S16384x1x128, .f32⟩
  | .hbm, ⟨9, _⟩ => ⟨S16384x4x128, .f32⟩
  | .hbm, ⟨10, _⟩ => ⟨S16384x4x128, .f32⟩
  | .hbm, ⟨11, _⟩ => ⟨S16384x4x128, .f32⟩
  | .hbm, ⟨12, _⟩ => ⟨S16384x512, .f32⟩
  | .hbm, ⟨13, _⟩ => ⟨S16384x4x128, .f32⟩
  | .hbm, ⟨14, _⟩ => ⟨S16384x512, .f32⟩
  | .hbm, ⟨15, _⟩ => ⟨S16384x4x128, .f32⟩
  | .hbm, ⟨16, _⟩ => ⟨S4x16384x16384, .f32⟩
  | .hbm, ⟨17, _⟩ => ⟨S4x16384x16384, .f32⟩
  | .hbm, ⟨18, _⟩ => ⟨S4x16384x16384, .f32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S1x16384, .i32⟩
  | .hbm, ⟨24, _⟩ => ⟨S16384x1, .i32⟩
  | .hbm, ⟨25, _⟩ => ⟨S16384x16384, .i32⟩
  | .hbm, ⟨26, _⟩ => ⟨S16384x16384, .i32⟩
  | .hbm, ⟨27, _⟩ => ⟨S16384x16384, .i1⟩
  | .hbm, ⟨28, _⟩ => ⟨S4x16384x16384, .i1⟩
  | .hbm, ⟨29, _⟩ => ⟨S_, .f32⟩
  | .hbm, ⟨30, _⟩ => ⟨S4x16384x16384, .f32⟩
  | .hbm, ⟨31, _⟩ => ⟨S4x16384x16384, .f32⟩
  | .hbm, ⟨32, _⟩ => ⟨S_, .f32⟩
  | .hbm, ⟨33, _⟩ => ⟨S4x16384, .f32⟩
  | .hbm, ⟨34, _⟩ => ⟨S4x16384x1, .f32⟩
  | .hbm, ⟨35, _⟩ => ⟨S4x16384x16384, .f32⟩
  | .hbm, ⟨36, _⟩ => ⟨S4x16384x16384, .f32⟩
  | .hbm, ⟨37, _⟩ => ⟨S4x16384x16384, .f32⟩
  | .hbm, ⟨38, _⟩ => ⟨S_, .f32⟩
  | .hbm, ⟨39, _⟩ => ⟨S4x16384, .f32⟩
  | .hbm, ⟨40, _⟩ => ⟨S4x16384x1, .f32⟩
  | .hbm, ⟨41, _⟩ => ⟨S4x16384x16384, .f32⟩
  | .hbm, ⟨42, _⟩ => ⟨S4x16384x16384, .f32⟩
  | .hbm, ⟨43, _⟩ => ⟨S4x16384x128, .f32⟩
  | .hbm, ⟨44, _⟩ => ⟨S16384x512, .f32⟩
  | .hbm, ⟨45, _⟩ => ⟨S16384x4x128, .f32⟩
  | .hbm, ⟨46, _⟩ => ⟨S4x16384x128, .f32⟩
  | .hbm, ⟨47, _⟩ => ⟨S4x16384x1, .f32⟩
  | .hbm, ⟨48, _⟩ => ⟨S4x16384x1, .f32⟩
  | .hbm, ⟨49, _⟩ => ⟨S4x16384x128, .f32⟩
  | .hbm, ⟨50, _⟩ => ⟨S16384x4x128, .f32⟩
  | .hbm, ⟨51, _⟩ => ⟨S16384x512, .f32⟩
  | .hbm, ⟨52, _⟩ => ⟨S4x16384x128, .f32⟩
  | .hbm, ⟨53, _⟩ => ⟨S_, .f32⟩
  | .hbm, ⟨54, _⟩ => ⟨S4x16384, .f32⟩
  | .hbm, ⟨55, _⟩ => ⟨S4x16384x1, .f32⟩
  | .hbm, ⟨56, _⟩ => ⟨S4x16384x128, .f32⟩
  | .hbm, ⟨57, _⟩ => ⟨S16384x4x128, .f32⟩
  | .hbm, ⟨58, _⟩ => ⟨S16384x512, .f32⟩
  | .hbm, ⟨59, _⟩ => ⟨S4x16384x256, .f32⟩
  | .hbm, ⟨60, _⟩ => ⟨S16384x1024, .f32⟩
  | .hbm, ⟨61, _⟩ => ⟨S16384x512, .f32⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .bf16⟩
  | .local _ .vmem, ⟨13, _⟩ => ⟨S1024x128, .bf16⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S16384x256, .f32⟩
  | .local _ .smem, ⟨0, _⟩ => ⟨S136, .i32⟩
  | .local _ .smem, ⟨1, _⟩ => ⟨S136, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50_0 : Ref sig .tc := ⟨.hbm, 59, rfl⟩
abbrev main_v50_1 : Ref sig .tc := ⟨.hbm, 60, rfl⟩
abbrev main_v50_2 : Ref sig .tc := ⟨.hbm, 61, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v46 : BitVec 32 := Scalar.muli v1 c1024_i32
  v46
def k0_cond2 (v1 : BitVec 32) (v3 : BitVec 32) : BitVec 1 :=
  let v7 : BitVec 1 := Scalar.cmpi .sgt v1 v3
  let v8 : BitVec 32 := Scalar.extui v7
  let c0_i32_1 : BitVec 32 := 0#32
  let v9 : BitVec 1 := Scalar.cmpi .ne v8 c0_i32_1
  v9

def k0_off2 (v1 : BitVec 32) : Fin 2 → Nat :=
  let c1024_i32 : BitVec 32 := 1024#32
  let v46 : BitVec 32 := Scalar.muli v1 c1024_i32
  let v47 : BitVec 32 := v46
  let v48 : Index := Scalar.indexCast v47
  let c0_28 : Index := 0#32
  ![v48.toNat, 0]
def k0_mult2 (v1 : BitVec 32) : BitVec 32 :=
  let c1024_i32 : BitVec 32 := 1024#32
  let v93 : BitVec 32 := Scalar.muli v1 c1024_i32
  v93
def k0_cond3 (v1 : BitVec 32) (v3 : BitVec 32) : BitVec 1 :=
  let v10 : BitVec 1 := Scalar.cmpi .eq v1 v3
  let v11 : BitVec 32 := Scalar.extui v10
  let c0_i32_2 : BitVec 32 := 0#32
  let v12 : BitVec 1 := Scalar.cmpi .ne v11 c0_i32_2
  v12

def k0_off3 (v1 : BitVec 32) : Fin 2 → Nat :=
  let c1024_i32 : BitVec 32 := 1024#32
  let v93 : BitVec 32 := Scalar.muli v1 c1024_i32
  let v94 : BitVec 32 := v93
  let v95 : Index := Scalar.indexCast v94
  let c0_37 : Index := 0#32
  ![v95.toNat, 0]

def k0_chk1 (v1 : BitVec 32) (v3 : BitVec 32) : Prop :=
  (∀ (k0_h2 : k0_cond2 v1 v3 = 1#1), 1024 ∣ (k0_mult1 v1).toNat) ∧
  (∀ (k0_h2 : k0_cond2 v1 v3 = 1#1), ∀ a, (k0_off2 v1) a + S1024x256.size a ≤ S16384x256.size a) ∧
  (∀ (k0_h3 : k0_cond3 v1 v3 = 1#1), 1024 ∣ (k0_mult2 v1).toNat) ∧
  (∀ (k0_h3 : k0_cond3 v1 v3 = 1#1), ∀ a, (k0_off3 v1) a + S1024x256.size a ≤ S16384x256.size a)
theorem k0_mult1_dvd : ∀ (v1 : BitVec 32) (v3 : BitVec 32) (k0_hw1 : k0_chk1 v1 v3), ∀ (k0_h2 : k0_cond2 v1 v3 = 1#1), 1024 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v1) a + S1024x256.size a ≤ S16384x256.size a := fun v1 v3 k0_hw1 k0_h2 => k0_hw1.2.1 k0_h2
theorem k0_mult2_dvd : ∀ (v1 : BitVec 32) (v3 : BitVec 32) (k0_hw1 : k0_chk1 v1 v3), ∀ (k0_h3 : k0_cond3 v1 v3 = 1#1), 1024 ∣ (k0_mult2 v1).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ a, (k0_off3 v1) a + S1024x256.size a ≤ S16384x256.size a := fun v1 v3 k0_hw1 k0_h3 => k0_hw1.2.2.2 k0_h3

def k0_cond4 (i : grid0.Coords) : BitVec 1 :=
  let arg1 : BitVec 32 := BitVec.ofNat 32 (i 1).val
  let c135_i32 : BitVec 32 := 135#32
  let v13 : BitVec 1 := Scalar.cmpi .eq arg1 c135_i32
  let v14 : BitVec 32 := Scalar.extui v13
  let c0_i32_3 : BitVec 32 := 0#32
  let v15 : BitVec 1 := Scalar.cmpi .ne v14 c0_i32_3
  v15

def k0_off4 (i : grid0.Coords) : Fin 3 → Nat :=
  let arg0 : BitVec 32 := BitVec.ofNat 32 (i 0).val
  let c0_i32_4 : BitVec 32 := 0#32
  let c0_i32_5 : BitVec 32 := 0#32
  ![arg0.toNat, 0, 0]
def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x1024 : Shape := ⟨2, ![16384, 1024]⟩
abbrev S16384x128 : Shape := ⟨2, ![16384, 128]⟩
abbrev S16384x512 : Shape := ⟨2, ![16384, 512]⟩
abbrev S16384x4x256 : Shape := ⟨3, ![16384, 4, 256]⟩
abbrev S16384x4x128 : Shape := ⟨3, ![16384, 4, 128]⟩
abbrev S16384x1x128 : Shape := ⟨3, ![16384, 1, 128]⟩
abbrev S4x16384x16384 : Shape := ⟨3, ![4, 16384, 16384]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S4x16384 : Shape := ⟨2, ![4, 16384]⟩
abbrev S4x16384x1 : Shape := ⟨3, ![4, 16384, 1]⟩
abbrev S4x128x16384 : Shape := ⟨3, ![4, 128, 16384]⟩
abbrev S4x16384x128 : Shape := ⟨3, ![4, 16384, 128]⟩
abbrev S4x16384x256 : Shape := ⟨3, ![4, 16384, 256]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x128, .bf16⟩
  | .hbm, ⟨3, _⟩ => ⟨S16384x512, .bf16⟩
  | .hbm, ⟨4, _⟩ => ⟨S16384x1024, .f32⟩
  | .hbm, ⟨5, _⟩ => ⟨S16384x4x256, .f32⟩
  | .hbm, ⟨6, _⟩ => ⟨S16384x512, .bf16⟩
  | .hbm, ⟨7, _⟩ => ⟨S16384x512, .f32⟩
  | .hbm, ⟨8, _⟩ => ⟨S16384x4x128, .f32⟩
  | .hbm, ⟨9, _⟩ => ⟨S16384x512, .bf16⟩
  | .hbm, ⟨10, _⟩ => ⟨S16384x512, .f32⟩
  | .hbm, ⟨11, _⟩ => ⟨S16384x4x128, .f32⟩
  | .hbm, ⟨12, _⟩ => ⟨S16384x128, .f32⟩
  | .hbm, ⟨13, _⟩ => ⟨S16384x1x128, .f32⟩
  | .hbm, ⟨14, _⟩ => ⟨S16384x4x128, .f32⟩
  | .hbm, ⟨15, _⟩ => ⟨S16384x4x128, .f32⟩
  | .hbm, ⟨16, _⟩ => ⟨S16384x4x128, .f32⟩
  | .hbm, ⟨17, _⟩ => ⟨S4x16384x16384, .f32⟩
  | .hbm, ⟨18, _⟩ => ⟨S4x16384x16384, .f32⟩
  | .hbm, ⟨19, _⟩ => ⟨S4x16384x16384, .f32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S1x16384, .i32⟩
  | .hbm, ⟨25, _⟩ => ⟨S16384x1, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S4x16384x16384, .i1⟩
  | .hbm, ⟨32, _⟩ => ⟨S4x16384x16384, .f32⟩
  | .hbm, ⟨33, _⟩ => ⟨S4x16384x16384, .f32⟩
  | .hbm, ⟨34, _⟩ => ⟨S_, .f32⟩
  | .hbm, ⟨35, _⟩ => ⟨S4x16384x16384, .f32⟩
  | .hbm, ⟨36, _⟩ => ⟨S_, .f32⟩
  | .hbm, ⟨37, _⟩ => ⟨S4x16384, .f32⟩
  | .hbm, ⟨38, _⟩ => ⟨S4x16384x1, .f32⟩
  | .hbm, ⟨39, _⟩ => ⟨S4x16384x16384, .f32⟩
  | .hbm, ⟨40, _⟩ => ⟨S4x16384x16384, .i1⟩
  | .hbm, ⟨41, _⟩ => ⟨S4x16384x16384, .f32⟩
  | .hbm, ⟨42, _⟩ => ⟨S_, .f32⟩
  | .hbm, ⟨43, _⟩ => ⟨S4x16384, .f32⟩
  | .hbm, ⟨44, _⟩ => ⟨S_, .f32⟩
  | .hbm, ⟨45, _⟩ => ⟨S4x16384, .f32⟩
  | .hbm, ⟨46, _⟩ => ⟨S4x16384, .f32⟩
  | .hbm, ⟨47, _⟩ => ⟨S_, .f32⟩
  | .hbm, ⟨48, _⟩ => ⟨S4x16384, .f32⟩
  | .hbm, ⟨49, _⟩ => ⟨S4x16384, .i1⟩
  | .hbm, ⟨50, _⟩ => ⟨S_, .f32⟩
  | .hbm, ⟨51, _⟩ => ⟨S4x16384, .f32⟩
  | .hbm, ⟨52, _⟩ => ⟨S4x16384, .i1⟩
  | .hbm, ⟨53, _⟩ => ⟨S_, .f32⟩
  | .hbm, ⟨54, _⟩ => ⟨S4x16384, .f32⟩
  | .hbm, ⟨55, _⟩ => ⟨S_, .f32⟩
  | .hbm, ⟨56, _⟩ => ⟨S4x16384, .f32⟩
  | .hbm, ⟨57, _⟩ => ⟨S_, .f32⟩
  | .hbm, ⟨58, _⟩ => ⟨S4x16384, .f32⟩
  | .hbm, ⟨59, _⟩ => ⟨S4x16384, .f32⟩
  | .hbm, ⟨60, _⟩ => ⟨S4x16384, .f32⟩
  | .hbm, ⟨61, _⟩ => ⟨S4x16384x1, .f32⟩
  | .hbm, ⟨62, _⟩ => ⟨S4x16384x16384, .f32⟩
  | .hbm, ⟨63, _⟩ => ⟨S4x16384x16384, .f32⟩
  | .hbm, ⟨64, _⟩ => ⟨S4x16384x16384, .f32⟩
  | .hbm, ⟨65, _⟩ => ⟨S_, .f32⟩
  | .hbm, ⟨66, _⟩ => ⟨S4x16384, .f32⟩
  | .hbm, ⟨67, _⟩ => ⟨S4x16384x1, .f32⟩
  | .hbm, ⟨68, _⟩ => ⟨S4x16384x16384, .f32⟩
  | .hbm, ⟨69, _⟩ => ⟨S4x16384x16384, .f32⟩
  | .hbm, ⟨70, _⟩ => ⟨S4x16384x1, .f32⟩
  | .hbm, ⟨71, _⟩ => ⟨S_, .f32⟩
  | .hbm, ⟨72, _⟩ => ⟨S4x16384x1, .f32⟩
  | .hbm, ⟨73, _⟩ => ⟨S4x16384x1, .f32⟩
  | .hbm, ⟨74, _⟩ => ⟨S4x128x16384, .f32⟩
  | .hbm, ⟨75, _⟩ => ⟨S16384x4x128, .f32⟩
  | .hbm, ⟨76, _⟩ => ⟨S16384x512, .f32⟩
  | .hbm, ⟨77, _⟩ => ⟨S16384x4x128, .f32⟩
  | .hbm, ⟨78, _⟩ => ⟨S4x128x16384, .f32⟩
  | .hbm, ⟨79, _⟩ => ⟨S4x16384x16384, .f32⟩
  | .hbm, ⟨80, _⟩ => ⟨S4x128x16384, .f32⟩
  | .hbm, ⟨81, _⟩ => ⟨S16384x4x128, .f32⟩
  | .hbm, ⟨82, _⟩ => ⟨S4x16384x16384, .f32⟩
  | .hbm, ⟨83, _⟩ => ⟨S4x16384x16384, .f32⟩
  | .hbm, ⟨84, _⟩ => ⟨S4x16384x16384, .f32⟩
  | .hbm, ⟨85, _⟩ => ⟨S_, .f32⟩
  | .hbm, ⟨86, _⟩ => ⟨S4x16384, .f32⟩
  | .hbm, ⟨87, _⟩ => ⟨S4x16384x1, .f32⟩
  | .hbm, ⟨88, _⟩ => ⟨S4x16384x1, .f32⟩
  | .hbm, ⟨89, _⟩ => ⟨S4x16384x16384, .f32⟩
  | .hbm, ⟨90, _⟩ => ⟨S4x16384x16384, .f32⟩
  | .hbm, ⟨91, _⟩ => ⟨S_, .f32⟩
  | .hbm, ⟨92, _⟩ => ⟨S4x16384, .f32⟩
  | .hbm, ⟨93, _⟩ => ⟨S4x16384x16384, .f32⟩
  | .hbm, ⟨94, _⟩ => ⟨S4x16384x16384, .f32⟩
  | .hbm, ⟨95, _⟩ => ⟨S4x16384x16384, .f32⟩
  | .hbm, ⟨96, _⟩ => ⟨S_, .f32⟩
  | .hbm, ⟨97, _⟩ => ⟨S4x16384x16384, .f32⟩
  | .hbm, ⟨98, _⟩ => ⟨S4x16384x16384, .f32⟩
  | .hbm, ⟨99, _⟩ => ⟨S4x16384x128, .f32⟩
  | .hbm, ⟨100, _⟩ => ⟨S16384x4x128, .f32⟩
  | .hbm, ⟨101, _⟩ => ⟨S4x16384x128, .f32⟩
  | .hbm, ⟨102, _⟩ => ⟨S16384x4x128, .f32⟩
  | .hbm, ⟨103, _⟩ => ⟨S4x16384x128, .f32⟩
  | .hbm, ⟨104, _⟩ => ⟨S16384x4x128, .f32⟩
  | .hbm, ⟨105, _⟩ => ⟨S4x16384x128, .f32⟩
  | .hbm, ⟨106, _⟩ => ⟨S16384x4x128, .f32⟩
  | .hbm, ⟨107, _⟩ => ⟨S16384x4x256, .f32⟩
  | .hbm, ⟨108, _⟩ => ⟨S4x16384x256, .f32⟩
  | .hbm, ⟨109, _⟩ => ⟨S16384x4x256, .f32⟩
  | .hbm, ⟨110, _⟩ => ⟨S16384x1024, .f32⟩
  | .hbm, ⟨111, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_call0_v0 : Ref sig .tc := ⟨.hbm, 30, rfl⟩
abbrev main_v24_1 : Ref sig .tc := ⟨.hbm, 31, rfl⟩
abbrev main_call0_v2 : Ref sig .tc := ⟨.hbm, 32, rfl⟩
abbrev main_v24_0 : Ref sig .tc := ⟨.hbm, 33, rfl⟩
abbrev main_call0_cst : Ref sig .tc := ⟨.hbm, 34, rfl⟩
abbrev main_v24_2 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_cst : Ref sig .tc := ⟨.hbm, 96, rfl⟩
abbrev main_call1_v0 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Kernel2.lean ====
abbrev S16384x1024 : Shape := ⟨2, ![16384, 1024]⟩
abbrev S16384x2816 : Shape := ⟨2, ![16384, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16384x2816 : Shape := ⟨2, ![16384, 2816]⟩
abbrev S1024x2816 : Shape := ⟨2, ![1024, 2816]⟩
abbrev S16384x1024 : Shape := ⟨2, ![16384, 1024]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S16384x2816 : Shape := ⟨2, ![16384, 2816]⟩
abbrev S1024x2816 : Shape := ⟨2, ![1024, 2816]⟩
abbrev S_ : Shape := ⟨0, ![]⟩
abbrev S16384x1024 : Shape := ⟨2, ![16384, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S1024x2816, .f32⟩
  | .hbm, ⟨5, _⟩ => ⟨S1024x2816, .f32⟩
  | .hbm, ⟨6, _⟩ => ⟨S_, .f32⟩
  | .hbm, ⟨7, _⟩ => ⟨S16384x1024, .f32⟩
  | .hbm, ⟨8, _⟩ => ⟨S16384x2816, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S16384x1024, .f32⟩
  | .hbm, ⟨3, _⟩ => ⟨S2816x1024, .bf16⟩
  | .hbm, ⟨4, _⟩ => ⟨S16384x2816, .bf16⟩
  | .hbm, ⟨5, _⟩ => ⟨S16384x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .f32⟩
  | .local _ .vmem, ⟨5, _⟩ => ⟨S2048x1024, .f32⟩
  | .local _ .vmem, ⟨6, _⟩ => ⟨S256x1024, .bf16⟩
  | .local _ .vmem, ⟨7, _⟩ => ⟨S256x1024, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x2816 : Shape := ⟨2, ![16384, 2816]⟩
abbrev S16384x1024 : Shape := ⟨2, ![16384, 1024]⟩
abbrev S2816x1024 : Shape := ⟨2, ![2816, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S16384x1024, .f32⟩
  | .hbm, ⟨3, _⟩ => ⟨S2816x1024, .bf16⟩
  | .hbm, ⟨4, _⟩ => ⟨S2816x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .bf16⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel6.lean ====
abbrev S16384x1024 : Shape := ⟨2, ![16384, 1024]⟩
abbrev S1024x2816 : Shape := ⟨2, ![1024, 2816]⟩
abbrev S16384x2816 : Shape := ⟨2, ![16384, 2816]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S16384x1024, .f32⟩
  | .hbm, ⟨4, _⟩ => ⟨S1024x2816, .f32⟩
  | .hbm, ⟨5, _⟩ => ⟨S16384x2816, .f32⟩
  | .hbm, ⟨6, _⟩ => ⟨S1024x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .bf16⟩
  | .hbm, ⟨19, _⟩ => ⟨S16384x2816, .bf16⟩
  | .hbm, ⟨20, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel7.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S16384x2816, .f32⟩
  | .hbm, ⟨8, _⟩ => ⟨S2816x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel8.lean ====
abbrev S16384x1024 : Shape := ⟨2, ![16384, 1024]⟩
abbrev S1024x7168 : Shape := ⟨2, ![1024, 7168]⟩
abbrev S16384x7168 : Shape := ⟨2, ![16384, 7168]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x7168, .bf16⟩
  | .hbm, ⟨2, _⟩ => ⟨S16384x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x7168 : Shape := ⟨2, ![1024, 7168]⟩
abbrev S16384x7168 : Shape := ⟨2, ![16384, 7168]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x7168, .bf16⟩
  | .hbm, ⟨2, _⟩ => ⟨S16384x1024, .f32⟩
  | .hbm, ⟨3, _⟩ => ⟨S1024x7168, .f32⟩
  | .hbm, ⟨4, _⟩ => ⟨S16384x7168, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16384x1024 : Shape := ⟨2, ![16384, 1024]⟩
abbrev S16384x7168 : Shape := ⟨2, ![16384, 7168]⟩
abbrev S1024x7168 : Shape := ⟨2, ![1024, 7168]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x7168, .bf16⟩
  | .hbm, ⟨2, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S16384x7168 : Shape := ⟨2, ![16384, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x7168, .bf16⟩
  | .hbm, ⟨2, _⟩ => ⟨S_, .f32⟩
  | .hbm, ⟨3, _⟩ => ⟨S1024x7168, .f32⟩
  | .hbm, ⟨4, _⟩ => ⟨S16384x1024, .f32⟩
  | .hbm, ⟨5, _⟩ => ⟨S16384x7168, .f32⟩
  | .hbm, ⟨6, _⟩ => ⟨S16384x7168, .f32⟩
  | .hbm, ⟨7, _⟩ => ⟨S7168x1024, .f32⟩
  | .hbm, ⟨8, _⟩ => ⟨S1024x7168, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S16384x7168 : Shape := ⟨2, ![16384, 7168]⟩
abbrev S1024x7168 : Shape := ⟨2, ![1024, 7168]⟩
abbrev S16384x1024 : Shape := ⟨2, ![16384, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x7168, .bf16⟩
  | .hbm, ⟨1, _⟩ => ⟨S1024x7168, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x7168 : Shape := ⟨2, ![16384, 7168]⟩
abbrev S1024x7168 : Shape := ⟨2, ![1024, 7168]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x7168, .bf16⟩
  | .hbm, ⟨1, _⟩ => ⟨S1024x7168, .bf16⟩
  | .hbm, ⟨2, _⟩ => ⟨S_, .f32⟩
  | .hbm, ⟨3, _⟩ => ⟨S16384x1024, .f32⟩
  | .hbm, ⟨4, _⟩ => ⟨S1024x7168, .f32⟩
  | .hbm, ⟨5, _⟩ => ⟨S16384x7168, .f32⟩
  | .hbm, ⟨6, _⟩ => ⟨S16384x7168, .f32⟩
  | .hbm, ⟨7, _⟩ => ⟨S16384x1024, .f32⟩
  | _, _ => ⟨S16384x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Sums.lean ====
/-
Sums built up a stretch at a time, as an accumulator kept over a run of steps builds them.
-/
module

public import Idealize.ShloMosaic.Lib.Pointwise
public import Idealize.ShloMosaic.Lib.IdealHost

@[expose] public section

set_option Elab.async false

noncomputable section

namespace Cert.Ffn

open Idealize.ShloMosaic

/-- Two indices of a two-axis array with the same coordinates. -/
theorem pair_ext {n0 n1 : ℕ} (k : (⟨2, ![n0, n1]⟩ : Shape).Idx) (a : Fin n0) (b : Fin n1) (h0 : (k 0).val = a.val) (h1 : (k 1).val = b.val) :
    k = ix2 a b := by
  funext e
  match e with
  | ⟨0, _⟩ => exact Fin.ext h0
  | ⟨1, _⟩ => exact Fin.ext h1

/-- The sum of `f` over the indices below `a`. -/
def below {n : ℕ} (f : Fin n → EReal) (a : ℕ) : EReal := ∑ i, if i.val < a then f i else 0

/-- Nothing lies below zero. -/
theorem below_zero {n : ℕ} (f : Fin n → EReal) : below f 0 = 0 := Finset.sum_eq_zero fun i _ => if_neg (Nat.not_lt_zero _)

/-- Everything lies below the length. -/
theorem below_all {n : ℕ} (f : Fin n → EReal) : below f n = ∑ i, f i := Finset.sum_congr rfl fun i _ => if_pos i.isLt

/-- One stretch of `R` more indices. -/
theorem below_add {n : ℕ} (f : Fin n → EReal) (a R : ℕ) (h : a + R ≤ n) :
    below f (a + R) = below f a + ∑ r : Fin R, f ⟨a + r.val, by omega⟩ := by
  have hs : ∑ r : Fin R, f ⟨a + r.val, by omega⟩ = ∑ i, if a ≤ i.val ∧ i.val < a + R then f i else 0 := by
    rw [← Finset.sum_filter]
    refine Finset.sum_nbij (fun r : Fin R => (⟨a + r.val, by omega⟩ : Fin n)) (fun r _ => ?_) (fun r _ r' _ e => ?_) (fun i hi => ?_) fun _ _ => rfl
    · simp
    · have := congrArg Fin.val e
      exact Fin.ext (by dsimp only at this; omega)
    · have hi' := (Finset.mem_filter.1 hi).2
      exact ⟨⟨i.val - a, by omega⟩, Finset.mem_univ _, Fin.ext (by dsimp only; omega)⟩
  rw [hs]
  unfold below
  rw [← Finset.sum_add_distrib]
  refine Finset.sum_congr rfl fun i _ => ?_
  by_cases h1 : i.val < a
  · rw [if_pos h1, if_pos (by omega), if_neg (by omega), add_zero]
  · by_cases h2 : i.val < a + R
    · rw [if_neg h1, if_pos h2, if_pos (by omega), zero_add]
    · rw [if_neg h1, if_neg h2, if_neg (by omega), zero_add]

/-- An accumulator cleared at the first of every `L` steps, to which each step adds its stretch of `R` terms, holds after step `n` the
    sum over the stretches so far. -/
theorem accumulated {N L R K : ℕ} (hL : 0 < L) (hK : L * R = K) (f : ℕ → Fin K → EReal) (s : (n : ℕ) → n < N → EReal)
    (fits : ∀ n (r : Fin R), R * (n % L) + r.val < K)
    (start : ∀ n h, n % L = 0 → s n h = 0 + ∑ r : Fin R, f (n / L) ⟨R * (n % L) + r.val, fits n r⟩)
    (step : ∀ n (h : n < N), ¬n % L = 0 → s n h = s (n - 1) (by omega) + ∑ r : Fin R, f (n / L) ⟨R * (n % L) + r.val, fits n r⟩) :
    ∀ n (h : n < N), s n h = below (f (n / L)) (R * (n % L) + R) := by
  intro n
  have hle : R * (n % L) + R ≤ K := by
    have : R * (n % L + 1) ≤ R * L := Nat.mul_le_mul_left R (Nat.mod_lt n hL)
    rw [← hK, Nat.mul_comm L R]; exact this
  induction n with
  | zero =>
    intro h
    rw [start 0 h (Nat.zero_mod L), below_add _ _ _ hle]
    simp only [Nat.zero_mod, Nat.mul_zero, below_zero]
  | succ n ih =>
    intro h
    by_cases h0 : (n + 1) % L = 0
    · rw [start _ h h0, below_add _ _ _ hle]
      have hz : below (f ((n + 1) / L)) (R * ((n + 1) % L)) = 0 := by rw [h0, Nat.mul_zero, below_zero]
      rw [hz]
    · have hd : (n + 1) / L = n / L := by
        rw [Nat.succ_div, if_neg fun hc => h0 (Nat.mod_eq_zero_of_dvd hc), Nat.add_zero]
      have hm : (n + 1) % L = n % L + 1 := by
        have h1 := Nat.div_add_mod (n + 1) L
        have h2 := Nat.div_add_mod n L
        rw [hd] at h1; omega
      have hle' : R * (n % L) + R ≤ K := by rw [hm, Nat.mul_add] at hle; omega
      rw [step _ h h0, below_add _ _ _ hle]
      refine congrArg (· + _) ?_
      have e := ih hle' (by omega)
      rw [hd, hm, Nat.mul_add, Nat.mul_one]
      exact e

end Cert.Ffn

end
-- ==== Proof.Dw1.lean ====
/-
The gradient of the first projection's weights, over the extended reals: the kernel's sum over runs of rows is the whole sum over rows,
which is the reference's.
-/
module

public import proofs.«01_k».proof.Proof.Sums
public import proofs.«01_k».proof.Proof.Gen.Kernel2Ideal.Value
public import proofs.«01_k».proof.Proof.Gen.Reference2Ideal.Run

@[expose] public section

set_option maxRecDepth 16384
set_option Elab.async false

noncomputable section

namespace Cert.Kernel2Ideal.Product

open Cert.Kernel2Ideal Cert.Kernel2Ideal.Gen Cert.Kernel2Ideal.Value Cert.Ffn
open Idealize.ShloMosaic Idealize.ShloMosaic.TcCoe Idealize.ShloMosaic.Tactic

/-- Both offsets are zero. -/
theorem hz : (![0, 0] : Fin 2 → Nat) = fun _ => 0 := funext fun a => by fin_cases a <;> rfl

section cases
variable {F : FTy → Type} [FloatOps F]
variable (c : Dev nD) (i : grid0.Coords) (a3 : Memref sig .tc .vmem S1024x1024 .bf16) (h3 : a3.IsWhole)
  (a4 : Memref sig .tc .vmem S1024x1408 .bf16) (h4 : a4.IsWhole) (a5 : Memref sig .tc .vmem S1024x1408 .f32) (h5 : a5.IsWhole)
  (a6 : Memref sig .tc .vmem S1024x1408 .f32) (h6 : a6.IsWhole)
  (x : Vec F S1024x1024 .bf16) (y : Vec F S1024x1408 .bf16) (s : Vec F S1024x1408 .f32)

/-- The first step of a run leaves its product in the cleared accumulator. -/
theorem first_step (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S1024x1408) hz, View.ld_unit_zero (S := S1024x1024) hz, shapeCast_self]

/-- A later step adds its product to the accumulator. -/
theorem middle_step (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero hz]
  simp only [View.readAt_eq_ld, h3.read_unread, h4.read_unread, h6.read_unread, View.ld_unit_zero (S := S1024x1408) hz, View.ld_unit_zero (S := S1024x1024) hz, shapeCast_self]

/-- So does the last step of a run. -/
theorem last_step (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero hz]
  simp only [View.readAt_eq_ld, h3.read_unread, h4.read_unread, h6.read_unread, View.ld_unit_zero (S := S1024x1408) hz, View.ld_unit_zero (S := S1024x1024) hz, shapeCast_self]

/-- The last step also writes the accumulator out. -/
theorem last_out (hc : ¬cond0_0 i) (hd : cond0_1 i) :
    out0_C_2 c i a3 h3 a4 h4 a5 h5 a6 h6 hc hd x y s = k0_pay2 s x y := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero hz, View.readCov_unit_zero (S := S1024x1408) _ hz]
  simp only [View.readAt_eq_ld, h3.read_unread, h4.read_unread, h6.read_unread, View.ld_unit_zero (S := S1024x1408) hz, View.ld_unit_zero (S := S1024x1024) hz, shapeCast_self]

end cases

/-- What one step makes of the accumulator, at an index. -/
theorem step_at (s : S1024x1408.Idx → EReal) (x : S1024x1024.Idx → EReal) (y : S1024x1408.Idx → EReal) (p : Fin 1024) (q : Fin 1408) :
    k0_pay2 (F := Ideal) s x y (ix2 p q) = s (ix2 p q) + ∑ r : Fin 1024, x (ix2 r p) * y (ix2 r q) := by
  pointwise [k0_pay2]

/-- The cleared accumulator. -/
theorem cleared_at (p : Fin 1024) (q : Fin 1408) : k0_pay1 (F := Ideal) (ix2 p q) = 0 := by
  pointwise [k0_pay1]

/-- Which blocks each step takes. -/
theorem index_val : ∀ t : Fin grid0.N, win0_0.index t (0 : Fin 2) = t.val % 16 ∧ win0_0.index t (1 : Fin 2) = 0
    ∧ win0_1.index t (0 : Fin 2) = t.val % 16 ∧ win0_1.index t (1 : Fin 2) = t.val / 16 := by decide +kernel

variable (m : (ℓ : Loc nD τ sig) → Buf (Elt Ideal) ℓ) (c : Dev nD)

/-- The two arguments on a device. -/
abbrev argH : S16384x1024.Idx → EReal := m ((c.tc : Thread nD τ).loc main_arg0)
abbrev argD : S16384x2816.Idx → EReal := m ((c.tc : Thread nD τ).loc main_arg1)

/-- The block of the first argument, read at an index. -/
theorem blk0 (t : Fin cfg0.N) (r p : Fin 1024) : iblk m c 0 t (ix2 r p)
    = argH m c (ix2 ⟨1024 * (t.val % 16) + r.val, by omega⟩ p) := by
  refine congrArg (argH m c) (pair_ext _ _ _ ?_ ?_)
  · refine ((cfg0.win 0).rect_emb_val t (ix2 r p) 0).trans ?_
    show win0_0.index t (0 : Fin 2) * 1024 + r.val = 1024 * (t.val % 16) + r.val
    rw [(index_val t).1, Nat.mul_comm]
  · refine ((cfg0.win 0).rect_emb_val t (ix2 r p) 1).trans ?_
    show win0_0.index t (1 : Fin 2) * 1024 + p.val = p.val
    rw [(index_val t).2.1, Nat.zero_mul, Nat.zero_add]

/-- The block of the second argument, read at an index. -/
theorem blk1 (t : Fin cfg0.N) (r : Fin 1024) (q : Fin 1408) : iblk m c 1 t (ix2 r q)
    = argD m c (ix2 ⟨1024 * (t.val % 16) + r.val, by omega⟩
        ⟨1408 * (t.val / 16) + q.val, by have := lt_of_lt_of_eq t.isLt (show cfg0.N = 32 from N_0); omega⟩) := by
  refine congrArg (argD m c) (pair_ext _ _ _ ?_ ?_)
  · refine ((cfg0.win 1).rect_emb_val t (ix2 r q) 0).trans ?_
    show win0_1.index t (0 : Fin 2) * 1024 + r.val = 1024 * (t.val % 16) + r.val
    rw [(index_val t).2.2.1, Nat.mul_comm]
  · refine ((cfg0.win 1).rect_emb_val t (ix2 r q) 1).trans ?_
    show win0_1.index t (1 : Fin 2) * 1408 + q.val = 1408 * (t.val / 16) + q.val
    rw [(index_val t).2.2.2, Nat.mul_comm]

/-- The products whose sum is the entry at row `p` and column `q` of half `b`. -/
def terms (p : Fin 1024) (q : Fin 1408) (b : ℕ) (i : Fin 16384) : EReal :=
  argH m c (ix2 i p) * argD m c (ix2 i ⟨(1408 * b + q.val) % 2816, Nat.mod_lt _ (by omega)⟩)

/-- One step's share of the sum. -/
theorem share (t : Fin cfg0.N) (s : S1024x1408.Idx → EReal) (p : Fin 1024) (q : Fin 1408) :
    k0_pay2 (F := Ideal) s (iblk m c 0 t) (iblk m c 1 t) (ix2 p q)
      = s (ix2 p q) + ∑ r : Fin 1024, terms m c p q (t.val / 16) ⟨1024 * (t.val % 16) + r.val, by omega⟩ := by
  refine (step_at s _ _ p q).trans (congrArg _ (Finset.sum_congr rfl fun r _ => ?_))
  rw [blk0, blk1]
  unfold terms
  refine congrArg (fun k => _ * argD m c (ix2 _ k)) (Fin.ext ?_)
  have := lt_of_lt_of_eq t.isLt (show cfg0.N = 32 from N_0)
  show 1408 * (t.val / 16) + q.val = (1408 * (t.val / 16) + q.val) % 2816
  omega

/-- What the accumulator holds after each step. -/
theorem held (p : Fin 1024) (q : Fin 1408) (n : ℕ) (h : n < cfg0.N) :
    (show EReal from (outsAt0 m c n h).2 (ix2 p q)) = below (terms m c p q (n / 16)) (1024 * (n % 16) + 1024) := by
  refine accumulated (L := 16) (R := 1024) (by omega) (by omega) (terms m c p q) (fun n h => (outsAt0 m c n h).2 (ix2 p q)) (fun n r => by omega)
    (fun n h h0 => ?_) (fun n h h0 => ?_) n h
  · rw [outsAt0_A m c ⟨n, h⟩ h0 (by dsimp only; omega), first_step]
    exact (share m c ⟨n, h⟩ _ p q).trans (congrArg (· + _) (cleared_at p q))
  · by_cases h1 : n % 16 = 15
    · rw [outsAt0_C m c ⟨n, h⟩ h0 h1, last_step]
      exact share m c ⟨n, h⟩ _ p q
    · rw [outsAt0_B m c ⟨n, h⟩ h0 h1, middle_step]
      exact share m c ⟨n, h⟩ _ p q

/-- The kernel's result at an index: the sum over all rows. -/
theorem result_at (p : Fin 1024) (q : Fin 2816) : (show EReal from G2 m c (ix2 p q)) = ∑ i : Fin 16384, argH m c (ix2 i p) * argD m c (ix2 i q) := by
  have hp := p.isLt
  have hq := q.isLt
  have hr : run2Of (ix2 p q) = q.val / 1408 := by
    show 2 * (p.val / 1024 - 0) + 1 * (q.val / 1408 - 0) = q.val / 1408
    omega
  have hN : cfg0.N = 32 := N_0
  have hpt : pt2Of (ix2 p q) < cfg0.N := by
    show 16 * run2Of (ix2 p q) + 15 < cfg0.N
    rw [hr, hN]; omega
  have hmod : pt2Of (ix2 p q) % 16 = 15 := by
    show (16 * run2Of (ix2 p q) + 15) % 16 = 15
    omega
  have hdiv : pt2Of (ix2 p q) / 16 = q.val / 1408 := by
    show (16 * run2Of (ix2 p q) + 15) / 16 = q.val / 1408
    rw [hr]; omega
  have hloc : loc2Of (ix2 p q) = ix2 p ⟨q.val % 1408, Nat.mod_lt _ (by omega)⟩ := pair_ext _ _ _ (Nat.mod_eq_of_lt hp) rfl
  unfold G2
  rw [dif_pos hpt, ← outsAt0_sweep m c _ hpt, hloc]
  have hh := held m c p ⟨q.val % 1408, Nat.mod_lt _ (by omega)⟩ _ hpt
  rw [outsAt0_C m c ⟨_, hpt⟩ (by dsimp only; omega) hmod] at hh ⊢
  rw [last_step] at hh
  rw [last_out]
  refine hh.trans ?_
  rw [hmod, hdiv]
  refine (below_all _).trans (Finset.sum_congr rfl fun i _ => ?_)
  unfold terms
  refine congrArg (fun k => _ * argD m c (ix2 _ k)) (Fin.ext ?_)
  show (1408 * (q.val / 1408) + q.val % 1408) % 2816 = q.val
  omega

end Cert.Kernel2Ideal.Product

namespace Cert.Reference2Ideal.Product

open Cert.Reference2Ideal Cert.Reference2Ideal.Gen
open Idealize.ShloMosaic Idealize.ShloMosaic.TcCoe Idealize.ShloMosaic.Tactic

/-- The reference's result at an index: the same sum, its factors the other way round. -/
theorem result_at (x : S16384x1024.Idx → EReal) (y : S16384x2816.Idx → EReal) (p : Fin 1024) (q : Fin 2816) :
    (transpose S1024x2816 [1, 0] (Host.dotGeneral (F := Ideal) dot_S16384x2816_S16384x1024_S2816x1024_0_0_1_1_n_n none
      (extf (F := Ideal) .f32 y bitsLt_bf16_f32) (extf (F := Ideal) .f32 x bitsLt_bf16_f32)) transposes_S2816x1024_S1024x2816_1_0 : S1024x2816.Idx → EReal) (ix2 p q)
      = ∑ i : Fin 16384, x (ix2 i p) * y (ix2 i q) := by
  pointwise []
  exact Finset.sum_congr rfl fun i _ => mul_comm _ _

end Cert.Reference2Ideal.Product

end
-- ==== Proof.Dw2.lean ====
/-
The gradient of the last projection's weights, over the extended reals: the kernel's sum over runs of rows is the whole sum over rows,
which is the reference's.
-/
module

public import proofs.«01_k».proof.Proof.Sums
public import proofs.«01_k».proof.Proof.Gen.Kernel3Ideal.Value
public import proofs.«01_k».proof.Proof.Gen.Reference3Ideal.Run

@[expose] public section

set_option maxRecDepth 16384
set_option Elab.async false

noncomputable section

namespace Cert.Kernel3Ideal.Product

open Cert.Kernel3Ideal Cert.Kernel3Ideal.Gen Cert.Kernel3Ideal.Value Cert.Ffn
open Idealize.ShloMosaic Idealize.ShloMosaic.TcCoe Idealize.ShloMosaic.Tactic

/-- Both offsets are zero. -/
theorem hz : (![0, 0] : Fin 2 → Nat) = fun _ => 0 := funext fun a => by fin_cases a <;> rfl

section cases
variable {F : FTy → Type} [FloatOps F]
variable (c : Dev nD) (i : grid0.Coords) (a3 : Memref sig .tc .vmem S1024x1408 .bf16) (h3 : a3.IsWhole)
  (a4 : Memref sig .tc .vmem S1024x1024 .f32) (h4 : a4.IsWhole) (a5 : Memref sig .tc .vmem S1408x1024 .f32) (h5 : a5.IsWhole)
  (a6 : Memref sig .tc .vmem S1408x1024 .f32) (h6 : a6.IsWhole)
  (x : Vec F S1024x1408 .bf16) (y : Vec F S1024x1024 .f32) (s : Vec F S1408x1024 .f32)

/-- The first step of a run leaves its product in the cleared accumulator. -/
theorem first_step (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1408x1024) hz, View.ld_unit_zero (S := S1024x1408) hz, View.ld_unit_zero (S := S1024x1024) hz, shapeCast_self]

/-- A later step adds its product to the accumulator. -/
theorem middle_step (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero hz]
  simp only [View.readAt_eq_ld, h3.read_unread, h4.read_unread, h6.read_unread, View.ld_unit_zero (S := S1408x1024) hz, View.ld_unit_zero (S := S1024x1408) hz, View.ld_unit_zero (S := S1024x1024) hz, shapeCast_self]

/-- So does the last step of a run. -/
theorem last_step (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero hz]
  simp only [View.readAt_eq_ld, h3.read_unread, h4.read_unread, h6.read_unread, View.ld_unit_zero (S := S1408x1024) hz, View.ld_unit_zero (S := S1024x1408) hz, View.ld_unit_zero (S := S1024x1024) hz, shapeCast_self]

/-- The last step also writes the accumulator out. -/
theorem last_out (hc : ¬cond0_0 i) (hd : cond0_1 i) :
    out0_C_2 c i a3 h3 a4 h4 a5 h5 a6 h6 hc hd x y s = k0_pay2 s x y := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S1408x1024) hz, View.ld_unit_zero (S := S1024x1408) hz, View.ld_unit_zero (S := S1024x1024) hz, shapeCast_self]

end cases

/-- What one step makes of the accumulator, at an index. -/
theorem step_at (s : S1408x1024.Idx → EReal) (x : S1024x1408.Idx → EReal) (y : S1024x1024.Idx → EReal) (p : Fin 1408) (q : Fin 1024) :
    k0_pay2 (F := Ideal) s x y (ix2 p q) = s (ix2 p q) + ∑ r : Fin 1024, x (ix2 r p) * y (ix2 r q) := by
  pointwise [k0_pay2]

/-- The cleared accumulator. -/
theorem cleared_at (p : Fin 1408) (q : Fin 1024) : k0_pay1 (F := Ideal) (ix2 p q) = 0 := by
  pointwise [k0_pay1]

/-- Which blocks each step takes. -/
theorem index_val : ∀ t : Fin grid0.N, win0_0.index t (0 : Fin 2) = t.val % 16 ∧ win0_0.index t (1 : Fin 2) = t.val / 16
    ∧ win0_1.index t (0 : Fin 2) = t.val % 16 ∧ win0_1.index t (1 : Fin 2) = 0 := by decide +kernel

variable (m : (ℓ : Loc nD τ sig) → Buf (Elt Ideal) ℓ) (c : Dev nD)

/-- The two arguments on a device. -/
abbrev argA : S16384x2816.Idx → EReal := m ((c.tc : Thread nD τ).loc main_arg0)
abbrev argD : S16384x1024.Idx → EReal := m ((c.tc : Thread nD τ).loc main_arg1)

/-- The block of the first argument, read at an index. -/
theorem blk0 (t : Fin cfg0.N) (r : Fin 1024) (p : Fin 1408) : iblk m c 0 t (ix2 r p)
    = argA m c (ix2 ⟨1024 * (t.val % 16) + r.val, by omega⟩
        ⟨1408 * (t.val / 16) + p.val, by have := lt_of_lt_of_eq t.isLt (show cfg0.N = 32 from N_0); omega⟩) := by
  refine congrArg (argA m c) (pair_ext _ _ _ ?_ ?_)
  · refine ((cfg0.win 0).rect_emb_val t (ix2 r p) 0).trans ?_
    show win0_0.index t (0 : Fin 2) * 1024 + r.val = 1024 * (t.val % 16) + r.val
    rw [(index_val t).1, Nat.mul_comm]
  · refine ((cfg0.win 0).rect_emb_val t (ix2 r p) 1).trans ?_
    show win0_0.index t (1 : Fin 2) * 1408 + p.val = 1408 * (t.val / 16) + p.val
    rw [(index_val t).2.1, Nat.mul_comm]

/-- The block of the second argument, read at an index. -/
theorem blk1 (t : Fin cfg0.N) (r q : Fin 1024) : iblk m c 1 t (ix2 r q)
    = argD m c (ix2 ⟨1024 * (t.val % 16) + r.val, by omega⟩ q) := by
  refine congrArg (argD m c) (pair_ext _ _ _ ?_ ?_)
  · refine ((cfg0.win 1).rect_emb_val t (ix2 r q) 0).trans ?_
    show win0_1.index t (0 : Fin 2) * 1024 + r.val = 1024 * (t.val % 16) + r.val
    rw [(index_val t).2.2.1, Nat.mul_comm]
  · refine ((cfg0.win 1).rect_emb_val t (ix2 r q) 1).trans ?_
    show win0_1.index t (1 : Fin 2) * 1024 + q.val = q.val
    rw [(index_val t).2.2.2, Nat.zero_mul, Nat.zero_add]

/-- The products whose sum is the entry at row `p` of half `b` and column `q`. -/
def terms (p : Fin 1408) (q : Fin 1024) (b : ℕ) (i : Fin 16384) : EReal :=
  argA m c (ix2 i ⟨(1408 * b + p.val) % 2816, Nat.mod_lt _ (by omega)⟩) * argD m c (ix2 i q)

/-- One step's share of the sum. -/
theorem share (t : Fin cfg0.N) (s : S1408x1024.Idx → EReal) (p : Fin 1408) (q : Fin 1024) :
    k0_pay2 (F := Ideal) s (iblk m c 0 t) (iblk m c 1 t) (ix2 p q)
      = s (ix2 p q) + ∑ r : Fin 1024, terms m c p q (t.val / 16) ⟨1024 * (t.val % 16) + r.val, by omega⟩ := by
  refine (step_at s _ _ p q).trans (congrArg _ (Finset.sum_congr rfl fun r _ => ?_))
  rw [blk0, blk1]
  unfold terms
  refine congrArg (fun k => argA m c (ix2 _ k) * _) (Fin.ext ?_)
  have := lt_of_lt_of_eq t.isLt (show cfg0.N = 32 from N_0)
  show 1408 * (t.val / 16) + p.val = (1408 * (t.val / 16) + p.val) % 2816
  omega

/-- What the accumulator holds after each step. -/
theorem held (p : Fin 1408) (q : Fin 1024) (n : ℕ) (h : n < cfg0.N) :
    (show EReal from (outsAt0 m c n h).2 (ix2 p q)) = below (terms m c p q (n / 16)) (1024 * (n % 16) + 1024) := by
  refine accumulated (L := 16) (R := 1024) (by omega) (by omega) (terms m c p q) (fun n h => (outsAt0 m c n h).2 (ix2 p q)) (fun n r => by omega)
    (fun n h h0 => ?_) (fun n h h0 => ?_) n h
  · rw [outsAt0_A m c ⟨n, h⟩ h0 (by dsimp only; omega), first_step]
    exact (share m c ⟨n, h⟩ _ p q).trans (congrArg (· + _) (cleared_at p q))
  · by_cases h1 : n % 16 = 15
    · rw [outsAt0_C m c ⟨n, h⟩ h0 h1, last_step]
      exact share m c ⟨n, h⟩ _ p q
    · rw [outsAt0_B m c ⟨n, h⟩ h0 h1, middle_step]
      exact share m c ⟨n, h⟩ _ p q

/-- The kernel's result at an index: the sum over all rows. -/
theorem result_at (p : Fin 2816) (q : Fin 1024) : (show EReal from G2 m c (ix2 p q)) = ∑ i : Fin 16384, argA m c (ix2 i p) * argD m c (ix2 i q) := by
  have hp := p.isLt
  have hq := q.isLt
  have hr : run2Of (ix2 p q) = p.val / 1408 := by
    show 1 * (p.val / 1408 - 0) + 1 * (q.val / 1024 - 0) = p.val / 1408
    omega
  have hN : cfg0.N = 32 := N_0
  have hpt : pt2Of (ix2 p q) < cfg0.N := by
    show 16 * run2Of (ix2 p q) + 15 < cfg0.N
    rw [hr, hN]; omega
  have hmod : pt2Of (ix2 p q) % 16 = 15 := by
    show (16 * run2Of (ix2 p q) + 15) % 16 = 15
    omega
  have hdiv : pt2Of (ix2 p q) / 16 = p.val / 1408 := by
    show (16 * run2Of (ix2 p q) + 15) / 16 = p.val / 1408
    rw [hr]; omega
  have hloc : loc2Of (ix2 p q) = ix2 ⟨p.val % 1408, Nat.mod_lt _ (by omega)⟩ q := pair_ext _ _ _ rfl (Nat.mod_eq_of_lt hq)
  unfold G2
  rw [dif_pos hpt, ← outsAt0_sweep m c _ hpt, hloc]
  have hh := held m c ⟨p.val % 1408, Nat.mod_lt _ (by omega)⟩ q _ hpt
  rw [outsAt0_C m c ⟨_, hpt⟩ (by dsimp only; omega) hmod] at hh ⊢
  rw [last_step] at hh
  rw [last_out]
  refine hh.trans ?_
  rw [hmod, hdiv]
  refine (below_all _).trans (Finset.sum_congr rfl fun i _ => ?_)
  unfold terms
  refine congrArg (fun k => argA m c (ix2 _ k) * _) (Fin.ext ?_)
  show (1408 * (p.val / 1408) + p.val % 1408) % 2816 = p.val
  omega

end Cert.Kernel3Ideal.Product

namespace Cert.Reference3Ideal.Product

open Cert.Reference3Ideal Cert.Reference3Ideal.Gen
open Idealize.ShloMosaic Idealize.ShloMosaic.TcCoe Idealize.ShloMosaic.Tactic

/-- The reference's result at an index: the same sum, its factors the other way round. -/
theorem result_at (x : S16384x2816.Idx → EReal) (y : S16384x1024.Idx → EReal) (p : Fin 2816) (q : Fin 1024) :
    (transpose S2816x1024 [1, 0] (Host.dotGeneral (F := Ideal) (φ₁ := .f32) dot_S16384x1024_S16384x2816_S1024x2816_0_0_1_1_n_n none
      y (extf (F := Ideal) .f32 x bitsLt_bf16_f32)) transposes_S1024x2816_S2816x1024_1_0 : S2816x1024.Idx → EReal) (ix2 p q)
      = ∑ i : Fin 16384, x (ix2 i p) * y (ix2 i q) := by
  pointwise []
  exact Finset.sum_congr rfl fun i _ => mul_comm _ _

end Cert.Reference3Ideal.Product

end
-- ==== Proof.Dh.lean ====
/-
The gradient of the layer's input, over the extended reals: the kernel's sum over the two runs of columns of both products is the sum of
the two whole products, which is the reference's.
-/
module

public import proofs.«01_k».proof.Proof.Sums
public import proofs.«01_k».proof.Proof.Gen.Kernel4Ideal.Value
public import proofs.«01_k».proof.Proof.Gen.Reference4Ideal.Run

@[expose] public section

set_option maxRecDepth 16384
set_option Elab.async false

noncomputable section

namespace Cert.Kernel4Ideal.Product

open Cert.Kernel4Ideal Cert.Kernel4Ideal.Gen Cert.Kernel4Ideal.Value Cert.Ffn
open Idealize.ShloMosaic Idealize.ShloMosaic.TcCoe Idealize.ShloMosaic.Tactic

/-- Both offsets are zero. -/
theorem hz : (![0, 0] : Fin 2 → Nat) = fun _ => 0 := funext fun a => by fin_cases a <;> rfl

section cases
variable {F : FTy → Type} [FloatOps F]
variable (c : Dev nD) (i : grid0.Coords) (a3 : Memref sig .tc .vmem S1024x1408 .bf16) (h3 : a3.IsWhole)
  (a4 : Memref sig .tc .vmem S1024x1408 .bf16) (h4 : a4.IsWhole) (a5 : Memref sig .tc .vmem S1024x1408 .bf16) (h5 : a5.IsWhole)
  (a6 : Memref sig .tc .vmem S1024x1408 .bf16) (h6 : a6.IsWhole) (a7 : Memref sig .tc .vmem S1024x1024 .f32) (h7 : a7.IsWhole)
  (a8 : Memref sig .tc .vmem S1024x1024 .f32) (h8 : a8.IsWhole)
  (x0 x1 x2 x3 : Vec F S1024x1408 .bf16) (s : Vec F S1024x1024 .f32)

/-- The first step of a run leaves its two products in the cleared accumulator. -/
theorem first_step (hc : cond0_0 i) (hd : ¬cond0_1 i) :
    sout0_A_0 c i a3 h3 a4 h4 a5 h5 a6 h6 a7 h7 a8 h8 hc hd x0 x1 x2 x3 = k0_pay2 k0_pay1 x0 x1 x2 x3 := by
  unfold sout0_A_0
  rw [View.read_writes_eq_canon _ _ _ (scover0_A_0 c i a3 h3 a4 h4 a5 h5 a6 h6 a7 h7 a8 h8 hc hd x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, View.ld_unit_zero (S := S1024x1408) hz, shapeCast_self]

/-- The last step of a run adds its two products to the accumulator. -/
theorem last_step (hc : ¬cond0_0 i) (hd : cond0_1 i) :
    sout0_B_0 c i a3 h3 a4 h4 a5 h5 a6 h6 a7 h7 a8 h8 hc hd x0 x1 x2 x3 s = k0_pay2 s x0 x1 x2 x3 := by
  unfold sout0_B_0
  rw [View.read_writes_eq_canon _ _ _ (scover0_B_0 c i a3 h3 a4 h4 a5 h5 a6 h6 a7 h7 a8 h8 hc hd x0 x1 x2 x3 s)]
  unfold kernelRun0_B
  dsimp only
  sl_unfold_words
  rw [View.canon_unit_zero hz]
  simp only [View.readAt_eq_ld, h3.read_unread, h4.read_unread, h5.read_unread, h6.read_unread, h8.read_unread,
    View.ld_unit_zero (S := S1024x1408) hz, View.ld_unit_zero (S := S1024x1024) hz, shapeCast_self]

/-- The last step also writes the accumulator out. -/
theorem last_out (hc : ¬cond0_0 i) (hd : cond0_1 i) :
    out0_B_4 c i a3 h3 a4 h4 a5 h5 a6 h6 a7 h7 a8 h8 hc hd x0 x1 x2 x3 s = k0_pay2 s x0 x1 x2 x3 := by
  unfold out0_B_4
  rw [View.read_writes_eq_canon _ _ _ (cover0_B_4 c i a3 h3 a4 h4 a5 h5 a6 h6 a7 h7 a8 h8 hc hd x0 x1 x2 x3 s)]
  unfold kernelRun0_B
  dsimp only
  sl_unfold_words
  rw [View.canon_unit_zero hz, View.readCov_unit_zero (S := S1024x1024) _ hz]
  simp only [View.readAt_eq_ld, h3.read_unread, h4.read_unread, h5.read_unread, h6.read_unread, h8.read_unread,
    View.ld_unit_zero (S := S1024x1408) hz, View.ld_unit_zero (S := S1024x1024) hz, shapeCast_self]

end cases

/-- What one step makes of the accumulator, at an index. -/
theorem step_at (s : S1024x1024.Idx → EReal) (x0 x1 x2 x3 : S1024x1408.Idx → EReal) (p q : Fin 1024) :
    k0_pay2 (F := Ideal) s x0 x1 x2 x3 (ix2 p q)
      = s (ix2 p q) + ∑ r : Fin 1408, (x0 (ix2 p r) * x1 (ix2 q r) + x2 (ix2 p r) * x3 (ix2 q r)) := by
  rw [Finset.sum_add_distrib, ← add_assoc]
  pointwise [k0_pay2]

/-- The cleared accumulator. -/
theorem cleared_at (p q : Fin 1024) : k0_pay1 (F := Ideal) (ix2 p q) = 0 := by
  pointwise [k0_pay1]

/-- Which blocks each step takes. -/
theorem index_val : ∀ t : Fin grid0.N, (win0_0.index t (0 : Fin 2) = t.val / 2 ∧ win0_0.index t (1 : Fin 2) = t.val % 2)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (win0_3.index t (0 : Fin 2) = 0 ∧ win0_3.index t (1 : Fin 2) = t.val % 2) := by decide +kernel

variable (m : (ℓ : Loc nD τ sig) → Buf (Elt Ideal) ℓ) (c : Dev nD)

/-- The four arguments on a device. -/
abbrev argU : S16384x2816.Idx → EReal := m ((c.tc : Thread nD τ).loc main_arg0)
abbrev argV : S16384x2816.Idx → EReal := m ((c.tc : Thread nD τ).loc main_arg1)
abbrev argW1 : S1024x2816.Idx → EReal := m ((c.tc : Thread nD τ).loc main_arg2)
abbrev argW3 : S1024x2816.Idx → EReal := m ((c.tc : Thread nD τ).loc main_arg3)

/-- The block of the first gradient, read at an index. -/
theorem blk0 (t : Fin cfg0.N) (p : Fin 1024) (r : Fin 1408) : iblk m c 0 t (ix2 p r)
    = argU m c (ix2 ⟨1024 * (t.val / 2) + p.val, by have := lt_of_lt_of_eq t.isLt (show cfg0.N = 32 from N_0); omega⟩
        ⟨1408 * (t.val % 2) + r.val, by omega⟩) := by
  refine congrArg (argU m c) (pair_ext _ _ _ ?_ ?_)
  · refine ((cfg0.win 0).rect_emb_val t (ix2 p r) 0).trans ?_
    show win0_0.index t (0 : Fin 2) * 1024 + p.val = 1024 * (t.val / 2) + p.val
    rw [(index_val t).1.1, Nat.mul_comm]
  · refine ((cfg0.win 0).rect_emb_val t (ix2 p r) 1).trans ?_
    show win0_0.index t (1 : Fin 2) * 1408 + r.val = 1408 * (t.val % 2) + r.val
    rw [(index_val t).1.2, Nat.mul_comm]

/-- The block of the first weights, read at an index. -/
theorem blk1 (t : Fin cfg0.N) (q : Fin 1024) (r : Fin 1408) : iblk m c 1 t (ix2 q r)
    = argW1 m c (ix2 q ⟨1408 * (t.val % 2) + r.val, by omega⟩) := by
  refine congrArg (argW1 m c) (pair_ext _ _ _ ?_ ?_)
  · refine ((cfg0.win 1).rect_emb_val t (ix2 q r) 0).trans ?_
    show win0_1.index t (0 : Fin 2) * 1024 + q.val = q.val
    rw [(index_val t).2.1.1, Nat.zero_mul, Nat.zero_add]
  · refine ((cfg0.win 1).rect_emb_val t (ix2 q r) 1).trans ?_
    show win0_1.index t (1 : Fin 2) * 1408 + r.val = 1408 * (t.val % 2) + r.val
    rw [(index_val t).2.1.2, Nat.mul_comm]

/-- The block of the second gradient, read at an index. -/
theorem blk2 (t : Fin cfg0.N) (p : Fin 1024) (r : Fin 1408) : iblk m c 2 t (ix2 p r)
    = argV m c (ix2 ⟨1024 * (t.val / 2) + p.val, by have := lt_of_lt_of_eq t.isLt (show cfg0.N = 32 from N_0); omega⟩
        ⟨1408 * (t.val % 2) + r.val, by omega⟩) := by
  refine congrArg (argV m c) (pair_ext _ _ _ ?_ ?_)
  · refine ((cfg0.win 2).rect_emb_val t (ix2 p r) 0).trans ?_
    show win0_2.index t (0 : Fin 2) * 1024 + p.val = 1024 * (t.val / 2) + p.val
    rw [(index_val t).2.2.1.1, Nat.mul_comm]
  · refine ((cfg0.win 2).rect_emb_val t (ix2 p r) 1).trans ?_
    show win0_2.index t (1 : Fin 2) * 1408 + r.val = 1408 * (t.val % 2) + r.val
    rw [(index_val t).2.2.1.2, Nat.mul_comm]

/-- The block of the second weights, read at an index. -/
theorem blk3 (t : Fin cfg0.N) (q : Fin 1024) (r : Fin 1408) : iblk m c 3 t (ix2 q r)
    = argW3 m c (ix2 q ⟨1408 * (t.val % 2) + r.val, by omega⟩) := by
  refine congrArg (argW3 m c) (pair_ext _ _ _ ?_ ?_)
  · refine ((cfg0.win 3).rect_emb_val t (ix2 q r) 0).trans ?_
    show win0_3.index t (0 : Fin 2) * 1024 + q.val = q.val
    rw [(index_val t).2.2.2.1, Nat.zero_mul, Nat.zero_add]
  · refine ((cfg0.win 3).rect_emb_val t (ix2 q r) 1).trans ?_
    show win0_3.index t (1 : Fin 2) * 1408 + r.val = 1408 * (t.val % 2) + r.val
    rw [(index_val t).2.2.2.2, Nat.mul_comm]

/-- The products whose sum is the entry at row `p` of row block `b` and column `q`. -/
def terms (p q : Fin 1024) (b : ℕ) (j : Fin 2816) : EReal :=
  argU m c (ix2 ⟨(1024 * b + p.val) % 16384, Nat.mod_lt _ (by omega)⟩ j) * argW1 m c (ix2 q j)
    + argV m c (ix2 ⟨(1024 * b + p.val) % 16384, Nat.mod_lt _ (by omega)⟩ j) * argW3 m c (ix2 q j)

/-- One step's share of the sum. -/
theorem share (t : Fin cfg0.N) (s : S1024x1024.Idx → EReal) (p q : Fin 1024) :
    k0_pay2 (F := Ideal) s (iblk m c 0 t) (iblk m c 1 t) (iblk m c 2 t) (iblk m c 3 t) (ix2 p q)
      = s (ix2 p q) + ∑ r : Fin 1408, terms m c p q (t.val / 2) ⟨1408 * (t.val % 2) + r.val, by omega⟩ := by
  refine (step_at s _ _ _ _ p q).trans (congrArg _ (Finset.sum_congr rfl fun r _ => ?_))
  rw [blk0, blk1, blk2, blk3]
  unfold terms
  refine congrArg (fun k => argU m c (ix2 k _) * _ + argV m c (ix2 k _) * _) (Fin.ext ?_)
  have := lt_of_lt_of_eq t.isLt (show cfg0.N = 32 from N_0)
  show 1024 * (t.val / 2) + p.val = (1024 * (t.val / 2) + p.val) % 16384
  omega

/-- What the accumulator holds after each step. -/
theorem held (p q : Fin 1024) (n : ℕ) (h : n < cfg0.N) :
    (show EReal from (outsAt0 m c n h).2 (ix2 p q)) = below (terms m c p q (n / 2)) (1408 * (n % 2) + 1408) := by
  refine accumulated (L := 2) (R := 1408) (by omega) (by omega) (terms m c p q) (fun n h => (outsAt0 m c n h).2 (ix2 p q)) (fun n r => by omega)
    (fun n h h0 => ?_) (fun n h h0 => ?_) n h
  · rw [outsAt0_A m c ⟨n, h⟩ h0 (by dsimp only; omega), first_step]
    exact (share m c ⟨n, h⟩ _ p q).trans (congrArg (· + _) (cleared_at p q))
  · rw [outsAt0_B m c ⟨n, h⟩ h0 (by dsimp only; omega), last_step]
    exact share m c ⟨n, h⟩ _ p q

/-- The kernel's result at an index: both products, summed over all columns. -/
theorem result_at (p : Fin 16384) (q : Fin 1024) : (show EReal from G4 m c (ix2 p q))
    = ∑ j : Fin 2816, (argU m c (ix2 p j) * argW1 m c (ix2 q j) + argV m c (ix2 p j) * argW3 m c (ix2 q j)) := by
  have hp := p.isLt
  have hq := q.isLt
  have hr : run4Of (ix2 p q) = p.val / 1024 := by
    show 1 * (p.val / 1024 - 0) + 1 * (q.val / 1024 - 0) = p.val / 1024
    omega
  have hN : cfg0.N = 32 := N_0
  have hpt : pt4Of (ix2 p q) < cfg0.N := by
    show 2 * run4Of (ix2 p q) + 1 < cfg0.N
    rw [hr, hN]; omega
  have hmod : pt4Of (ix2 p q) % 2 = 1 := by
    show (2 * run4Of (ix2 p q) + 1) % 2 = 1
    omega
  have hdiv : pt4Of (ix2 p q) / 2 = p.val / 1024 := by
    show (2 * run4Of (ix2 p q) + 1) / 2 = p.val / 1024
    rw [hr]; omega
  have hloc : loc4Of (ix2 p q) = ix2 ⟨p.val % 1024, Nat.mod_lt _ (by omega)⟩ q := pair_ext _ _ _ rfl (Nat.mod_eq_of_lt hq)
  unfold G4
  rw [dif_pos hpt, ← outsAt0_sweep m c _ hpt, hloc]
  have hh := held m c ⟨p.val % 1024, Nat.mod_lt _ (by omega)⟩ q _ hpt
  rw [outsAt0_B m c ⟨_, hpt⟩ (by dsimp only; omega) hmod] at hh ⊢
  rw [last_step] at hh
  rw [last_out]
  refine hh.trans ?_
  rw [hmod, hdiv]
  refine (below_all _).trans (Finset.sum_congr rfl fun j _ => ?_)
  unfold terms
  refine congrArg (fun k => argU m c (ix2 k _) * _ + argV m c (ix2 k _) * _) (Fin.ext ?_)
  show (1024 * (p.val / 1024) + p.val % 1024) % 16384 = p.val
  omega

end Cert.Kernel4Ideal.Product

namespace Cert.Reference4Ideal.Product

open Cert.Reference4Ideal Cert.Reference4Ideal.Gen
open Idealize.ShloMosaic Idealize.ShloMosaic.TcCoe Idealize.ShloMosaic.Tactic

/-- The reference's result at an index: the same two products. -/
theorem result_at (u v : S16384x2816.Idx → EReal) (w1 w3 : S1024x2816.Idx → EReal) (p : Fin 16384) (q : Fin 1024) :
    (addf (Host.dotGeneral (F := Ideal) dot_S16384x2816_S1024x2816_S16384x1024_1_1_0_0_n_n none (extf (F := Ideal) .f32 v bitsLt_bf16_f32)
        (extf (F := Ideal) .f32 w3 bitsLt_bf16_f32))
      (Host.dotGeneral (F := Ideal) dot_S16384x2816_S1024x2816_S16384x1024_1_1_0_0_n_n none (extf (F := Ideal) .f32 u bitsLt_bf16_f32)
        (extf (F := Ideal) .f32 w1 bitsLt_bf16_f32)) : S16384x1024.Idx → EReal) (ix2 p q)
      = ∑ j : Fin 2816, (u (ix2 p j) * w1 (ix2 q j) + v (ix2 p j) * w3 (ix2 q j)) := by
  rw [Finset.sum_add_distrib, add_comm]
  pointwise []

end Cert.Reference4Ideal.Product

end
-- ==== Proof.Mid.lean ====
/-
The forward pass of the middle of the feed-forward layer, over the extended reals: block by block the kernel computes the two projections
and their gated product, and the blocks make up the reference's three arrays.
-/
module

public import proofs.«01_k».proof.Proof.Sums
public import proofs.«01_k».proof.Proof.Gen.Kernel6Ideal.Value
public import proofs.«01_k».proof.Proof.Gen.Reference6Ideal.Run

@[expose] public section

set_option maxRecDepth 16384
set_option Elab.async false

noncomputable section

namespace Cert.Kernel6Ideal.Mid

open Cert.Kernel6Ideal Cert.Kernel6Ideal.Gen Cert.Kernel6Ideal.Value Cert.Ffn
open Idealize.ShloMosaic Idealize.ShloMosaic.TcCoe Idealize.ShloMosaic.Tactic
open Idealize.ShloMosaic.Pipeline (Dat)

/-- Both offsets are zero. -/
theorem hz : (![0, 0] : Fin 2 → Nat) = fun _ => 0 := funext fun a => by fin_cases a <;> rfl

/-- A row of the input times a column of weights. -/
def proj (h : S16384x1024.Idx → EReal) (w : S1024x2816.Idx → EReal) (i : Fin 16384) (j : Fin 2816) : EReal :=
  ∑ k : Fin 1024, h (ix2 i k) * w (ix2 k j)

/-- A projection, gated by the other. -/
def gated (u v : EReal) : EReal := u * Ideal.logistic u * v

/-- The two projections and their gated product, as arrays. -/
def projs (h : S16384x1024.Idx → EReal) (w : S1024x2816.Idx → EReal) : S16384x2816.Idx → EReal := fun i => proj h w (i 0) (i 1)
def gates (h : S16384x1024.Idx → EReal) (w1 w3 : S1024x2816.Idx → EReal) : S16384x2816.Idx → EReal :=
  fun i => gated (proj h w1 (i 0) (i 1)) (proj h w3 (i 0) (i 1))

section block
variable (x : S2048x1024.Idx → EReal) (y z : S1024x256.Idx → EReal) (p : Fin 2048) (q : Fin 256)

/-- A block of the gated product, at an index. -/
theorem out3_at : out0_3 (F := Ideal) x y z (ix2 p q)
    = gated (∑ k : Fin 1024, x (ix2 p k) * y (ix2 k q)) (∑ k : Fin 1024, x (ix2 p k) * z (ix2 k q)) := by
  unfold out0_3
  rw [View.canon_unit_zero hz]
  simp only [View.ld_unit_zero (S := S2048x1024) hz, View.ld_unit_zero (S := S1024x256) hz]
  pointwise [k0_pay3, k0_pay1, k0_pay2]
  rfl

/-- A block of the first projection, at an index. -/
theorem out4_at : out0_4 (F := Ideal) x y z (ix2 p q) = ∑ k : Fin 1024, x (ix2 p k) * y (ix2 k q) := by
  unfold out0_4
  rw [View.canon_unit_zero hz]
  simp only [View.ld_unit_zero (S := S2048x1024) hz, View.ld_unit_zero (S := S1024x256) hz]
  pointwise [k0_pay4, k0_pay1]

/-- A block of the second projection, at an index. -/
theorem out5_at : out0_5 (F := Ideal) x y z (ix2 p q) = ∑ k : Fin 1024, x (ix2 p k) * z (ix2 k q) := by
  unfold out0_5
  rw [View.canon_unit_zero hz]
  simp only [View.ld_unit_zero (S := S2048x1024) hz, View.ld_unit_zero (S := S1024x256) hz]
  pointwise [k0_pay5, k0_pay2]

end block

/-- Which blocks each step takes and writes. -/
theorem index_val : ∀ t : Fin grid0.N, (win0_0.index t (0 : Fin 2) = t.val / 11 ∧ win0_0.index t (1 : Fin 2) = 0)
    ∧ (win0_1.index t (0 : Fin 2) = 0 ∧ win0_1.index t (1 : Fin 2) = t.val % 11)
    ∧ (win0_2.index t (0 : Fin 2) = 0 ∧ win0_2.index t (1 : Fin 2) = t.val % 11)
    ∧ (win0_3.index t (0 : Fin 2) = t.val / 11 ∧ win0_3.index t (1 : Fin 2) = t.val % 11)
    ∧ (win0_4.index t (0 : Fin 2) = t.val / 11 ∧ win0_4.index t (1 : Fin 2) = t.val % 11)
    ∧ (win0_5.index t (0 : Fin 2) = t.val / 11 ∧ win0_5.index t (1 : Fin 2) = t.val % 11) := by decide +kernel

/-- The row and the column, in the whole arrays, of a place in a step's block. -/
def rowAt (t : Fin cfg0.N) (p : Fin 2048) : Fin 16384 :=
  ⟨2048 * (t.val / 11) + p.val, by have := lt_of_lt_of_eq t.isLt (show cfg0.N = 88 from N_0); omega⟩
def colAt (t : Fin cfg0.N) (q : Fin 256) : Fin 2816 := ⟨256 * (t.val % 11) + q.val, by omega⟩

variable (m : (ℓ : Loc nD τ sig) → Buf (Elt Ideal) ℓ) (c : Dev nD)

/-- The three arguments on a device. -/
abbrev argH : S16384x1024.Idx → EReal := m ((c.tc : Thread nD τ).loc main_arg0)
abbrev argW1 : S1024x2816.Idx → EReal := m ((c.tc : Thread nD τ).loc main_arg1)
abbrev argW3 : S1024x2816.Idx → EReal := m ((c.tc : Thread nD τ).loc main_arg2)

/-- The block of the input, read at an index. -/
theorem blk0 (t : Fin cfg0.N) (p : Fin 2048) (k : Fin 1024) : iblk m c 0 t (ix2 p k) = argH m c (ix2 (rowAt t p) k) := by
  refine congrArg (argH m c) (pair_ext _ _ _ ?_ ?_)
  · refine ((cfg0.win 0).rect_emb_val t (ix2 p k) 0).trans ?_
    show win0_0.index t (0 : Fin 2) * 2048 + p.val = 2048 * (t.val / 11) + p.val
    rw [(index_val t).1.1, Nat.mul_comm]
  · refine ((cfg0.win 0).rect_emb_val t (ix2 p k) 1).trans ?_
    show win0_0.index t (1 : Fin 2) * 1024 + k.val = k.val
    rw [(index_val t).1.2, Nat.zero_mul, Nat.zero_add]

/-- The block of the first weights, read at an index. -/
theorem blk1 (t : Fin cfg0.N) (k : Fin 1024) (q : Fin 256) : iblk m c 1 t (ix2 k q) = argW1 m c (ix2 k (colAt t q)) := by
  refine congrArg (argW1 m c) (pair_ext _ _ _ ?_ ?_)
  · refine ((cfg0.win 1).rect_emb_val t (ix2 k q) 0).trans ?_
    show win0_1.index t (0 : Fin 2) * 1024 + k.val = k.val
    rw [(index_val t).2.1.1, Nat.zero_mul, Nat.zero_add]
  · refine ((cfg0.win 1).rect_emb_val t (ix2 k q) 1).trans ?_
    show win0_1.index t (1 : Fin 2) * 256 + q.val = 256 * (t.val % 11) + q.val
    rw [(index_val t).2.1.2, Nat.mul_comm]

/-- The block of the second weights, read at an index. -/
theorem blk2 (t : Fin cfg0.N) (k : Fin 1024) (q : Fin 256) : iblk m c 2 t (ix2 k q) = argW3 m c (ix2 k (colAt t q)) := by
  refine congrArg (argW3 m c) (pair_ext _ _ _ ?_ ?_)
  · refine ((cfg0.win 2).rect_emb_val t (ix2 k q) 0).trans ?_
    show win0_2.index t (0 : Fin 2) * 1024 + k.val = k.val
    rw [(index_val t).2.2.1.1, Nat.zero_mul, Nat.zero_add]
  · refine ((cfg0.win 2).rect_emb_val t (ix2 k q) 1).trans ?_
    show win0_2.index t (1 : Fin 2) * 256 + q.val = 256 * (t.val % 11) + q.val
    rw [(index_val t).2.2.1.2, Nat.mul_comm]

/-- An array read through the block a step writes. -/
theorem read3 (t : Fin cfg0.N) (f : S16384x2816.Idx → EReal) (p : Fin 2048) (q : Fin 256) :
    (show EReal from ((cfg0.win 3).blk t).view.read (Elt Ideal) (show Buf (Elt Ideal) ((c : Thread nD τ).loc main_v0_0) from f) (ix2 p q))
      = f (ix2 (rowAt t p) (colAt t q)) := by
  refine congrArg f (pair_ext _ _ _ ?_ ?_)
  · refine ((cfg0.win 3).rect_emb_val t (ix2 p q) 0).trans ?_
    show win0_3.index t (0 : Fin 2) * 2048 + p.val = 2048 * (t.val / 11) + p.val
    rw [(index_val t).2.2.2.1.1, Nat.mul_comm]
  · refine ((cfg0.win 3).rect_emb_val t (ix2 p q) 1).trans ?_
    show win0_3.index t (1 : Fin 2) * 256 + q.val = 256 * (t.val % 11) + q.val
    rw [(index_val t).2.2.2.1.2, Nat.mul_comm]
theorem read4 (t : Fin cfg0.N) (f : S16384x2816.Idx → EReal) (p : Fin 2048) (q : Fin 256) :
    (show EReal from ((cfg0.win 4).blk t).view.read (Elt Ideal) (show Buf (Elt Ideal) ((c : Thread nD τ).loc main_v0_1) from f) (ix2 p q))
      = f (ix2 (rowAt t p) (colAt t q)) := by
  refine congrArg f (pair_ext _ _ _ ?_ ?_)
  · refine ((cfg0.win 4).rect_emb_val t (ix2 p q) 0).trans ?_
    show win0_4.index t (0 : Fin 2) * 2048 + p.val = 2048 * (t.val / 11) + p.val
    rw [(index_val t).2.2.2.2.1.1, Nat.mul_comm]
  · refine ((cfg0.win 4).rect_emb_val t (ix2 p q) 1).trans ?_
    show win0_4.index t (1 : Fin 2) * 256 + q.val = 256 * (t.val % 11) + q.val
    rw [(index_val t).2.2.2.2.1.2, Nat.mul_comm]
theorem read5 (t : Fin cfg0.N) (f : S16384x2816.Idx → EReal) (p : Fin 2048) (q : Fin 256) :
    (show EReal from ((cfg0.win 5).blk t).view.read (Elt Ideal) (show Buf (Elt Ideal) ((c : Thread nD τ).loc main_v0_2) from f) (ix2 p q))
      = f (ix2 (rowAt t p) (colAt t q)) := by
  refine congrArg f (pair_ext _ _ _ ?_ ?_)
  · refine ((cfg0.win 5).rect_emb_val t (ix2 p q) 0).trans ?_
    show win0_5.index t (0 : Fin 2) * 2048 + p.val = 2048 * (t.val / 11) + p.val
    rw [(index_val t).2.2.2.2.2.1, Nat.mul_comm]
  · refine ((cfg0.win 5).rect_emb_val t (ix2 p q) 1).trans ?_
    show win0_5.index t (1 : Fin 2) * 256 + q.val = 256 * (t.val % 11) + q.val
    rw [(index_val t).2.2.2.2.2.2, Nat.mul_comm]

/-- The step whose block holds an index. -/
def stepOf (i : S16384x2816.Idx) : Fin grid0.N :=
  ⟨11 * ((i 0).val / 2048) + (i 1).val / 256, by
    have h0 : (i 0).val < 16384 := (i 0).isLt
    have h1 : (i 1).val < 2816 := (i 1).isLt
    have hN : grid0.N = 88 := N_0
    omega⟩

/-- That step's block, in rows and in columns. -/
theorem stepOf_val (i : S16384x2816.Idx) : (stepOf i).val / 11 = (i 0).val / 2048 ∧ (stepOf i).val % 11 = (i 1).val / 256 := by
  have h1 : (i 1).val < 2816 := (i 1).isLt
  show (11 * ((i 0).val / 2048) + (i 1).val / 256) / 11 = _ ∧ (11 * ((i 0).val / 2048) + (i 1).val / 256) % 11 = _
  omega

/-- Every index is in a written block. -/
theorem cover3 (i : S16384x2816.Idx) : ∃ t : Fin cfg0.N, (cfg0.win 3).flush t = true ∧ i ∈ ((cfg0.win 3).blk t).view.set := by
  refine ⟨stepOf i, flush0_3 _, ?_⟩
  show i ∈ ((View.whole main_v0_0).slice (win0_3.rect (stepOf i))).set
  rw [View.set_slice_whole, Rect.mem_set_unit]
  intro a
  have hv := stepOf_val i
  have hx := (index_val (stepOf i)).2.2.2.1
  match a with
  | ⟨0, _⟩ =>
    show win0_3.index (stepOf i) (0 : Fin 2) * 2048 ≤ (i 0).val ∧ (i 0).val < win0_3.index (stepOf i) (0 : Fin 2) * 2048 + 2048
    rw [hx.1, hv.1]; omega
  | ⟨1, _⟩ =>
    show win0_3.index (stepOf i) (1 : Fin 2) * 256 ≤ (i 1).val ∧ (i 1).val < win0_3.index (stepOf i) (1 : Fin 2) * 256 + 256
    rw [hx.2, hv.2]; omega
theorem cover4 (i : S16384x2816.Idx) : ∃ t : Fin cfg0.N, (cfg0.win 4).flush t = true ∧ i ∈ ((cfg0.win 4).blk t).view.set := by
  refine ⟨stepOf i, flush0_4 _, ?_⟩
  show i ∈ ((View.whole main_v0_1).slice (win0_4.rect (stepOf i))).set
  rw [View.set_slice_whole, Rect.mem_set_unit]
  intro a
  have hv := stepOf_val i
  have hx := (index_val (stepOf i)).2.2.2.2.1
  match a with
  | ⟨0, _⟩ =>
    show win0_4.index (stepOf i) (0 : Fin 2) * 2048 ≤ (i 0).val ∧ (i 0).val < win0_4.index (stepOf i) (0 : Fin 2) * 2048 + 2048
    rw [hx.1, hv.1]; omega
  | ⟨1, _⟩ =>
    show win0_4.index (stepOf i) (1 : Fin 2) * 256 ≤ (i 1).val ∧ (i 1).val < win0_4.index (stepOf i) (1 : Fin 2) * 256 + 256
    rw [hx.2, hv.2]; omega
theorem cover5 (i : S16384x2816.Idx) : ∃ t : Fin cfg0.N, (cfg0.win 5).flush t = true ∧ i ∈ ((cfg0.win 5).blk t).view.set := by
  refine ⟨stepOf i, flush0_5 _, ?_⟩
  show i ∈ ((View.whole main_v0_2).slice (win0_5.rect (stepOf i))).set
  rw [View.set_slice_whole, Rect.mem_set_unit]
  intro a
  have hv := stepOf_val i
  have hx := (index_val (stepOf i)).2.2.2.2.2
  match a with
  | ⟨0, _⟩ =>
    show win0_5.index (stepOf i) (0 : Fin 2) * 2048 ≤ (i 0).val ∧ (i 0).val < win0_5.index (stepOf i) (0 : Fin 2) * 2048 + 2048
    rw [hx.1, hv.1]; omega
  | ⟨1, _⟩ =>
    show win0_5.index (stepOf i) (1 : Fin 2) * 256 ≤ (i 1).val ∧ (i 1).val < win0_5.index (stepOf i) (1 : Fin 2) * 256 + 256
    rw [hx.2, hv.2]; omega

/-- The gated product the kernel leaves. -/
theorem final3 : (dats m 0 c).arrAt 3 cfg0.N = gates (argH m c) (argW1 m c) (argW3 m c) := by
  refine (dats m 0 c).arrAt_eq_of_cover 3 (gates (argH m c) (argW1 m c) (argW3 m c)) (fun t _ => ?_) cover3
  rw [flushed3]
  funext y
  obtain ⟨p, q, rfl⟩ : ∃ (p : Fin 2048) (q : Fin 256), y = ix2 p q := ⟨y 0, y 1, pair_ext _ _ _ rfl rfl⟩
  refine Eq.trans ?_ (read3 c t _ p q).symm
  refine (out3_at _ _ _ p q).trans ?_
  simp only [blk0, blk1, blk2]
  rfl

/-- The first projection the kernel leaves. -/
theorem final4 : (dats m 0 c).arrAt 4 cfg0.N = projs (argH m c) (argW1 m c) := by
  refine (dats m 0 c).arrAt_eq_of_cover 4 (projs (argH m c) (argW1 m c)) (fun t _ => ?_) cover4
  rw [flushed4]
  funext y
  obtain ⟨p, q, rfl⟩ : ∃ (p : Fin 2048) (q : Fin 256), y = ix2 p q := ⟨y 0, y 1, pair_ext _ _ _ rfl rfl⟩
  refine Eq.trans ?_ (read4 c t _ p q).symm
  refine (out4_at _ _ _ p q).trans ?_
  simp only [blk0, blk1]
  rfl

/-- The second projection the kernel leaves. -/
theorem final5 : (dats m 0 c).arrAt 5 cfg0.N = projs (argH m c) (argW3 m c) := by
  refine (dats m 0 c).arrAt_eq_of_cover 5 (projs (argH m c) (argW3 m c)) (fun t _ => ?_) cover5
  rw [flushed5]
  funext y
  obtain ⟨p, q, rfl⟩ : ∃ (p : Fin 2048) (q : Fin 256), y = ix2 p q := ⟨y 0, y 1, pair_ext _ _ _ rfl rfl⟩
  refine Eq.trans ?_ (read5 c t _ p q).symm
  refine (out5_at _ _ _ p q).trans ?_
  simp only [blk0, blk2]
  rfl

end Cert.Kernel6Ideal.Mid

namespace Cert.Reference6Ideal.Mid

open Cert.Reference6Ideal Cert.Reference6Ideal.Gen Cert.Kernel6Ideal.Mid
open Idealize.ShloMosaic Idealize.ShloMosaic.TcCoe Idealize.ShloMosaic.Tactic

/-- The reference's projection. -/
def dot (h : FVec Ideal S16384x1024 .bf16) (w : FVec Ideal S1024x2816 .bf16) : FVec Ideal S16384x2816 .f32 :=
  Host.dotGeneral dot_S16384x1024_S1024x2816_S16384x2816_1_0_0_1_n_n none (extf .f32 h bitsLt_bf16_f32) (extf .f32 w bitsLt_bf16_f32)

/-- It is a row times a column. -/
theorem dot_at (h : S16384x1024.Idx → EReal) (w : S1024x2816.Idx → EReal) (i : Fin 16384) (j : Fin 2816) :
    dot h w (ix2 i j) = proj h w i j := by
  pointwise [dot]
  rfl

/-- The reference's gated product. -/
def gate (u v : FVec Ideal S16384x2816 .f32) : FVec Ideal S16384x2816 .f32 :=
  mulf (mulf u (Host.divf (broadcastInDim S16384x2816 ![] bcast_S_S16384x2816 (constant S_ .f32 0x3F800000#32))
    (addf (broadcastInDim S16384x2816 ![] bcast_S_S16384x2816 (constant S_ .f32 0x3F800000#32)) (Host.exp (Host.negf u))))) v

/-- It is the same gate. -/
theorem gate_at (u v : S16384x2816.Idx → EReal) (k : S16384x2816.Idx) : gate u v k = gated (u k) (v k) := by
  pointwise [gate]
  rfl

variable (m : (ℓ : Loc nD τ sig) → Buf (Elt Ideal) ℓ) (c : Dev nD)

/-- The reference's projection is the kernel's array. -/
theorem dot_eq (h : S16384x1024.Idx → EReal) (w : S1024x2816.Idx → EReal) : dot h w = projs h w := by
  funext y
  obtain ⟨p, q, rfl⟩ : ∃ (p : Fin 16384) (q : Fin 2816), y = ix2 p q := ⟨y 0, y 1, Cert.Ffn.pair_ext _ _ _ rfl rfl⟩
  exact dot_at h w p q

/-- The reference's gated product is the kernel's array. -/
theorem gate_eq (h : S16384x1024.Idx → EReal) (w1 w3 : S1024x2816.Idx → EReal) : gate (dot h w1) (dot h w3) = gates h w1 w3 := by
  funext y
  rw [gate_at, dot_eq, dot_eq]
  rfl

end Cert.Reference6Ideal.Mid

end
-- ==== Proof.Out.lean ====
/-
The layer's last product with its gated residual, over the extended reals: the kernel's sum over the two runs of columns is the whole
product, and the step that writes it out adds half the gate times it to the residual, as the reference does.
-/
module

public import proofs.«01_k».proof.Proof.Sums
public import proofs.«01_k».proof.Proof.Gen.Kernel7Ideal.Value
public import proofs.«01_k».proof.Proof.Gen.Reference7Ideal.Run

@[expose] public section

set_option maxRecDepth 16384
set_option Elab.async false

noncomputable section

namespace Cert.Kernel7Ideal.Product

open Cert.Kernel7Ideal Cert.Kernel7Ideal.Gen Cert.Kernel7Ideal.Value Cert.Ffn
open Idealize.ShloMosaic Idealize.ShloMosaic.TcCoe Idealize.ShloMosaic.Tactic

/-- Both offsets are zero. -/
theorem hz : (![0, 0] : Fin 2 → Nat) = fun _ => 0 := funext fun a => by fin_cases a <;> rfl

section cases
variable {F : FTy → Type} [FloatOps F]
variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .f32) (h8 : a8.IsWhole)
  (x0 : Vec F S1024x1408 .bf16) (x1 : Vec F S1408x1024 .bf16) (x2 : Vec F S1024x1024 .f32) (x3 : Vec F S1x1024 .f32) (s : Vec F S1024x1024 .f32)

/-- The first step of a run leaves its product in the cleared accumulator. -/
theorem first_step (hc : cond0_0 i) (hd : ¬cond0_1 i) :
    sout0_A_0 c i a3 h3 a4 h4 a5 h5 a6 h6 a7 h7 a8 h8 hc hd x0 x1 x2 x3 = k0_pay2 k0_pay1 x0 x1 := by
  unfold sout0_A_0
  rw [View.read_writes_eq_canon _ _ _ (scover0_A_0 c i a3 h3 a4 h4 a5 h5 a6 h6 a7 h7 a8 h8 hc hd x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1408) hz, View.ld_unit_zero (S := S1408x1024) hz, shapeCast_self]

/-- The last step of a run adds its product to the accumulator. -/
theorem last_step (hc : ¬cond0_0 i) (hd : cond0_1 i) :
    sout0_B_0 c i a3 h3 a4 h4 a5 h5 a6 h6 a7 h7 a8 h8 hc hd x0 x1 x2 x3 s = k0_pay2 s x0 x1 := by
  unfold sout0_B_0
  rw [View.read_writes_eq_canon _ _ _ (scover0_B_0 c i a3 h3 a4 h4 a5 h5 a6 h6 a7 h7 a8 h8 hc hd x0 x1 x2 x3 s)]
  unfold kernelRun0_B
  dsimp only
  sl_unfold_words
  rw [View.canon_unit_zero hz]
  simp only [View.readAt_eq_ld, h3.read_unread, h4.read_unread, h8.read_unread,
    View.ld_unit_zero (S := S1024x1408) hz, View.ld_unit_zero (S := S1408x1024) hz, View.ld_unit_zero (S := S1024x1024) hz, shapeCast_self]

/-- The last step also writes out the residual plus the gated accumulator. -/
theorem last_out (hc : ¬cond0_0 i) (hd : cond0_1 i) :
    out0_B_4 c i a3 h3 a4 h4 a5 h5 a6 h6 a7 h7 a8 h8 hc hd x0 x1 x2 x3 s = k0_pay3 (k0_pay2 s x0 x1) x2 x3 := by
  unfold out0_B_4
  rw [View.read_writes_eq_canon _ _ _ (cover0_B_4 c i a3 h3 a4 h4 a5 h5 a6 h6 a7 h7 a8 h8 hc hd x0 x1 x2 x3 s)]
  unfold kernelRun0_B
  dsimp only
  sl_unfold_words
  rw [View.canon_unit_zero hz, View.readCov_unit_zero (S := S1024x1024) _ hz]
  simp only [View.readAt_eq_ld, h3.read_unread, h4.read_unread, h5.read_unread, h6.read_unread, h8.read_unread,
    View.ld_unit_zero (S := S1024x1408) hz, View.ld_unit_zero (S := S1408x1024) hz, View.ld_unit_zero (S := S1024x1024) hz,
    View.ld_unit_zero (S := S1x1024) hz, shapeCast_self]

end cases

/-- What one step makes of the accumulator, at an index. -/
theorem step_at (s : S1024x1024.Idx → EReal) (x0 : S1024x1408.Idx → EReal) (x1 : S1408x1024.Idx → EReal) (p q : Fin 1024) :
    k0_pay2 (F := Ideal) s x0 x1 (ix2 p q) = s (ix2 p q) + ∑ r : Fin 1408, x0 (ix2 p r) * x1 (ix2 r q) := by
  pointwise [k0_pay2]

/-- The cleared accumulator. -/
theorem cleared_at (p q : Fin 1024) : k0_pay1 (F := Ideal) (ix2 p q) = 0 := by
  pointwise [k0_pay1]

/-- A residual and half a gate times a product. -/
def joined (x g a : EReal) : EReal := x + Ideal.ofBits .f32 0x3F000000#32 * g * a

/-- What is written out, at an index. -/
theorem out_at (s x : S1024x1024.Idx → EReal) (g : S1x1024.Idx → EReal) (p q : Fin 1024) :
    k0_pay3 (F := Ideal) s x g (ix2 p q) = joined (x (ix2 p q)) (g (ix2 0 q)) (s (ix2 p q)) := by
  pointwise [k0_pay3, joined]

/-- Which blocks each step takes. -/
theorem index_val : ∀ t : Fin grid0.N, (win0_0.index t (0 : Fin 2) = t.val / 2 ∧ win0_0.index t (1 : Fin 2) = t.val % 2)
    ∧ (win0_1.index t (0 : Fin 2) = t.val % 2 ∧ win0_1.index t (1 : Fin 2) = 0)
    ∧ (win0_2.index t (0 : Fin 2) = t.val / 2 ∧ win0_2.index t (1 : Fin 2) = 0)
    ∧ (win0_3.index t (0 : Fin 2) = 0 ∧ win0_3.index t (1 : Fin 2) = 0) := by decide +kernel

variable (m : (ℓ : Loc nD τ sig) → Buf (Elt Ideal) ℓ) (c : Dev nD)

/-- The four arguments on a device. -/
abbrev argA : S16384x2816.Idx → EReal := m ((c.tc : Thread nD τ).loc main_arg0)
abbrev argW : S2816x1024.Idx → EReal := m ((c.tc : Thread nD τ).loc main_arg1)
abbrev argX : S16384x1024.Idx → EReal := m ((c.tc : Thread nD τ).loc main_arg2)
abbrev argG : S1x1024.Idx → EReal := m ((c.tc : Thread nD τ).loc main_arg3)

/-- The row, in the whole arrays, of a place in a step's block. -/
def rowAt (t : Fin cfg0.N) (p : Fin 1024) : Fin 16384 :=
  ⟨1024 * (t.val / 2) + p.val, by have := lt_of_lt_of_eq t.isLt (show cfg0.N = 32 from N_0); omega⟩

/-- The block of the gated product, read at an index. -/
theorem blk0 (t : Fin cfg0.N) (p : Fin 1024) (r : Fin 1408) : iblk m c 0 t (ix2 p r)
    = argA m c (ix2 (rowAt t p) ⟨1408 * (t.val % 2) + r.val, by omega⟩) := by
  refine congrArg (argA m c) (pair_ext _ _ _ ?_ ?_)
  · refine ((cfg0.win 0).rect_emb_val t (ix2 p r) 0).trans ?_
    show win0_0.index t (0 : Fin 2) * 1024 + p.val = 1024 * (t.val / 2) + p.val
    rw [(index_val t).1.1, Nat.mul_comm]
  · refine ((cfg0.win 0).rect_emb_val t (ix2 p r) 1).trans ?_
    show win0_0.index t (1 : Fin 2) * 1408 + r.val = 1408 * (t.val % 2) + r.val
    rw [(index_val t).1.2, Nat.mul_comm]

/-- The block of the weights, read at an index. -/
theorem blk1 (t : Fin cfg0.N) (r : Fin 1408) (q : Fin 1024) : iblk m c 1 t (ix2 r q)
    = argW m c (ix2 ⟨1408 * (t.val % 2) + r.val, by omega⟩ q) := by
  refine congrArg (argW m c) (pair_ext _ _ _ ?_ ?_)
  · refine ((cfg0.win 1).rect_emb_val t (ix2 r q) 0).trans ?_
    show win0_1.index t (0 : Fin 2) * 1408 + r.val = 1408 * (t.val % 2) + r.val
    rw [(index_val t).2.1.1, Nat.mul_comm]
  · refine ((cfg0.win 1).rect_emb_val t (ix2 r q) 1).trans ?_
    show win0_1.index t (1 : Fin 2) * 1024 + q.val = q.val
    rw [(index_val t).2.1.2, Nat.zero_mul, Nat.zero_add]

/-- The block of the residual, read at an index. -/
theorem blk2 (t : Fin cfg0.N) (p q : Fin 1024) : iblk m c 2 t (ix2 p q) = argX m c (ix2 (rowAt t p) q) := by
  refine congrArg (argX m c) (pair_ext _ _ _ ?_ ?_)
  · refine ((cfg0.win 2).rect_emb_val t (ix2 p q) 0).trans ?_
    show win0_2.index t (0 : Fin 2) * 1024 + p.val = 1024 * (t.val / 2) + p.val
    rw [(index_val t).2.2.1.1, Nat.mul_comm]
  · refine ((cfg0.win 2).rect_emb_val t (ix2 p q) 1).trans ?_
    show win0_2.index t (1 : Fin 2) * 1024 + q.val = q.val
    rw [(index_val t).2.2.1.2, Nat.zero_mul, Nat.zero_add]

/-- The block of the gate, read at an index. -/
theorem blk3 (t : Fin cfg0.N) (q : Fin 1024) : iblk m c 3 t (ix2 0 q) = argG m c (ix2 0 q) := by
  refine congrArg (argG m c) (pair_ext _ _ _ ?_ ?_)
  · refine ((cfg0.win 3).rect_emb_val t (ix2 0 q) 0).trans ?_
    show win0_3.index t (0 : Fin 2) * 1 + 0 = 0
    rw [(index_val t).2.2.2.1]
  · refine ((cfg0.win 3).rect_emb_val t (ix2 0 q) 1).trans ?_
    show win0_3.index t (1 : Fin 2) * 1024 + q.val = q.val
    rw [(index_val t).2.2.2.2, Nat.zero_mul, Nat.zero_add]

/-- The products whose sum is the entry at row `p` of row block `b` and column `q`. -/
def terms (p q : Fin 1024) (b : ℕ) (j : Fin 2816) : EReal :=
  argA m c (ix2 ⟨(1024 * b + p.val) % 16384, Nat.mod_lt _ (by omega)⟩ j) * argW m c (ix2 j q)

/-- One step's share of the sum. -/
theorem share (t : Fin cfg0.N) (s : S1024x1024.Idx → EReal) (p q : Fin 1024) :
    k0_pay2 (F := Ideal) s (iblk m c 0 t) (iblk m c 1 t) (ix2 p q)
      = s (ix2 p q) + ∑ r : Fin 1408, terms m c p q (t.val / 2) ⟨1408 * (t.val % 2) + r.val, by omega⟩ := by
  refine (step_at s _ _ p q).trans (congrArg _ (Finset.sum_congr rfl fun r _ => ?_))
  rw [blk0, blk1]
  unfold terms
  refine congrArg (fun k => argA m c (ix2 k _) * _) (Fin.ext ?_)
  have := lt_of_lt_of_eq t.isLt (show cfg0.N = 32 from N_0)
  show 1024 * (t.val / 2) + p.val = (1024 * (t.val / 2) + p.val) % 16384
  omega

/-- What the accumulator holds after each step. -/
theorem held (p q : Fin 1024) (n : ℕ) (h : n < cfg0.N) :
    (show EReal from (outsAt0 m c n h).2 (ix2 p q)) = below (terms m c p q (n / 2)) (1408 * (n % 2) + 1408) := by
  refine accumulated (L := 2) (R := 1408) (by omega) (by omega) (terms m c p q) (fun n h => (outsAt0 m c n h).2 (ix2 p q)) (fun n r => by omega)
    (fun n h h0 => ?_) (fun n h h0 => ?_) n h
  · rw [outsAt0_A m c ⟨n, h⟩ h0 (by dsimp only; omega), first_step]
    exact (share m c ⟨n, h⟩ _ p q).trans (congrArg (· + _) (cleared_at p q))
  · rw [outsAt0_B m c ⟨n, h⟩ h0 (by dsimp only; omega), last_step]
    exact share m c ⟨n, h⟩ _ p q

/-- The kernel's result at an index: the residual and half the gate times the product, summed over all columns. -/
theorem result_at (p : Fin 16384) (q : Fin 1024) : (show EReal from G4 m c (ix2 p q))
    = joined (argX m c (ix2 p q)) (argG m c (ix2 0 q)) (∑ j : Fin 2816, argA m c (ix2 p j) * argW m c (ix2 j q)) := by
  have hp := p.isLt
  have hq := q.isLt
  have hr : run4Of (ix2 p q) = p.val / 1024 := by
    show 1 * (p.val / 1024 - 0) + 1 * (q.val / 1024 - 0) = p.val / 1024
    omega
  have hN : cfg0.N = 32 := N_0
  have hpt : pt4Of (ix2 p q) < cfg0.N := by
    show 2 * run4Of (ix2 p q) + 1 < cfg0.N
    rw [hr, hN]; omega
  have hmod : pt4Of (ix2 p q) % 2 = 1 := by
    show (2 * run4Of (ix2 p q) + 1) % 2 = 1
    omega
  have hdiv : pt4Of (ix2 p q) / 2 = p.val / 1024 := by
    show (2 * run4Of (ix2 p q) + 1) / 2 = p.val / 1024
    rw [hr]; omega
  have hloc : loc4Of (ix2 p q) = ix2 ⟨p.val % 1024, Nat.mod_lt _ (by omega)⟩ q := pair_ext _ _ _ rfl (Nat.mod_eq_of_lt hq)
  have hrow : rowAt ⟨pt4Of (ix2 p q), hpt⟩ ⟨p.val % 1024, Nat.mod_lt _ (by omega)⟩ = p := Fin.ext (by
    show 1024 * (pt4Of (ix2 p q) / 2) + p.val % 1024 = p.val
    rw [hdiv]; omega)
  unfold G4
  rw [dif_pos hpt, ← outsAt0_sweep m c _ hpt, hloc]
  have hh := held m c ⟨p.val % 1024, Nat.mod_lt _ (by omega)⟩ q _ hpt
  rw [outsAt0_B m c ⟨_, hpt⟩ (by dsimp only; omega) hmod] at hh ⊢
  rw [last_step] at hh
  rw [last_out]
  refine (out_at _ _ _ _ q).trans ?_
  rw [blk2, blk3, hrow]
  refine congrArg (joined _ _) (hh.trans ?_)
  rw [hmod, hdiv]
  refine (below_all _).trans (Finset.sum_congr rfl fun j _ => ?_)
  unfold terms
  refine congrArg (fun k => argA m c (ix2 k _) * _) (Fin.ext ?_)
  show (1024 * (p.val / 1024) + p.val % 1024) % 16384 = p.val
  omega

end Cert.Kernel7Ideal.Product

namespace Cert.Reference7Ideal.Product

open Cert.Reference7Ideal Cert.Reference7Ideal.Gen Cert.Kernel7Ideal.Product
open Idealize.ShloMosaic Idealize.ShloMosaic.TcCoe Idealize.ShloMosaic.Tactic

/-- The reference's result at an index: the same residual, gate and product. -/
theorem result_at (a : S16384x2816.Idx → EReal) (w : S2816x1024.Idx → EReal) (x : S16384x1024.Idx → EReal) (g : S1x1024.Idx → EReal)
    (p : Fin 16384) (q : Fin 1024) :
    (addf (φ := .f32) x (mulf (broadcastInDim S16384x1024 ![0, 1] bcast_S1x1024_S16384x1024_0_1
        (mulf (broadcastInDim S1x1024 ![] bcast_S_S1x1024 (constant (F := Ideal) S_ .f32 0x3F000000#32)) g))
      (Host.dotGeneral (F := Ideal) dot_S16384x2816_S2816x1024_S16384x1024_1_0_0_1_n_n none (extf (F := Ideal) .f32 a bitsLt_bf16_f32)
        (extf (F := Ideal) .f32 w bitsLt_bf16_f32))) : S16384x1024.Idx → EReal) (ix2 p q)
      = joined (x (ix2 p q)) (g (ix2 0 q)) (∑ j : Fin 2816, a (ix2 p j) * w (ix2 j q)) := by
  pointwise [joined]

end Cert.Reference7Ideal.Product

end
-- ==== Proof.SsdIn.lean ====
/-
The state-space mixer's input projection, over the extended reals: each step's block is a row block of the input times a column block of
the weights, and the blocks fill the array, which is the reference's product.
-/
module

public import proofs.«01_k».proof.Proof.Sums
public import proofs.«01_k».proof.Proof.Gen.Kernel8Ideal.Value
public import proofs.«01_k».proof.Proof.Gen.Reference8Ideal.Run

@[expose] public section

set_option maxRecDepth 16384
set_option Elab.async false

noncomputable section

namespace Cert.Kernel8Ideal.Product

open Cert.Kernel8Ideal Cert.Kernel8Ideal.Gen Cert.Kernel8Ideal.Value Cert.Ffn
open Idealize.ShloMosaic Idealize.ShloMosaic.TcCoe Idealize.ShloMosaic.Tactic
open Idealize.ShloMosaic.Pipeline (Dat)

/-- Both offsets are zero. -/
theorem hz : (![0, 0] : Fin 2 → Nat) = fun _ => 0 := funext fun a => by fin_cases a <;> rfl

section cases
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x y : Vec F S1024x1024 .bf16)

/-- Every step is first and last at once: it writes out its product, added to the cleared accumulator. -/
theorem only_out (hc : cond0_0 i) (hd : cond0_1 i) : out0_A_2 c i a3 h3 a4 h4 a5 h5 a6 h6 hc hd x y = k0_pay2 k0_pay1 x y := by
  unfold out0_A_2
  rw [View.read_writes_eq_canon _ _ _ (cover0_A_2 c i a3 h3 a4 h4 a5 h5 a6 h6 hc hd x y)]
  unfold kernelRun0_A
  dsimp only
  sl_unfold_words
  rw [View.canon_unit_zero hz, View.readCov_cons_toLoadRect, View.readCov_unit_zero (S := S1024x1024) _ hz]
  simp only [View.readAt_eq_ld, h3.read_unread, h4.read_unread, View.ld_unit_zero (S := S1024x1024) hz, shapeCast_self]

end cases

/-- What a step writes out, at an index. -/
theorem step_at (x y : S1024x1024.Idx → EReal) (p q : Fin 1024) :
    k0_pay2 (F := Ideal) (k0_pay1 (F := Ideal)) x y (ix2 p q) = ∑ r : Fin 1024, x (ix2 p r) * y (ix2 r q) := by
  pointwise [k0_pay2, k0_pay1]

/-- Which blocks each step takes and writes. -/
theorem index_val : ∀ t : Fin grid0.N, (win0_0.index t (0 : Fin 2) = t.val / 7 ∧ win0_0.index t (1 : Fin 2) = 0)
    ∧ (win0_1.index t (0 : Fin 2) = 0 ∧ win0_1.index t (1 : Fin 2) = t.val % 7)
    ∧ (win0_2.index t (0 : Fin 2) = t.val / 7 ∧ win0_2.index t (1 : Fin 2) = t.val % 7) := by decide +kernel

/-- The row and the column, in the whole arrays, of a place in a step's block. -/
def rowAt (t : Fin cfg0.N) (p : Fin 1024) : Fin 16384 :=
  ⟨1024 * (t.val / 7) + p.val, by have := lt_of_lt_of_eq t.isLt (show cfg0.N = 112 from N_0); omega⟩
def colAt (t : Fin cfg0.N) (q : Fin 1024) : Fin 7168 := ⟨1024 * (t.val % 7) + q.val, by omega⟩

variable (m : (ℓ : Loc nD τ sig) → Buf (Elt Ideal) ℓ) (c : Dev nD)

/-- The two arguments on a device. -/
abbrev argH : S16384x1024.Idx → EReal := m ((c.tc : Thread nD τ).loc main_arg0)
abbrev argW : S1024x7168.Idx → EReal := m ((c.tc : Thread nD τ).loc main_arg1)

/-- The product of an input and weights, as an array. -/
def product (h : S16384x1024.Idx → EReal) (w : S1024x7168.Idx → EReal) : S16384x7168.Idx → EReal :=
  fun i => ∑ k : Fin 1024, h (ix2 (i 0) k) * w (ix2 k (i 1))

/-- The block of the input, read at an index. -/
theorem blk0 (t : Fin cfg0.N) (p k : Fin 1024) : iblk m c 0 t (ix2 p k) = argH m c (ix2 (rowAt t p) k) := by
  refine congrArg (argH m c) (pair_ext _ _ _ ?_ ?_)
  · refine ((cfg0.win 0).rect_emb_val t (ix2 p k) 0).trans ?_
    show win0_0.index t (0 : Fin 2) * 1024 + p.val = 1024 * (t.val / 7) + p.val
    rw [(index_val t).1.1, Nat.mul_comm]
  · refine ((cfg0.win 0).rect_emb_val t (ix2 p k) 1).trans ?_
    show win0_0.index t (1 : Fin 2) * 1024 + k.val = k.val
    rw [(index_val t).1.2, Nat.zero_mul, Nat.zero_add]

/-- The block of the weights, read at an index. -/
theorem blk1 (t : Fin cfg0.N) (k q : Fin 1024) : iblk m c 1 t (ix2 k q) = argW m c (ix2 k (colAt t q)) := by
  refine congrArg (argW m c) (pair_ext _ _ _ ?_ ?_)
  · refine ((cfg0.win 1).rect_emb_val t (ix2 k q) 0).trans ?_
    show win0_1.index t (0 : Fin 2) * 1024 + k.val = k.val
    rw [(index_val t).2.1.1, Nat.zero_mul, Nat.zero_add]
  · refine ((cfg0.win 1).rect_emb_val t (ix2 k q) 1).trans ?_
    show win0_1.index t (1 : Fin 2) * 1024 + q.val = 1024 * (t.val % 7) + q.val
    rw [(index_val t).2.1.2, Nat.mul_comm]

/-- An array read through the block a step writes. -/
theorem read2 (t : Fin cfg0.N) (f : S16384x7168.Idx → EReal) (p q : Fin 1024) :
    (show EReal from ((cfg0.win 2).blk t).view.read (Elt Ideal) (show Buf (Elt Ideal) ((c : Thread nD τ).loc main_v0) from f) (ix2 p q))
      = f (ix2 (rowAt t p) (colAt t q)) := by
  refine congrArg f (pair_ext _ _ _ ?_ ?_)
  · refine ((cfg0.win 2).rect_emb_val t (ix2 p q) 0).trans ?_
    show win0_2.index t (0 : Fin 2) * 1024 + p.val = 1024 * (t.val / 7) + p.val
    rw [(index_val t).2.2.1, Nat.mul_comm]
  · refine ((cfg0.win 2).rect_emb_val t (ix2 p q) 1).trans ?_
    show win0_2.index t (1 : Fin 2) * 1024 + q.val = 1024 * (t.val % 7) + q.val
    rw [(index_val t).2.2.2, Nat.mul_comm]

/-- The step whose block holds an index. -/
def stepOf (i : S16384x7168.Idx) : Fin grid0.N :=
  ⟨7 * ((i 0).val / 1024) + (i 1).val / 1024, by
    have h0 : (i 0).val < 16384 := (i 0).isLt
    have h1 : (i 1).val < 7168 := (i 1).isLt
    have hN : grid0.N = 112 := N_0
    omega⟩

/-- That step's block, in rows and in columns. -/
theorem stepOf_val (i : S16384x7168.Idx) : (stepOf i).val / 7 = (i 0).val / 1024 ∧ (stepOf i).val % 7 = (i 1).val / 1024 := by
  have h1 : (i 1).val < 7168 := (i 1).isLt
  show (7 * ((i 0).val / 1024) + (i 1).val / 1024) / 7 = _ ∧ (7 * ((i 0).val / 1024) + (i 1).val / 1024) % 7 = _
  omega

/-- Every index is in a written block. -/
theorem cover2 (i : S16384x7168.Idx) : ∃ t : Fin cfg0.N, (cfg0.win 2).flush t = true ∧ i ∈ ((cfg0.win 2).blk t).view.set := by
  refine ⟨stepOf i, flush0_2 _, ?_⟩
  show i ∈ ((View.whole main_v0).slice (win0_2.rect (stepOf i))).set
  rw [View.set_slice_whole, Rect.mem_set_unit]
  intro a
  have hv := stepOf_val i
  have hx := (index_val (stepOf i)).2.2
  match a with
  | ⟨0, _⟩ =>
    show win0_2.index (stepOf i) (0 : Fin 2) * 1024 ≤ (i 0).val ∧ (i 0).val < win0_2.index (stepOf i) (0 : Fin 2) * 1024 + 1024
    rw [hx.1, hv.1]; omega
  | ⟨1, _⟩ =>
    show win0_2.index (stepOf i) (1 : Fin 2) * 1024 ≤ (i 1).val ∧ (i 1).val < win0_2.index (stepOf i) (1 : Fin 2) * 1024 + 1024
    rw [hx.2, hv.2]; omega

/-- The product the kernel leaves. -/
theorem final2 : (dats m 0 c).arrAt 2 cfg0.N = product (argH m c) (argW m c) := by
  refine (dats m 0 c).arrAt_eq_of_cover 2 (product (argH m c) (argW m c)) (fun t _ => ?_) cover2
  rw [flushed2_A, only_out]
  funext y
  obtain ⟨p, q, rfl⟩ : ∃ (p q : Fin 1024), y = ix2 p q := ⟨y 0, y 1, pair_ext _ _ _ rfl rfl⟩
  refine Eq.trans ?_ (read2 c t _ p q).symm
  refine (step_at _ _ p q).trans ?_
  simp only [blk0, blk1]
  rfl

end Cert.Kernel8Ideal.Product

namespace Cert.Reference8Ideal.Product

open Cert.Reference8Ideal Cert.Reference8Ideal.Gen Cert.Kernel8Ideal.Product
open Idealize.ShloMosaic Idealize.ShloMosaic.TcCoe Idealize.ShloMosaic.Tactic

/-- The reference's result is the same product. -/
theorem result_eq (x : S16384x1024.Idx → EReal) (y : S1024x7168.Idx → EReal) :
    (Host.dotGeneral (F := Ideal) dot_S16384x1024_S1024x7168_S16384x7168_1_0_0_1_n_n none (extf (F := Ideal) .f32 x bitsLt_bf16_f32)
        (extf (F := Ideal) .f32 y bitsLt_bf16_f32) : S16384x7168.Idx → EReal) = product x y := by
  funext i
  obtain ⟨p, q, rfl⟩ : ∃ (p : Fin 16384) (q : Fin 7168), i = ix2 p q := ⟨i 0, i 1, Cert.Ffn.pair_ext _ _ _ rfl rfl⟩
  pointwise [product]

end Cert.Reference8Ideal.Product

end
-- ==== Proof.SsdDw.lean ====
/-
The gradient of the state-space mixer's input projection, over the extended reals: the kernel's sum over runs of rows is the whole sum
over rows, which is the reference's.
-/
module

public import proofs.«01_k».proof.Proof.Sums
public import proofs.«01_k».proof.Proof.Gen.Kernel9Ideal.Value
public import proofs.«01_k».proof.Proof.Gen.Reference9Ideal.Run

@[expose] public section

set_option maxRecDepth 16384
set_option Elab.async false

noncomputable section

namespace Cert.Kernel9Ideal.Product

open Cert.Kernel9Ideal Cert.Kernel9Ideal.Gen Cert.Kernel9Ideal.Value Cert.Ffn
open Idealize.ShloMosaic Idealize.ShloMosaic.TcCoe Idealize.ShloMosaic.Tactic

/-- Both offsets are zero. -/
theorem hz : (![0, 0] : Fin 2 → Nat) = fun _ => 0 := funext fun a => by fin_cases a <;> rfl

section cases
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec F S1024x1024 .bf16) (y : Vec F S1024x1024 .bf16) (s : Vec F S1024x1024 .f32)

/-- The first step of a run leaves its product in the cleared accumulator. -/
theorem first_step (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, shapeCast_self]

/-- A later step adds its product to the accumulator. -/
theorem middle_step (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero hz]
  simp only [View.readAt_eq_ld, h3.read_unread, h4.read_unread, h6.read_unread, View.ld_unit_zero (S := S1024x1024) hz, shapeCast_self]

/-- So does the last step of a run. -/
theorem last_step (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero hz]
  simp only [View.readAt_eq_ld, h3.read_unread, h4.read_unread, h6.read_unread, View.ld_unit_zero (S := S1024x1024) hz, shapeCast_self]

/-- The last step also writes the accumulator out. -/
theorem last_out (hc : ¬cond0_0 i) (hd : cond0_1 i) :
    out0_C_2 c i a3 h3 a4 h4 a5 h5 a6 h6 hc hd x y s = k0_pay2 s x y := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, shapeCast_self]

end cases

/-- What one step makes of the accumulator, at an index. -/
theorem step_at (s : S1024x1024.Idx → EReal) (x y : S1024x1024.Idx → EReal) (p q : Fin 1024) :
    k0_pay2 (F := Ideal) s x y (ix2 p q) = s (ix2 p q) + ∑ r : Fin 1024, x (ix2 r p) * y (ix2 r q) := by
  pointwise [k0_pay2]

/-- The cleared accumulator. -/
theorem cleared_at (p q : Fin 1024) : k0_pay1 (F := Ideal) (ix2 p q) = 0 := by
  pointwise [k0_pay1]

/-- Which blocks each step takes. -/
theorem index_val : ∀ t : Fin grid0.N, win0_0.index t (0 : Fin 2) = t.val % 16 ∧ win0_0.index t (1 : Fin 2) = 0
    ∧ win0_1.index t (0 : Fin 2) = t.val % 16 ∧ win0_1.index t (1 : Fin 2) = t.val / 16 := by decide +kernel

variable (m : (ℓ : Loc nD τ sig) → Buf (Elt Ideal) ℓ) (c : Dev nD)

/-- The two arguments on a device. -/
abbrev argH : S16384x1024.Idx → EReal := m ((c.tc : Thread nD τ).loc main_arg0)
abbrev argD : S16384x7168.Idx → EReal := m ((c.tc : Thread nD τ).loc main_arg1)

/-- The block of the first argument, read at an index. -/
theorem blk0 (t : Fin cfg0.N) (r p : Fin 1024) : iblk m c 0 t (ix2 r p)
    = argH m c (ix2 ⟨1024 * (t.val % 16) + r.val, by omega⟩ p) := by
  refine congrArg (argH m c) (pair_ext _ _ _ ?_ ?_)
  · refine ((cfg0.win 0).rect_emb_val t (ix2 r p) 0).trans ?_
    show win0_0.index t (0 : Fin 2) * 1024 + r.val = 1024 * (t.val % 16) + r.val
    rw [(index_val t).1, Nat.mul_comm]
  · refine ((cfg0.win 0).rect_emb_val t (ix2 r p) 1).trans ?_
    show win0_0.index t (1 : Fin 2) * 1024 + p.val = p.val
    rw [(index_val t).2.1, Nat.zero_mul, Nat.zero_add]

/-- The block of the second argument, read at an index. -/
theorem blk1 (t : Fin cfg0.N) (r : Fin 1024) (q : Fin 1024) : iblk m c 1 t (ix2 r q)
    = argD m c (ix2 ⟨1024 * (t.val % 16) + r.val, by omega⟩
        ⟨1024 * (t.val / 16) + q.val, by have := lt_of_lt_of_eq t.isLt (show cfg0.N = 112 from N_0); omega⟩) := by
  refine congrArg (argD m c) (pair_ext _ _ _ ?_ ?_)
  · refine ((cfg0.win 1).rect_emb_val t (ix2 r q) 0).trans ?_
    show win0_1.index t (0 : Fin 2) * 1024 + r.val = 1024 * (t.val % 16) + r.val
    rw [(index_val t).2.2.1, Nat.mul_comm]
  · refine ((cfg0.win 1).rect_emb_val t (ix2 r q) 1).trans ?_
    show win0_1.index t (1 : Fin 2) * 1024 + q.val = 1024 * (t.val / 16) + q.val
    rw [(index_val t).2.2.2, Nat.mul_comm]

/-- The products whose sum is the entry at row `p` and column `q` of column block `b`. -/
def terms (p q : Fin 1024) (b : ℕ) (i : Fin 16384) : EReal :=
  argH m c (ix2 i p) * argD m c (ix2 i ⟨(1024 * b + q.val) % 7168, Nat.mod_lt _ (by omega)⟩)

/-- One step's share of the sum. -/
theorem share (t : Fin cfg0.N) (s : S1024x1024.Idx → EReal) (p q : Fin 1024) :
    k0_pay2 (F := Ideal) s (iblk m c 0 t) (iblk m c 1 t) (ix2 p q)
      = s (ix2 p q) + ∑ r : Fin 1024, terms m c p q (t.val / 16) ⟨1024 * (t.val % 16) + r.val, by omega⟩ := by
  refine (step_at s _ _ p q).trans (congrArg _ (Finset.sum_congr rfl fun r _ => ?_))
  rw [blk0, blk1]
  unfold terms
  refine congrArg (fun k => _ * argD m c (ix2 _ k)) (Fin.ext ?_)
  have := lt_of_lt_of_eq t.isLt (show cfg0.N = 112 from N_0)
  show 1024 * (t.val / 16) + q.val = (1024 * (t.val / 16) + q.val) % 7168
  omega

/-- What the accumulator holds after each step. -/
theorem held (p q : Fin 1024) (n : ℕ) (h : n < cfg0.N) :
    (show EReal from (outsAt0 m c n h).2 (ix2 p q)) = below (terms m c p q (n / 16)) (1024 * (n % 16) + 1024) := by
  refine accumulated (L := 16) (R := 1024) (by omega) (by omega) (terms m c p q) (fun n h => (outsAt0 m c n h).2 (ix2 p q)) (fun n r => by omega)
    (fun n h h0 => ?_) (fun n h h0 => ?_) n h
  · rw [outsAt0_A m c ⟨n, h⟩ h0 (by dsimp only; omega), first_step]
    exact (share m c ⟨n, h⟩ _ p q).trans (congrArg (· + _) (cleared_at p q))
  · by_cases h1 : n % 16 = 15
    · rw [outsAt0_C m c ⟨n, h⟩ h0 h1, last_step]
      exact share m c ⟨n, h⟩ _ p q
    · rw [outsAt0_B m c ⟨n, h⟩ h0 h1, middle_step]
      exact share m c ⟨n, h⟩ _ p q

/-- The kernel's result at an index: the sum over all rows. -/
theorem result_at (p : Fin 1024) (q : Fin 7168) : (show EReal from G2 m c (ix2 p q)) = ∑ i : Fin 16384, argH m c (ix2 i p) * argD m c (ix2 i q) := by
  have hp := p.isLt
  have hq := q.isLt
  have hr : run2Of (ix2 p q) = q.val / 1024 := by
    show 7 * (p.val / 1024 - 0) + 1 * (q.val / 1024 - 0) = q.val / 1024
    omega
  have hN : cfg0.N = 112 := N_0
  have hpt : pt2Of (ix2 p q) < cfg0.N := by
    show 16 * run2Of (ix2 p q) + 15 < cfg0.N
    rw [hr, hN]; omega
  have hmod : pt2Of (ix2 p q) % 16 = 15 := by
    show (16 * run2Of (ix2 p q) + 15) % 16 = 15
    omega
  have hdiv : pt2Of (ix2 p q) / 16 = q.val / 1024 := by
    show (16 * run2Of (ix2 p q) + 15) / 16 = q.val / 1024
    rw [hr]; omega
  have hloc : loc2Of (ix2 p q) = ix2 p ⟨q.val % 1024, Nat.mod_lt _ (by omega)⟩ := pair_ext _ _ _ (Nat.mod_eq_of_lt hp) rfl
  unfold G2
  rw [dif_pos hpt, ← outsAt0_sweep m c _ hpt, hloc]
  have hh := held m c p ⟨q.val % 1024, Nat.mod_lt _ (by omega)⟩ _ hpt
  rw [outsAt0_C m c ⟨_, hpt⟩ (by dsimp only; omega) hmod] at hh ⊢
  rw [last_step] at hh
  rw [last_out]
  refine hh.trans ?_
  rw [hmod, hdiv]
  refine (below_all _).trans (Finset.sum_congr rfl fun i _ => ?_)
  unfold terms
  refine congrArg (fun k => _ * argD m c (ix2 _ k)) (Fin.ext ?_)
  show (1024 * (q.val / 1024) + q.val % 1024) % 7168 = q.val
  omega

end Cert.Kernel9Ideal.Product

namespace Cert.Reference9Ideal.Product

open Cert.Reference9Ideal Cert.Reference9Ideal.Gen
open Idealize.ShloMosaic Idealize.ShloMosaic.TcCoe Idealize.ShloMosaic.Tactic

/-- The reference's result at an index: the same sum, its factors the other way round. -/
theorem result_at (x : S16384x1024.Idx → EReal) (y : S16384x7168.Idx → EReal) (p : Fin 1024) (q : Fin 7168) :
    (transpose S1024x7168 [1, 0] (Host.dotGeneral (F := Ideal) dot_S16384x7168_S16384x1024_S7168x1024_0_0_1_1_n_n none
      (extf (F := Ideal) .f32 y bitsLt_bf16_f32) (extf (F := Ideal) .f32 x bitsLt_bf16_f32)) transposes_S7168x1024_S1024x7168_1_0 : S1024x7168.Idx → EReal) (ix2 p q)
      = ∑ i : Fin 16384, x (ix2 i p) * y (ix2 i q) := by
  pointwise []
  exact Finset.sum_congr rfl fun i _ => mul_comm _ _

end Cert.Reference9Ideal.Product

end
-- ==== Proof.SsdDh.lean ====
/-
The gradient of the state-space mixer's input, over the extended reals: the kernel's sum over the seven runs of columns is the whole sum
over columns, which is the reference's.
-/
module

public import proofs.«01_k».proof.Proof.Sums
public import proofs.«01_k».proof.Proof.Gen.Kernel10Ideal.Value
public import proofs.«01_k».proof.Proof.Gen.Reference10Ideal.Run

@[expose] public section

set_option maxRecDepth 16384
set_option Elab.async false

noncomputable section

namespace Cert.Kernel10Ideal.Product

open Cert.Kernel10Ideal Cert.Kernel10Ideal.Gen Cert.Kernel10Ideal.Value Cert.Ffn
open Idealize.ShloMosaic Idealize.ShloMosaic.TcCoe Idealize.ShloMosaic.Tactic

/-- Both offsets are zero. -/
theorem hz : (![0, 0] : Fin 2 → Nat) = fun _ => 0 := funext fun a => by fin_cases a <;> rfl

section cases
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec F S1024x1024 .bf16) (y : Vec F S1024x1024 .bf16) (s : Vec F S1024x1024 .f32)

/-- The first step of a run leaves its product in the cleared accumulator. -/
theorem first_step (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, shapeCast_self]

/-- A later step adds its product to the accumulator. -/
theorem middle_step (hc : ¬cond0_0 i) (hd : ¬cond0_1 i) :
    sout0_B_0 c i a3 h3 a4 h4 a5 h5 a6 h6 hc hd x y s = k0_pay2 s x y := by
  unfold sout0_B_0
  rw [View.read_writes_eq_canon _ _ _ (scover0_B_0 c i a3 h3 a4 h4 a5 h5 a6 h6 hc hd x y s)]
  unfold kernelRun0_B
  dsimp only
  rw [View.canon_unit_zero hz]
  simp only [View.readAt_eq_ld, h3.read_unread, h4.read_unread, h6.read_unread, View.ld_unit_zero (S := S1024x1024) hz, shapeCast_self]

/-- So does the last step of a run. -/
theorem last_step (hc : ¬cond0_0 i) (hd : cond0_1 i) :
    sout0_C_0 c i a3 h3 a4 h4 a5 h5 a6 h6 hc hd x y s = k0_pay2 s x y := by
  unfold sout0_C_0
  rw [View.read_writes_eq_canon _ _ _ (scover0_C_0 c i a3 h3 a4 h4 a5 h5 a6 h6 hc hd x y s)]
  unfold kernelRun0_C
  dsimp only
  sl_unfold_words
  rw [View.canon_unit_zero hz]
  simp only [View.readAt_eq_ld, h3.read_unread, h4.read_unread, h6.read_unread, View.ld_unit_zero (S := S1024x1024) hz, shapeCast_self]

/-- The last step also writes the accumulator out. -/
theorem last_out (hc : ¬cond0_0 i) (hd : cond0_1 i) :
    out0_C_2 c i a3 h3 a4 h4 a5 h5 a6 h6 hc hd x y s = k0_pay2 s x y := by
  unfold out0_C_2
  rw [View.read_writes_eq_canon _ _ _ (cover0_C_2 c i a3 h3 a4 h4 a5 h5 a6 h6 hc hd x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, shapeCast_self]

end cases

/-- What one step makes of the accumulator, at an index. -/
theorem step_at (s x y : S1024x1024.Idx → EReal) (p q : Fin 1024) :
    k0_pay2 (F := Ideal) s x y (ix2 p q) = s (ix2 p q) + ∑ r : Fin 1024, x (ix2 p r) * y (ix2 q r) := by
  pointwise [k0_pay2]

/-- The cleared accumulator. -/
theorem cleared_at (p q : Fin 1024) : k0_pay1 (F := Ideal) (ix2 p q) = 0 := by
  pointwise [k0_pay1]

/-- Which blocks each step takes. -/
theorem index_val : ∀ t : Fin grid0.N, win0_0.index t (0 : Fin 2) = t.val / 7 ∧ win0_0.index t (1 : Fin 2) = t.val % 7
    ∧ win0_1.index t (0 : Fin 2) = 0 ∧ win0_1.index t (1 : Fin 2) = t.val % 7 := by decide +kernel

variable (m : (ℓ : Loc nD τ sig) → Buf (Elt Ideal) ℓ) (c : Dev nD)

/-- The two arguments on a device. -/
abbrev argD : S16384x7168.Idx → EReal := m ((c.tc : Thread nD τ).loc main_arg0)
abbrev argW : S1024x7168.Idx → EReal := m ((c.tc : Thread nD τ).loc main_arg1)

/-- The block of the first argument, read at an index. -/
theorem blk0 (t : Fin cfg0.N) (p r : Fin 1024) : iblk m c 0 t (ix2 p r)
    = argD m c (ix2 ⟨1024 * (t.val / 7) + p.val, by have := lt_of_lt_of_eq t.isLt (show cfg0.N = 112 from N_0); omega⟩
        ⟨1024 * (t.val % 7) + r.val, by omega⟩) := by
  refine congrArg (argD m c) (pair_ext _ _ _ ?_ ?_)
  · refine ((cfg0.win 0).rect_emb_val t (ix2 p r) 0).trans ?_
    show win0_0.index t (0 : Fin 2) * 1024 + p.val = 1024 * (t.val / 7) + p.val
    rw [(index_val t).1, Nat.mul_comm]
  · refine ((cfg0.win 0).rect_emb_val t (ix2 p r) 1).trans ?_
    show win0_0.index t (1 : Fin 2) * 1024 + r.val = 1024 * (t.val % 7) + r.val
    rw [(index_val t).2.1, Nat.mul_comm]

/-- The block of the second argument, read at an index. -/
theorem blk1 (t : Fin cfg0.N) (q r : Fin 1024) : iblk m c 1 t (ix2 q r) = argW m c (ix2 q ⟨1024 * (t.val % 7) + r.val, by omega⟩) := by
  refine congrArg (argW m c) (pair_ext _ _ _ ?_ ?_)
  · refine ((cfg0.win 1).rect_emb_val t (ix2 q r) 0).trans ?_
    show win0_1.index t (0 : Fin 2) * 1024 + q.val = q.val
    rw [(index_val t).2.2.1, Nat.zero_mul, Nat.zero_add]
  · refine ((cfg0.win 1).rect_emb_val t (ix2 q r) 1).trans ?_
    show win0_1.index t (1 : Fin 2) * 1024 + r.val = 1024 * (t.val % 7) + r.val
    rw [(index_val t).2.2.2, Nat.mul_comm]

/-- The products whose sum is the entry at row `p` of row block `b` and column `q`. -/
def terms (p q : Fin 1024) (b : ℕ) (j : Fin 7168) : EReal :=
  argD m c (ix2 ⟨(1024 * b + p.val) % 16384, Nat.mod_lt _ (by omega)⟩ j) * argW m c (ix2 q j)

/-- One step's share of the sum. -/
theorem share (t : Fin cfg0.N) (s : S1024x1024.Idx → EReal) (p q : Fin 1024) :
    k0_pay2 (F := Ideal) s (iblk m c 0 t) (iblk m c 1 t) (ix2 p q)
      = s (ix2 p q) + ∑ r : Fin 1024, terms m c p q (t.val / 7) ⟨1024 * (t.val % 7) + r.val, by omega⟩ := by
  refine (step_at s _ _ p q).trans (congrArg _ (Finset.sum_congr rfl fun r _ => ?_))
  rw [blk0, blk1]
  unfold terms
  refine congrArg (fun k => argD m c (ix2 k _) * _) (Fin.ext ?_)
  have := lt_of_lt_of_eq t.isLt (show cfg0.N = 112 from N_0)
  show 1024 * (t.val / 7) + p.val = (1024 * (t.val / 7) + p.val) % 16384
  omega

/-- What the accumulator holds after each step. -/
theorem held (p q : Fin 1024) (n : ℕ) (h : n < cfg0.N) :
    (show EReal from (outsAt0 m c n h).2 (ix2 p q)) = below (terms m c p q (n / 7)) (1024 * (n % 7) + 1024) := by
  refine accumulated (L := 7) (R := 1024) (by omega) (by omega) (terms m c p q) (fun n h => (outsAt0 m c n h).2 (ix2 p q)) (fun n r => by omega)
    (fun n h h0 => ?_) (fun n h h0 => ?_) n h
  · rw [outsAt0_A m c ⟨n, h⟩ h0 (by dsimp only; omega), first_step]
    exact (share m c ⟨n, h⟩ _ p q).trans (congrArg (· + _) (cleared_at p q))
  · by_cases h1 : n % 7 = 6
    · rw [outsAt0_C m c ⟨n, h⟩ h0 h1, last_step]
      exact share m c ⟨n, h⟩ _ p q
    · rw [outsAt0_B m c ⟨n, h⟩ h0 h1, middle_step]
      exact share m c ⟨n, h⟩ _ p q

/-- The kernel's result at an index: the sum over all columns. -/
theorem result_at (p : Fin 16384) (q : Fin 1024) : (show EReal from G2 m c (ix2 p q)) = ∑ j : Fin 7168, argD m c (ix2 p j) * argW m c (ix2 q j) := by
  have hp := p.isLt
  have hq := q.isLt
  have hr : run2Of (ix2 p q) = p.val / 1024 := by
    show 1 * (p.val / 1024 - 0) + 1 * (q.val / 1024 - 0) = p.val / 1024
    omega
  have hN : cfg0.N = 112 := N_0
  have hpt : pt2Of (ix2 p q) < cfg0.N := by
    show 7 * run2Of (ix2 p q) + 6 < cfg0.N
    rw [hr, hN]; omega
  have hmod : pt2Of (ix2 p q) % 7 = 6 := by
    show (7 * run2Of (ix2 p q) + 6) % 7 = 6
    omega
  have hdiv : pt2Of (ix2 p q) / 7 = p.val / 1024 := by
    show (7 * run2Of (ix2 p q) + 6) / 7 = p.val / 1024
    rw [hr]; omega
  have hloc : loc2Of (ix2 p q) = ix2 ⟨p.val % 1024, Nat.mod_lt _ (by omega)⟩ q := pair_ext _ _ _ rfl (Nat.mod_eq_of_lt hq)
  unfold G2
  rw [dif_pos hpt, ← outsAt0_sweep m c _ hpt, hloc]
  have hh := held m c ⟨p.val % 1024, Nat.mod_lt _ (by omega)⟩ q _ hpt
  rw [outsAt0_C m c ⟨_, hpt⟩ (by dsimp only; omega) hmod] at hh ⊢
  rw [last_step] at hh
  rw [last_out]
  refine hh.trans ?_
  rw [hmod, hdiv]
  refine (below_all _).trans (Finset.sum_congr rfl fun j _ => ?_)
  unfold terms
  refine congrArg (fun k => argD m c (ix2 k _) * _) (Fin.ext ?_)
  show (1024 * (p.val / 1024) + p.val % 1024) % 16384 = p.val
  omega

end Cert.Kernel10Ideal.Product

namespace Cert.Reference10Ideal.Product

open Cert.Reference10Ideal Cert.Reference10Ideal.Gen
open Idealize.ShloMosaic Idealize.ShloMosaic.TcCoe Idealize.ShloMosaic.Tactic

/-- The reference's result at an index: the same sum. -/
theorem result_at (x : S16384x7168.Idx → EReal) (y : S1024x7168.Idx → EReal) (p : Fin 16384) (q : Fin 1024) :
    (Host.dotGeneral (F := Ideal) dot_S16384x7168_S1024x7168_S16384x1024_1_1_0_0_n_n none (extf (F := Ideal) .f32 x bitsLt_bf16_f32)
        (extf (F := Ideal) .f32 y bitsLt_bf16_f32) : S16384x1024.Idx → EReal) (ix2 p q)
      = ∑ j : Fin 7168, x (ix2 p j) * y (ix2 q j) := by
  pointwise []

end Cert.Reference10Ideal.Product

end
-- ==== Proof.Math.lean ====
/-
The gradient of chunked softmax attention over the reals: what both programs compute, in one row's terms, and the algebra that
takes each program's form of it to these definitions. A query at position `i` sees the keys of its own chunk of 64 and before.
-/
module

public import Idealize.ShloMosaic.PureOps.Ideal
public import Idealize.ShloMosaic.Lib.IdealHost
public import Idealize.ShloMosaic.Lib.Pointwise
public import Idealize.ShloMosaic.Lib.WordCmp
public import Idealize.ShloMosaic.Lib.Routing.Words

@[expose] public section

noncomputable section

namespace Cert.Attn

open Idealize.ShloMosaic

/-- The real inputs, head by head: the queries, the keys in two halves (the second is shared by the heads), the values, the
    gradient of the attention's result. -/
structure In where
  /-- the queries -/
  q : Fin 4 → Fin 16384 → Fin 256 → ℝ
  /-- first halves of the keys -/
  kn : Fin 4 → Fin 16384 → Fin 128 → ℝ
  /-- second halves of the keys -/
  kp : Fin 16384 → Fin 128 → ℝ
  /-- the values -/
  vv : Fin 4 → Fin 16384 → Fin 128 → ℝ
  /-- the gradient of the result -/
  oo : Fin 4 → Fin 16384 → Fin 128 → ℝ

variable (x : In) (h : Fin 4) (i j : Fin 16384)

/-- The score of query `i` and key `j`. -/
def score : ℝ := ∑ d : Fin 128, x.q h i ⟨d.val, by omega⟩ * x.kn h j d
  + ∑ d : Fin 128, x.q h i ⟨128 + d.val, by omega⟩ * x.kp j d

/-- The whole key. -/
def key (d : Fin 256) : ℝ := if hd : d.val < 128 then x.kn h j ⟨d.val, hd⟩ else x.kp j ⟨d.val - 128, by omega⟩

/-- Whether query `i` sees key `j`. -/
def seen (i j : Fin 16384) : Prop := j.val / 64 ≤ i.val / 64

instance : Decidable (seen i j) := Nat.decLe _ _

/-- The exponential of a score that is seen, else zero. -/
def weight : ℝ := if seen i j then Real.exp (score x h i j) else 0

/-- The sum of a query's weights. -/
def den : ℝ := ∑ j, weight x h i j

/-- The attention probability. -/
def prob : ℝ := weight x h i j / den x h i

/-- The gradient of a probability. -/
def dprob : ℝ := ∑ d, x.oo h i d * x.vv h j d

/-- A query's probabilities times their gradients, summed. -/
def dots : ℝ := ∑ j, prob x h i j * dprob x h i j

/-- The gradient of a score. -/
def ds : ℝ := prob x h i j * (dprob x h i j - dots x h i)

/-- The gradient of a query. -/
def dQ (d : Fin 256) : ℝ := ∑ j, ds x h i j * key x h j d

/-- The gradient of a key. -/
def dK (d : Fin 256) : ℝ := ∑ i, ds x h i j * x.q h i d

/-- The gradient of a value. -/
def dV (d : Fin 128) : ℝ := ∑ i, prob x h i j * x.oo h i d

/-- The score as the softmax takes it: minus infinity where it is not seen. -/
def masked : EReal := if seen i j then (score x h i j : EReal) else ⊥

/-! ## Over the reals -/

theorem weight_nonneg : 0 ≤ weight x h i j := by
  unfold weight; split
  · exact (Real.exp_pos _).le
  · exact le_rfl

/-- A query sees its own position, so its weights have a positive sum. -/
theorem den_pos : 0 < den x h i :=
  Finset.sum_pos' (fun j _ => weight_nonneg x h i j)
    ⟨i, Finset.mem_univ _, by unfold weight; rw [if_pos (show seen i i from le_rfl)]; exact Real.exp_pos _⟩

/-- A probability is nothing where the key is not seen. -/
theorem prob_unseen (hs : ¬ seen i j) : prob x h i j = 0 := by unfold prob weight; rw [if_neg hs, zero_div]

theorem ds_unseen (hs : ¬ seen i j) : ds x h i j = 0 := by unfold ds; rw [prob_unseen x h i j hs, zero_mul]

/-- Shifting every score of a query by `M` scales its weights. -/
theorem sum_shift (M : ℝ) : ∑ j, weight x h i j * Real.exp (-M) = den x h i * Real.exp (-M) := (Finset.sum_mul _ _ _).symm

theorem prob_shift (M : ℝ) : weight x h i j * Real.exp (-M) / (den x h i * Real.exp (-M)) = prob x h i j :=
  mul_div_mul_right _ _ (Real.exp_ne_zero _)

/-- The shift and the logarithm of the shifted sum make the logarithm of the sum. -/
theorem log_shift (M : ℝ) : M + Real.log (den x h i * Real.exp (-M)) = Real.log (den x h i) := by
  rw [Real.log_mul (den_pos x h i).ne' (Real.exp_ne_zero _), Real.log_exp]; ring

/-- A seen probability from the logarithm of the sum. -/
theorem exp_sub_log (hs : seen i j) : Real.exp (score x h i j - Real.log (den x h i)) = prob x h i j := by
  unfold prob weight; rw [if_pos hs, Real.exp_sub, Real.exp_log (den_pos x h i)]

/-- The sum of probabilities times gradients is the result times its gradient. -/
theorem dots_eq : ∑ d, x.oo h i d * ∑ j, prob x h i j * x.vv h j d = dots x h i := by
  unfold dots dprob
  simp only [Finset.mul_sum]
  rw [Finset.sum_comm]
  exact Finset.sum_congr rfl fun j _ => Finset.sum_congr rfl fun d _ => by ring

/-- The reference's form of the gradient of a score. -/
theorem ds_shift (M : ℝ) :
    (dprob x h i j / (den x h i * Real.exp (-M))
      + -∑ k, dprob x h i k * (1 / (den x h i * Real.exp (-M) * (den x h i * Real.exp (-M)))) * (weight x h i k * Real.exp (-M)))
      * (weight x h i j * Real.exp (-M)) = ds x h i j := by
  have hd := (den_pos x h i).ne'
  have he := Real.exp_ne_zero (-M)
  have hk : ∑ k, dprob x h i k * (1 / (den x h i * Real.exp (-M) * (den x h i * Real.exp (-M)))) * (weight x h i k * Real.exp (-M))
      = dots x h i / (den x h i * Real.exp (-M)) := by
    unfold dots prob
    rw [Finset.sum_div]
    exact Finset.sum_congr rfl fun k _ => by field_simp
  rw [hk]
  unfold ds prob
  field_simp
  ring

/-! ## Over the extended reals -/

/-- A sum of reals is a real. -/
theorem coe_sum {ι : Type} (s : Finset ι) (f : ι → ℝ) : ∑ k ∈ s, ((f k : ℝ) : EReal) = ((∑ k ∈ s, f k : ℝ) : EReal) :=
  (map_sum (⟨⟨Real.toEReal, rfl⟩, EReal.coe_add⟩ : ℝ →+ EReal) f s).symm

theorem exp_coe (r : ℝ) : Ideal.exp (r : EReal) = (Real.exp r : EReal) := rfl

theorem log_coe {r : ℝ} (hr : 0 < r) : Ideal.log (r : EReal) = (Real.log r : EReal) := if_neg hr.not_ge

theorem div_real (a : ℝ) {b : ℝ} (hb : b ≠ 0) : Ideal.div (a : EReal) (b : EReal) = ((a / b : ℝ) : EReal) := by
  rw [Ideal.div_coe hb, ← EReal.coe_mul, mul_one_div]

/-- The literal that stands for minus infinity. -/
theorem neg_inf : Ideal.ofBits .f32 0xFF800000#32 = ⊥ := by
  simp [Ideal.ofBits, Ideal.ieee]

/-- The greatest of a query's scores is a real. -/
theorem top_real : ∃ M : ℝ, Finset.univ.fold max ⊥ (masked x h i) = (M : EReal) := by
  have hb : Finset.univ.fold max ⊥ (masked x h i) ≠ ⊥ := by
    have hle : (score x h i i : EReal) ≤ Finset.univ.fold max ⊥ (masked x h i) :=
      (Finset.le_fold_max _).2 (.inr ⟨i, Finset.mem_univ _, by unfold masked; rw [if_pos (show seen i i from le_rfl)]⟩)
    exact fun he => absurd (he ▸ hle) (not_le.2 (EReal.bot_lt_coe _))
  have ht : Finset.univ.fold max ⊥ (masked x h i) ≠ ⊤ := by
    refine ne_of_lt ((Finset.fold_max_lt _).2 ⟨bot_lt_top, fun j _ => ?_⟩)
    unfold masked; split
    · exact EReal.coe_lt_top _
    · exact bot_lt_top
  exact ⟨_, (EReal.coe_toReal ht hb).symm⟩

/-- The greatest of a query's scores. -/
def top : ℝ := (Finset.univ.fold max ⊥ (masked x h i)).toReal

theorem top_eq : Finset.univ.fold max ⊥ (masked x h i) = (top x h i : EReal) := by
  obtain ⟨M, hM⟩ := top_real x h i
  unfold top
  rw [hM, EReal.toReal_coe]

/-- The exponential of a shifted score. -/
theorem exp_masked (M : ℝ) : Ideal.exp (masked x h i j - (M : EReal)) = ((weight x h i j * Real.exp (-M) : ℝ) : EReal) := by
  unfold masked weight
  split
  · rw [← EReal.coe_sub, exp_coe, sub_eq_add_neg, Real.exp_add]
  · rw [zero_mul]; rfl

/-- The words of two positions over 64, compared, say whether the key is seen. -/
theorem seen_word : IntOp.cmpi .sle (IntOp.divsi .host (BitVec.ofNat 32 j.val) 64#32) (IntOp.divsi .host (BitVec.ofNat 32 i.val) 64#32) = 1#1
    ↔ seen i j := by
  have hi := i.isLt
  have hj := j.isLt
  rw [show (64#32 : BitVec 32) = BitVec.ofNat 32 64 from rfl, Routing.divsi_word .host (by omega) (by omega) (by omega),
    Routing.divsi_word .host (by omega) (by omega) (by omega)]
  exact WordCmp.cmpi_sle_ofNat_eq_one_iff (by omega) (by omega)

/-! ## The inputs from the four arrays -/

/-- An array of reals among the extended reals. -/
def up {ι : Type} (f : ι → ℝ) : ι → EReal := fun k => (f k : EReal)

/-- The inputs head by head: a head's queries are 256 columns, its keys' first halves 128 of the first 512 columns, its values 128 of
    the others. -/
def inOf (q kv : (⟨2, ![16384, 1024]⟩ : Shape).Idx → ℝ) (kp : (⟨2, ![16384, 128]⟩ : Shape).Idx → ℝ)
    (o : (⟨2, ![16384, 512]⟩ : Shape).Idx → ℝ) : In where
  q h i d := q (ix2 i ⟨h.val * 256 + d.val, by omega⟩)
  kn h j d := kv (ix2 j ⟨h.val * 128 + d.val, by omega⟩)
  kp j d := kp (ix2 j d)
  vv h j d := kv (ix2 j ⟨512 + (h.val * 128 + d.val), by omega⟩)
  oo h i d := o (ix2 i ⟨h.val * 128 + d.val, by omega⟩)

end Cert.Attn

end
-- ==== Proof.Finite.lean ====
/-
The precondition: four arrays all of whose entries are finite are arrays of reals.
-/
module

public import proofs.«01_k».proof.Proof.Gen.Pre_finite
public import proofs.«01_k».proof.Proof.Math
public import Idealize.ShloMosaic.Lib.ReduceAll

@[expose] public section

set_option maxRecDepth 16384
set_option Elab.async false

noncomputable section

namespace Cert.Pre_finite

open Cert.Pre_finite.Gen Cert.Attn
open Idealize.ShloMosaic

/-- The literal that stands for infinity. -/
theorem pos_inf : Ideal.ofBits .f32 0x7F800000#32 = ⊤ := by
  simp [Ideal.ofBits, Ideal.ieee]

/-- A number whose absolute value compares less than infinity is a real. -/
theorem real_of_lt (x : EReal) (h : Ideal.cmp .olt (max x (-x)) (Ideal.ofBits .f32 0x7F800000#32) = 1#1) : x = (x.toReal : EReal) := by
  rw [pos_inf] at h
  have hlt : max x (-x) < ⊤ := by
    by_contra hn
    have : Ideal.cmp .olt (max x (-x)) ⊤ = 0#1 := by simp [Ideal.cmp, hn]
    rw [this] at h
    exact absurd h (by decide)
  refine (EReal.coe_toReal (fun ht => ?_) fun hb => ?_).symm
  · rw [ht] at hlt; simp at hlt
  · rw [hb] at hlt; simp at hlt

/-- An array all of whose entries are finite is an array of reals. -/
theorem real_of_all {s : Shape} {axes : List (Fin s.rank)} (x : FVec Ideal s .bf16) (hb : (⟨0, ![]⟩ : Shape).BroadcastsInDim s (![] : Fin 0 → Fin s.rank))
    (hr : s.ReducesTo axes ⟨0, ![]⟩) (hu : 0 < (⟨0, ![]⟩ : Shape).numel) (hw : FTy.bits .bf16 < FTy.bits .f32) (k : (⟨0, ![]⟩ : Shape).Idx)
    (h : Host.reduce IntOp.andi (cmpf .olt (Host.absf (extf .f32 x hw)) (broadcastInDim s ![] hb (constant (F := Ideal) ⟨0, ![]⟩ .f32 0x7F800000#32)))
      (constantI ⟨0, ![]⟩ 1 1#1) hr hu k = 1#1) : x = up fun i => (x i).toReal :=
  funext fun i => real_of_lt (x i) (Host.reduce_andi_all _ _ hr hu k h i)

/-- The precondition makes the four arguments arrays of reals. -/
theorem real_args (q kv : FVec Ideal S16384x1024 .bf16) (kp : FVec Ideal S16384x128 .bf16) (o : FVec Ideal S16384x512 .bf16)
    (h : fn (F := Ideal) q kv kp o = fun _ => 1#1) :
    q = up (fun i => (q i).toReal) ∧ kv = up (fun i => (kv i).toReal) ∧ kp = up (fun i => (kp i).toReal) ∧ o = up fun i => (o i).toReal := by
  have h0 := congrFun h ix0
  unfold fn fn_part1 at h0
  obtain ⟨h1, ho⟩ := IntOp.andi_eq_one.1 h0
  obtain ⟨h2, hkp⟩ := IntOp.andi_eq_one.1 h1
  obtain ⟨hq, hkv⟩ := IntOp.andi_eq_one.1 h2
  exact ⟨real_of_all q Facts.bcast_S_S16384x1024 Facts.reducesTo_S16384x1024_S_d0_1 Facts.h_S_ Facts.bitsLt_bf16_f32 ix0 hq, real_of_all kv Facts.bcast_S_S16384x1024 Facts.reducesTo_S16384x1024_S_d0_1 Facts.h_S_ Facts.bitsLt_bf16_f32 ix0 hkv, real_of_all kp Facts.bcast_S_S16384x128 Facts.reducesTo_S16384x128_S_d0_1 Facts.h_S_ Facts.bitsLt_bf16_f32 ix0 hkp, real_of_all o Facts.bcast_S_S16384x512 Facts.reducesTo_S16384x512_S_d0_1 Facts.h_S_ Facts.bitsLt_bf16_f32 ix0 ho⟩

end Cert.Pre_finite

end
-- ==== Proof.MidBack.lean ====
/-
The gradient of the middle of the feed-forward layer, over the extended reals: block by block the kernel computes the gradients of the
two projections, and over finite second factors, incoming gradients and weights they are the reference's.
-/
module

public import proofs.«01_k».proof.Pre_finite5
public import proofs.«01_k».proof.Proof.Sums
public import proofs.«01_k».proof.Proof.Finite
public import proofs.«01_k».proof.Proof.Gen.Kernel5Ideal.Value
public import proofs.«01_k».proof.Proof.Gen.Reference5Ideal.Run

@[expose] public section

set_option maxRecDepth 16384
set_option Elab.async false

noncomputable section

namespace Cert.Pre_finite5

open Idealize.ShloMosaic

/-- The side conditions of the precondition's operations. -/
theorem holds : Facts where
  bitsLt_bf16_f32 := by decide
  bcast_S_S16384x2816 := by decide
  reducesTo_S16384x2816_S_d0_1 := by decide
  h_S_ := by decide
  bcast_S_S16384x1024 := by decide
  reducesTo_S16384x1024_S_d0_1 := by decide
  bcast_S_S2816x1024 := by decide
  reducesTo_S2816x1024_S_d0_1 := by decide

variable [Facts]

/-- The precondition makes the second factor, the incoming gradient and the weights arrays of reals. -/
theorem real_args (u v : FVec Ideal S16384x2816 .bf16) (dy : FVec Ideal S16384x1024 .f32) (w : FVec Ideal S2816x1024 .bf16)
    (h : fn (F := Ideal) u v dy w = fun _ => 1#1) :
    (∀ i, v i = ((v i).toReal : EReal)) ∧ (∀ i, dy i = ((dy i).toReal : EReal)) ∧ ∀ i, w i = ((w i).toReal : EReal) := by
  have h0 := congrFun h ix0
  unfold fn at h0
  obtain ⟨h1, hw⟩ := IntOp.andi_eq_one.1 h0
  obtain ⟨hv, hd⟩ := IntOp.andi_eq_one.1 h1
  exact ⟨fun i => congrFun (Cert.Pre_finite.real_of_all v _ _ _ _ ix0 hv) i, fun i => Cert.Pre_finite.real_of_lt (dy i) (Host.reduce_andi_all _ _ _ _ ix0 hd i),
    fun i => congrFun (Cert.Pre_finite.real_of_all w _ _ _ _ ix0 hw) i⟩

end Cert.Pre_finite5

namespace Cert.Kernel5Ideal.Mid

open Cert.Kernel5Ideal Cert.Kernel5Ideal.Gen Cert.Kernel5Ideal.Value Cert.Ffn Cert.Attn
open Idealize.ShloMosaic Idealize.ShloMosaic.TcCoe Idealize.ShloMosaic.Tactic
open Idealize.ShloMosaic.Pipeline (Dat)

/-- Both offsets are zero. -/
theorem hz : (![0, 0] : Fin 2 → Nat) = fun _ => 0 := funext fun a => by fin_cases a <;> rfl

/-- The gradient of the gated product: a row of the incoming gradient times a row of the weights. -/
def grad (dy : S16384x1024.Idx → EReal) (w : S2816x1024.Idx → EReal) (i : Fin 16384) (j : Fin 2816) : EReal :=
  ∑ k : Fin 1024, dy (ix2 i k) * w (ix2 j k)

/-- The gradients of the two factors at an entry. -/
def backU (u v g : EReal) : EReal := g * v * (Ideal.logistic u * (1 + u * (1 - Ideal.logistic u)))
def backV (u g : EReal) : EReal := g * (u * Ideal.logistic u)

/-- The gradients of the two factors, as arrays. -/
def backUs (u v : S16384x2816.Idx → EReal) (dy : S16384x1024.Idx → EReal) (w : S2816x1024.Idx → EReal) : S16384x2816.Idx → EReal :=
  fun i => backU (u i) (v i) (grad dy w (i 0) (i 1))
def backVs (u : S16384x2816.Idx → EReal) (dy : S16384x1024.Idx → EReal) (w : S2816x1024.Idx → EReal) : S16384x2816.Idx → EReal :=
  fun i => backV (u i) (grad dy w (i 0) (i 1))

/-- Far out the logistic is one or nothing, and in between a real. -/
theorem logistic_top : Ideal.logistic ⊤ = 1 := by
  show Ideal.div 1 (1 + Ideal.exp (-⊤)) = 1
  rw [EReal.neg_top, show Ideal.exp ⊥ = 0 from rfl, add_zero, ← EReal.coe_one, div_real 1 one_ne_zero, div_one]
theorem logistic_bot : Ideal.logistic ⊥ = 0 := by
  show Ideal.div 1 (1 + Ideal.exp (-⊥)) = 0
  rw [EReal.neg_bot, show Ideal.exp ⊤ = ⊤ from rfl, show (1 : EReal) + ⊤ = ⊤ from rfl]
  simp [Ideal.div]
theorem logistic_real (r : ℝ) : ∃ s : ℝ, Ideal.logistic (r : EReal) = (s : EReal) := by
  refine ⟨1 / (1 + Real.exp (-r)), ?_⟩
  show Ideal.div 1 (1 + Ideal.exp (-(r : EReal))) = _
  rw [← EReal.coe_neg, exp_coe, ← EReal.coe_one, ← EReal.coe_add, div_real 1 (add_pos one_pos (Real.exp_pos _)).ne']

/-- The factored gradient is the product rule's two terms when the rest of the product is a real. -/
theorem two_terms (u : EReal) (w : ℝ) :
    (w : EReal) * Ideal.logistic u + u * w * (Ideal.logistic u * (1 - Ideal.logistic u)) = w * (Ideal.logistic u * (1 + u * (1 - Ideal.logistic u))) := by
  have h11 : (1 : EReal) - 1 = 0 := by rw [← EReal.coe_one, ← EReal.coe_sub, sub_self, EReal.coe_zero]
  induction u with
  | bot => rw [logistic_bot]; simp only [zero_mul, mul_zero, add_zero]
  | top => rw [logistic_top, h11]; simp only [one_mul, mul_zero, mul_one, add_zero]
  | coe r =>
    obtain ⟨s, hs⟩ := logistic_real r
    rw [hs, ← EReal.coe_one]
    simp only [← EReal.coe_sub, ← EReal.coe_mul, ← EReal.coe_add]
    congr 1
    ring

section block
variable (a b : S2048x256.Idx → EReal) (x : S2048x1024.Idx → EReal) (y : S256x1024.Idx → EReal) (p : Fin 2048) (q : Fin 256)

/-- A block of the first factor's gradient, at an index. -/
theorem out4_at : out0_4 (F := Ideal) a b x y (ix2 p q) = backU (a (ix2 p q)) (b (ix2 p q)) (∑ k : Fin 1024, x (ix2 p k) * y (ix2 q k)) := by
  unfold out0_4
  rw [View.canon_unit_zero hz]
  simp only [View.ld_unit_zero (S := S2048x256) hz, View.ld_unit_zero (S := S2048x1024) hz, View.ld_unit_zero (S := S256x1024) hz]
  pointwise [k0_pay5, k0_pay1, k0_pay2, k0_pay3]
  rfl

/-- A block of the second factor's gradient, at an index. -/
theorem out5_at : out0_5 (F := Ideal) a b x y (ix2 p q) = backV (a (ix2 p q)) (∑ k : Fin 1024, x (ix2 p k) * y (ix2 q k)) := by
  unfold out0_5
  rw [View.canon_unit_zero hz]
  simp only [View.ld_unit_zero (S := S2048x256) hz, View.ld_unit_zero (S := S2048x1024) hz, View.ld_unit_zero (S := S256x1024) hz]
  pointwise [k0_pay4, k0_pay1, k0_pay2, k0_pay3]
  rfl

end block

/-- Which blocks each step takes and writes. -/
theorem index_val : ∀ t : Fin grid0.N, (win0_0.index t (0 : Fin 2) = t.val / 11 ∧ win0_0.index t (1 : Fin 2) = t.val % 11)
    ∧ (win0_1.index t (0 : Fin 2) = t.val / 11 ∧ win0_1.index t (1 : Fin 2) = t.val % 11)
    ∧ (win0_2.index t (0 : Fin 2) = t.val / 11 ∧ win0_2.index t (1 : Fin 2) = 0)
    ∧ (win0_3.index t (0 : Fin 2) = t.val % 11 ∧ win0_3.index t (1 : Fin 2) = 0)
    ∧ (win0_4.index t (0 : Fin 2) = t.val / 11 ∧ win0_4.index t (1 : Fin 2) = t.val % 11)
    ∧ (win0_5.index t (0 : Fin 2) = t.val / 11 ∧ win0_5.index t (1 : Fin 2) = t.val % 11) := by decide +kernel

/-- The row and the column, in the whole arrays, of a place in a step's block. -/
def rowAt (t : Fin cfg0.N) (p : Fin 2048) : Fin 16384 :=
  ⟨2048 * (t.val / 11) + p.val, by have := lt_of_lt_of_eq t.isLt (show cfg0.N = 88 from N_0); omega⟩
def colAt (t : Fin cfg0.N) (q : Fin 256) : Fin 2816 := ⟨256 * (t.val % 11) + q.val, by omega⟩

variable (m : (ℓ : Loc nD τ sig) → Buf (Elt Ideal) ℓ) (c : Dev nD)

/-- The four arguments on a device. -/
abbrev argU : S16384x2816.Idx → EReal := m ((c.tc : Thread nD τ).loc main_arg0)
abbrev argV : S16384x2816.Idx → EReal := m ((c.tc : Thread nD τ).loc main_arg1)
abbrev argD : S16384x1024.Idx → EReal := m ((c.tc : Thread nD τ).loc main_arg2)
abbrev argW : S2816x1024.Idx → EReal := m ((c.tc : Thread nD τ).loc main_arg3)

/-- The block of the first factor, read at an index. -/
theorem blk0 (t : Fin cfg0.N) (p : Fin 2048) (q : Fin 256) : iblk m c 0 t (ix2 p q) = argU m c (ix2 (rowAt t p) (colAt t q)) := by
  refine congrArg (argU m c) (pair_ext _ _ _ ?_ ?_)
  · refine ((cfg0.win 0).rect_emb_val t (ix2 p q) 0).trans ?_
    show win0_0.index t (0 : Fin 2) * 2048 + p.val = 2048 * (t.val / 11) + p.val
    rw [(index_val t).1.1, Nat.mul_comm]
  · refine ((cfg0.win 0).rect_emb_val t (ix2 p q) 1).trans ?_
    show win0_0.index t (1 : Fin 2) * 256 + q.val = 256 * (t.val % 11) + q.val
    rw [(index_val t).1.2, Nat.mul_comm]

/-- The block of the second factor, read at an index. -/
theorem blk1 (t : Fin cfg0.N) (p : Fin 2048) (q : Fin 256) : iblk m c 1 t (ix2 p q) = argV m c (ix2 (rowAt t p) (colAt t q)) := by
  refine congrArg (argV m c) (pair_ext _ _ _ ?_ ?_)
  · refine ((cfg0.win 1).rect_emb_val t (ix2 p q) 0).trans ?_
    show win0_1.index t (0 : Fin 2) * 2048 + p.val = 2048 * (t.val / 11) + p.val
    rw [(index_val t).2.1.1, Nat.mul_comm]
  · refine ((cfg0.win 1).rect_emb_val t (ix2 p q) 1).trans ?_
    show win0_1.index t (1 : Fin 2) * 256 + q.val = 256 * (t.val % 11) + q.val
    rw [(index_val t).2.1.2, Nat.mul_comm]

/-- The block of the incoming gradient, read at an index. -/
theorem blk2 (t : Fin cfg0.N) (p : Fin 2048) (k : Fin 1024) : iblk m c 2 t (ix2 p k) = argD m c (ix2 (rowAt t p) k) := by
  refine congrArg (argD m c) (pair_ext _ _ _ ?_ ?_)
  · refine ((cfg0.win 2).rect_emb_val t (ix2 p k) 0).trans ?_
    show win0_2.index t (0 : Fin 2) * 2048 + p.val = 2048 * (t.val / 11) + p.val
    rw [(index_val t).2.2.1.1, Nat.mul_comm]
  · refine ((cfg0.win 2).rect_emb_val t (ix2 p k) 1).trans ?_
    show win0_2.index t (1 : Fin 2) * 1024 + k.val = k.val
    rw [(index_val t).2.2.1.2, Nat.zero_mul, Nat.zero_add]

/-- The block of the weights, read at an index. -/
theorem blk3 (t : Fin cfg0.N) (q : Fin 256) (k : Fin 1024) : iblk m c 3 t (ix2 q k) = argW m c (ix2 (colAt t q) k) := by
  refine congrArg (argW m c) (pair_ext _ _ _ ?_ ?_)
  · refine ((cfg0.win 3).rect_emb_val t (ix2 q k) 0).trans ?_
    show win0_3.index t (0 : Fin 2) * 256 + q.val = 256 * (t.val % 11) + q.val
    rw [(index_val t).2.2.2.1.1, Nat.mul_comm]
  · refine ((cfg0.win 3).rect_emb_val t (ix2 q k) 1).trans ?_
    show win0_3.index t (1 : Fin 2) * 1024 + k.val = k.val
    rw [(index_val t).2.2.2.1.2, Nat.zero_mul, Nat.zero_add]

/-- An array read through the block a step writes. -/
theorem read4 (t : Fin cfg0.N) (f : S16384x2816.Idx → EReal) (p : Fin 2048) (q : Fin 256) :
    (show EReal from ((cfg0.win 4).blk t).view.read (Elt Ideal) (show Buf (Elt Ideal) ((c : Thread nD τ).loc main_v0_0) from f) (ix2 p q))
      = f (ix2 (rowAt t p) (colAt t q)) := by
  refine congrArg f (pair_ext _ _ _ ?_ ?_)
  · refine ((cfg0.win 4).rect_emb_val t (ix2 p q) 0).trans ?_
    show win0_4.index t (0 : Fin 2) * 2048 + p.val = 2048 * (t.val / 11) + p.val
    rw [(index_val t).2.2.2.2.1.1, Nat.mul_comm]
  · refine ((cfg0.win 4).rect_emb_val t (ix2 p q) 1).trans ?_
    show win0_4.index t (1 : Fin 2) * 256 + q.val = 256 * (t.val % 11) + q.val
    rw [(index_val t).2.2.2.2.1.2, Nat.mul_comm]
theorem read5 (t : Fin cfg0.N) (f : S16384x2816.Idx → EReal) (p : Fin 2048) (q : Fin 256) :
    (show EReal from ((cfg0.win 5).blk t).view.read (Elt Ideal) (show Buf (Elt Ideal) ((c : Thread nD τ).loc main_v0_1) from f) (ix2 p q))
      = f (ix2 (rowAt t p) (colAt t q)) := by
  refine congrArg f (pair_ext _ _ _ ?_ ?_)
  · refine ((cfg0.win 5).rect_emb_val t (ix2 p q) 0).trans ?_
    show win0_5.index t (0 : Fin 2) * 2048 + p.val = 2048 * (t.val / 11) + p.val
    rw [(index_val t).2.2.2.2.2.1, Nat.mul_comm]
  · refine ((cfg0.win 5).rect_emb_val t (ix2 p q) 1).trans ?_
    show win0_5.index t (1 : Fin 2) * 256 + q.val = 256 * (t.val % 11) + q.val
    rw [(index_val t).2.2.2.2.2.2, Nat.mul_comm]

/-- The step whose block holds an index. -/
def stepOf (i : S16384x2816.Idx) : Fin grid0.N :=
  ⟨11 * ((i 0).val / 2048) + (i 1).val / 256, by
    have h0 : (i 0).val < 16384 := (i 0).isLt
    have h1 : (i 1).val < 2816 := (i 1).isLt
    have hN : grid0.N = 88 := N_0
    omega⟩

/-- That step's block, in rows and in columns. -/
theorem stepOf_val (i : S16384x2816.Idx) : (stepOf i).val / 11 = (i 0).val / 2048 ∧ (stepOf i).val % 11 = (i 1).val / 256 := by
  have h1 : (i 1).val < 2816 := (i 1).isLt
  show (11 * ((i 0).val / 2048) + (i 1).val / 256) / 11 = _ ∧ (11 * ((i 0).val / 2048) + (i 1).val / 256) % 11 = _
  omega

/-- Every index is in a written block. -/
theorem cover4 (i : S16384x2816.Idx) : ∃ t : Fin cfg0.N, (cfg0.win 4).flush t = true ∧ i ∈ ((cfg0.win 4).blk t).view.set := by
  refine ⟨stepOf i, flush0_4 _, ?_⟩
  show i ∈ ((View.whole main_v0_0).slice (win0_4.rect (stepOf i))).set
  rw [View.set_slice_whole, Rect.mem_set_unit]
  intro a
  have hv := stepOf_val i
  have hx := (index_val (stepOf i)).2.2.2.2.1
  match a with
  | ⟨0, _⟩ =>
    show win0_4.index (stepOf i) (0 : Fin 2) * 2048 ≤ (i 0).val ∧ (i 0).val < win0_4.index (stepOf i) (0 : Fin 2) * 2048 + 2048
    rw [hx.1, hv.1]; omega
  | ⟨1, _⟩ =>
    show win0_4.index (stepOf i) (1 : Fin 2) * 256 ≤ (i 1).val ∧ (i 1).val < win0_4.index (stepOf i) (1 : Fin 2) * 256 + 256
    rw [hx.2, hv.2]; omega
theorem cover5 (i : S16384x2816.Idx) : ∃ t : Fin cfg0.N, (cfg0.win 5).flush t = true ∧ i ∈ ((cfg0.win 5).blk t).view.set := by
  refine ⟨stepOf i, flush0_5 _, ?_⟩
  show i ∈ ((View.whole main_v0_1).slice (win0_5.rect (stepOf i))).set
  rw [View.set_slice_whole, Rect.mem_set_unit]
  intro a
  have hv := stepOf_val i
  have hx := (index_val (stepOf i)).2.2.2.2.2
  match a with
  | ⟨0, _⟩ =>
    show win0_5.index (stepOf i) (0 : Fin 2) * 2048 ≤ (i 0).val ∧ (i 0).val < win0_5.index (stepOf i) (0 : Fin 2) * 2048 + 2048
    rw [hx.1, hv.1]; omega
  | ⟨1, _⟩ =>
    show win0_5.index (stepOf i) (1 : Fin 2) * 256 ≤ (i 1).val ∧ (i 1).val < win0_5.index (stepOf i) (1 : Fin 2) * 256 + 256
    rw [hx.2, hv.2]; omega

/-- The first factor's gradient the kernel leaves. -/
theorem final4 : (dats m 0 c).arrAt 4 cfg0.N = backUs (argU m c) (argV m c) (argD m c) (argW m c) := by
  refine (dats m 0 c).arrAt_eq_of_cover 4 (backUs (argU m c) (argV m c) (argD m c) (argW m c)) (fun t _ => ?_) cover4
  rw [flushed4]
  funext y
  obtain ⟨p, q, rfl⟩ : ∃ (p : Fin 2048) (q : Fin 256), y = ix2 p q := ⟨y 0, y 1, pair_ext _ _ _ rfl rfl⟩
  refine Eq.trans ?_ (read4 c t _ p q).symm
  refine (out4_at _ _ _ _ p q).trans ?_
  simp only [blk0, blk1, blk2, blk3]
  rfl

/-- The second factor's gradient the kernel leaves. -/
theorem final5 : (dats m 0 c).arrAt 5 cfg0.N = backVs (argU m c) (argD m c) (argW m c) := by
  refine (dats m 0 c).arrAt_eq_of_cover 5 (backVs (argU m c) (argD m c) (argW m c)) (fun t _ => ?_) cover5
  rw [flushed5]
  funext y
  obtain ⟨p, q, rfl⟩ : ∃ (p : Fin 2048) (q : Fin 256), y = ix2 p q := ⟨y 0, y 1, pair_ext _ _ _ rfl rfl⟩
  refine Eq.trans ?_ (read5 c t _ p q).symm
  refine (out5_at _ _ _ _ p q).trans ?_
  simp only [blk0, blk2, blk3]
  rfl

end Cert.Kernel5Ideal.Mid

namespace Cert.Reference5Ideal.Mid

open Cert.Reference5Ideal Cert.Reference5Ideal.Gen Cert.Kernel5Ideal.Mid
open Idealize.ShloMosaic Idealize.ShloMosaic.TcCoe Idealize.ShloMosaic.Tactic

/-- The reference's gradient of the gated product. -/
def dot (dy : FVec Ideal S16384x1024 .f32) (w : FVec Ideal S2816x1024 .bf16) : FVec Ideal S16384x2816 .f32 :=
  Host.dotGeneral dot_S16384x1024_S2816x1024_S16384x2816_1_1_0_0_n_n none dy (extf .f32 w bitsLt_bf16_f32)

/-- It is a row times a row. -/
theorem dot_at (dy : S16384x1024.Idx → EReal) (w : S2816x1024.Idx → EReal) (i : Fin 16384) (j : Fin 2816) : dot dy w (ix2 i j) = grad dy w i j := by
  pointwise [dot]
  rfl

/-- The number one in every entry, and the logistic the reference takes. -/
def ones : FVec Ideal S16384x2816 .f32 := broadcastInDim S16384x2816 ![] bcast_S_S16384x2816 (constant S_ .f32 0x3F800000#32)
def sig (u : FVec Ideal S16384x2816 .f32) : FVec Ideal S16384x2816 .f32 := Host.divf ones (addf ones (Host.exp (Host.negf u)))

/-- The reference's two gradients. -/
def gradU (u v g : FVec Ideal S16384x2816 .f32) : FVec Ideal S16384x2816 .f32 :=
  addf (mulf (mulf g v) (sig u)) (mulf (mulf u (mulf g v)) (mulf (sig u) (subf ones (sig u))))
def gradV (u g : FVec Ideal S16384x2816 .f32) : FVec Ideal S16384x2816 .f32 := mulf (mulf u (sig u)) g

/-- Their entries. -/
theorem gradU_at (u v g : S16384x2816.Idx → EReal) (k : S16384x2816.Idx) :
    gradU u v g k = g k * v k * Ideal.logistic (u k) + u k * (g k * v k) * (Ideal.logistic (u k) * (1 - Ideal.logistic (u k))) := by
  pointwise [gradU, sig, ones]
  rfl
theorem gradV_at (u g : S16384x2816.Idx → EReal) (k : S16384x2816.Idx) : gradV u g k = u k * Ideal.logistic (u k) * g k := by
  pointwise [gradV, sig, ones]
  rfl

/-- Over reals the gradient of the gated product is a real. -/
theorem grad_real (dy : S16384x1024.Idx → EReal) (w : S2816x1024.Idx → EReal) (hd : ∀ i, dy i = ((dy i).toReal : EReal))
    (hw : ∀ i, w i = ((w i).toReal : EReal)) (i : Fin 16384) (j : Fin 2816) : ∃ r : ℝ, grad dy w i j = (r : EReal) := by
  refine ⟨∑ k : Fin 1024, (dy (ix2 i k)).toReal * (w (ix2 j k)).toReal, ?_⟩
  rw [← Cert.Attn.coe_sum]
  exact Finset.sum_congr rfl fun k _ => by rw [EReal.coe_mul, ← hd, ← hw]

/-- The reference's first gradient is the kernel's array, over a finite rest of the product. -/
theorem gradU_eq (u v : S16384x2816.Idx → EReal) (dy : S16384x1024.Idx → EReal) (w : S2816x1024.Idx → EReal) (hv : ∀ i, v i = ((v i).toReal : EReal))
    (hd : ∀ i, dy i = ((dy i).toReal : EReal)) (hw : ∀ i, w i = ((w i).toReal : EReal)) : gradU u v (dot dy w) = backUs u v dy w := by
  funext y
  obtain ⟨p, q, rfl⟩ : ∃ (p : Fin 16384) (q : Fin 2816), y = ix2 p q := ⟨y 0, y 1, Cert.Ffn.pair_ext _ _ _ rfl rfl⟩
  obtain ⟨r, hr⟩ := grad_real dy w hd hw p q
  show _ = backU (u (ix2 p q)) (v (ix2 p q)) (grad dy w p q)
  rw [gradU_at, dot_at, backU, hr, hv, ← EReal.coe_mul]
  exact two_terms _ _

/-- The reference's second gradient is the kernel's array. -/
theorem gradV_eq (u : S16384x2816.Idx → EReal) (dy : S16384x1024.Idx → EReal) (w : S2816x1024.Idx → EReal) : gradV u (dot dy w) = backVs u dy w := by
  funext y
  obtain ⟨p, q, rfl⟩ : ∃ (p : Fin 16384) (q : Fin 2816), y = ix2 p q := ⟨y 0, y 1, Cert.Ffn.pair_ext _ _ _ rfl rfl⟩
  rw [gradV_at, dot_at]
  exact mul_comm _ _

end Cert.Reference5Ideal.Mid

end
-- ==== Proof.Feed.lean ====
/-
The claims of the feed-forward layer's calls and of the state-space mixer's input projection: that each keeps its arguments and comes to rest, and that its results are the reference's.
-/
module

public import proofs.«01_k».proof.Defs
public import proofs.«01_k».proof.Proof.Dw1
public import proofs.«01_k».proof.Proof.Dw2
public import proofs.«01_k».proof.Proof.Dh
public import proofs.«01_k».proof.Proof.Mid
public import proofs.«01_k».proof.Proof.Out
public import proofs.«01_k».proof.Proof.SsdIn
public import proofs.«01_k».proof.Proof.SsdDw
public import proofs.«01_k».proof.Proof.SsdDh
public import proofs.«01_k».proof.Proof.MidBack
public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.Gen.Kernel6
public import proofs.«01_k».proof.Proof.Gen.Kernel7
public import proofs.«01_k».proof.Proof.Gen.Kernel8
public import proofs.«01_k».proof.Proof.Gen.Kernel9
public import proofs.«01_k».proof.Proof.Gen.Kernel10
public import Idealize.ShloMosaic.Lib.Quiescent
public import Idealize.ShloMosaic.Adequacy
public import Idealize.ShloMosaic.Init

@[expose] public section

set_option maxRecDepth 16384
set_option maxHeartbeats 400000
set_option Elab.async false

noncomputable section

namespace Cert.Proof

open Idealize.ShloMosaic Idealize.SL.Sem

/-- As printed, the product for the weights of the two projections keeps its arguments and comes to rest: its text is the idealized program's, whose run is over any numbers. -/
theorem frame_kernel2 : Cert.quiescent_Kernel2 (hKernel2 := Cert.Kernel2.Gen.facts) := by
  refine cast ?_ (fun m g (_ : True) => Cert.Kernel2Ideal.Gen.frame (F := Bits) m g)
  chain_rfl

/-- The same over the extended reals. -/
theorem frame_ideal2 : Cert.quiescent_Kernel2Ideal (hKernel2Ideal := Cert.Kernel2Ideal.Gen.facts) := fun m g _ => Cert.Kernel2Ideal.Gen.frame m g

/-- Its reference keeps its arguments and comes to rest. -/
theorem frame_reference2 : Cert.quiescent_Reference2Ideal (hReference2Ideal := Cert.Reference2Ideal.Gen.facts) :=
  fun m g _ => (θ_run Cert.Reference2Ideal.defs _ _).mono (fun r h => ⟨fun c => (h c).2, sem_eq_zero_of_no_sems (by decide) r.2⟩)
    (Cert.Reference2Ideal.Value.run m g)

/-- The call's result is the reference's. -/
theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Value.G2 m c, (θ_run Cert.Kernel2Ideal.defs _ _).mono (fun r h c => h c) (Cert.Kernel2Ideal.Value.run m g),
    (θ_run Cert.Reference2Ideal.defs _ _).mono (fun r h c => ⟨(h c).1.trans ?_, (h c).2⟩) (Cert.Reference2Ideal.Value.run m' g')⟩
  obtain ⟨e0, e1⟩ := hargs c
  rw [e0, e1]
  funext y
  obtain ⟨p, q, rfl⟩ : ∃ p q, y = ix2 p q := ⟨y 0, y 1, Cert.Ffn.pair_ext _ _ _ rfl rfl⟩
  exact (Cert.Reference2Ideal.Product.result_at _ _ p q).trans (Cert.Kernel2Ideal.Product.result_at m c p q).symm

/-- As printed, the product for the last weights keeps its arguments and comes to rest: its text is the idealized program's, whose run is over any numbers. -/
theorem frame_kernel3 : Cert.quiescent_Kernel3 (hKernel3 := Cert.Kernel3.Gen.facts) := by
  refine cast ?_ (fun m g (_ : True) => Cert.Kernel3Ideal.Gen.frame (F := Bits) m g)
  chain_rfl

/-- The same over the extended reals. -/
theorem frame_ideal3 : Cert.quiescent_Kernel3Ideal (hKernel3Ideal := Cert.Kernel3Ideal.Gen.facts) := fun m g _ => Cert.Kernel3Ideal.Gen.frame m g

/-- Its reference keeps its arguments and comes to rest. -/
theorem frame_reference3 : Cert.quiescent_Reference3Ideal (hReference3Ideal := Cert.Reference3Ideal.Gen.facts) :=
  fun m g _ => (θ_run Cert.Reference3Ideal.defs _ _).mono (fun r h => ⟨fun c => (h c).2, sem_eq_zero_of_no_sems (by decide) r.2⟩)
    (Cert.Reference3Ideal.Value.run m g)

/-- The call's result is the reference's. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Value.G2 m c, (θ_run Cert.Kernel3Ideal.defs _ _).mono (fun r h c => h c) (Cert.Kernel3Ideal.Value.run m g),
    (θ_run Cert.Reference3Ideal.defs _ _).mono (fun r h c => ⟨(h c).1.trans ?_, (h c).2⟩) (Cert.Reference3Ideal.Value.run m' g')⟩
  obtain ⟨e0, e1⟩ := hargs c
  rw [e0, e1]
  funext y
  obtain ⟨p, q, rfl⟩ : ∃ p q, y = ix2 p q := ⟨y 0, y 1, Cert.Ffn.pair_ext _ _ _ rfl rfl⟩
  exact (Cert.Reference3Ideal.Product.result_at _ _ p q).trans (Cert.Kernel3Ideal.Product.result_at m c p q).symm

/-- As printed, the gradient of the layer's input keeps its arguments and comes to rest: its text is the idealized program's, whose run is over any numbers. -/
theorem frame_kernel4 : Cert.quiescent_Kernel4 (hKernel4 := Cert.Kernel4.Gen.facts) := by
  refine cast ?_ (fun m g (_ : True) => Cert.Kernel4Ideal.Gen.frame (F := Bits) m g)
  chain_rfl

/-- The same over the extended reals. -/
theorem frame_ideal4 : Cert.quiescent_Kernel4Ideal (hKernel4Ideal := Cert.Kernel4Ideal.Gen.facts) := fun m g _ => Cert.Kernel4Ideal.Gen.frame m g

/-- Its reference keeps its arguments and comes to rest. -/
theorem frame_reference4 : Cert.quiescent_Reference4Ideal (hReference4Ideal := Cert.Reference4Ideal.Gen.facts) :=
  fun m g _ => (θ_run Cert.Reference4Ideal.defs _ _).mono (fun r h => ⟨fun c => (h c).2, sem_eq_zero_of_no_sems (by decide) r.2⟩)
    (Cert.Reference4Ideal.Value.run m g)

/-- The call's result is the reference's. -/
theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.Value.G4 m c, (θ_run Cert.Kernel4Ideal.defs _ _).mono (fun r h c => h c) (Cert.Kernel4Ideal.Value.run m g),
    (θ_run Cert.Reference4Ideal.defs _ _).mono (fun r h c => ⟨(h c).1.trans ?_, (h c).2⟩) (Cert.Reference4Ideal.Value.run m' g')⟩
  obtain ⟨e0, e1, e2, e3⟩ := hargs c
  rw [e0, e1, e2, e3]
  funext y
  obtain ⟨p, q, rfl⟩ : ∃ p q, y = ix2 p q := ⟨y 0, y 1, Cert.Ffn.pair_ext _ _ _ rfl rfl⟩
  exact (Cert.Reference4Ideal.Product.result_at _ _ _ _ p q).trans (Cert.Kernel4Ideal.Product.result_at m c p q).symm

/-- As printed, the gradient of the middle of the layer keeps its arguments and comes to rest: its text is the idealized program's, whose run is over any numbers. -/
theorem frame_kernel5 : Cert.quiescent_Kernel5 (hKernel5 := Cert.Kernel5.Gen.facts) := by
  refine cast ?_ (fun m g (_ : True) => Cert.Kernel5Ideal.Gen.frame (F := Bits) m g)
  chain_rfl

/-- The same over the extended reals. -/
theorem frame_ideal5 : Cert.quiescent_Kernel5Ideal (hKernel5Ideal := Cert.Kernel5Ideal.Gen.facts) := fun m g _ => Cert.Kernel5Ideal.Gen.frame m g

/-- Its reference keeps its arguments and comes to rest. -/
theorem frame_reference5 : Cert.quiescent_Reference5Ideal (hReference5Ideal := Cert.Reference5Ideal.Gen.facts) :=
  fun m g _ => (θ_run Cert.Reference5Ideal.defs _ _).mono (fun r h => ⟨fun c => (h c).2.2, sem_eq_zero_of_no_sems (by decide) r.2⟩)
    (Cert.Reference5Ideal.Value.run m g)

/-- Where the second factor, the incoming gradient and the weights are finite the two gradients are the reference's. -/
theorem algebraic5 : Cert.algebraic_Kernel5Ideal_Reference5Ideal_pre_finite5 (hKernel5Ideal := Cert.Kernel5Ideal.Gen.facts)
    (hReference5Ideal := Cert.Reference5Ideal.Gen.facts) (hPre_finite5 := Cert.Pre_finite5.holds) := by
  intro m g m' g' hpre hargs
  refine ⟨_, _, (θ_run Cert.Kernel5Ideal.defs _ _).mono (fun r h c => ⟨(h c).1.trans (Cert.Kernel5Ideal.Mid.final4 m c), (h c).2.1.trans (Cert.Kernel5Ideal.Mid.final5 m c), (h c).2.2⟩)
      (Cert.Kernel5Ideal.Value.run_blocks m g),
    (θ_run Cert.Reference5Ideal.defs _ _).mono (fun r h c => ⟨(h c).1.trans ?_, (h c).2.1.trans ?_, (h c).2.2⟩) (Cert.Reference5Ideal.Value.run m' g')⟩
  · obtain ⟨e0, e1, e2, e3⟩ := hargs c
    have hr := @Cert.Pre_finite5.real_args Cert.Pre_finite5.holds _ _ _ _ (hpre c)
    rw [e0, e1, e2, e3]
    exact Cert.Reference5Ideal.Mid.gradU_eq _ _ _ _ hr.1 hr.2.1 hr.2.2
  · obtain ⟨e0, e1, e2, e3⟩ := hargs c
    rw [e0, e2, e3]
    exact Cert.Reference5Ideal.Mid.gradV_eq _ _ _

/-- As printed, the forward pass of the middle of the layer keeps its arguments and comes to rest: its text is the idealized program's, whose run is over any numbers. -/
theorem frame_kernel6 : Cert.quiescent_Kernel6 (hKernel6 := Cert.Kernel6.Gen.facts) := by
  refine cast ?_ (fun m g (_ : True) => Cert.Kernel6Ideal.Gen.frame (F := Bits) m g)
  chain_rfl

/-- The same over the extended reals. -/
theorem frame_ideal6 : Cert.quiescent_Kernel6Ideal (hKernel6Ideal := Cert.Kernel6Ideal.Gen.facts) := fun m g _ => Cert.Kernel6Ideal.Gen.frame m g

/-- Its reference keeps its arguments and comes to rest. -/
theorem frame_reference6 : Cert.quiescent_Reference6Ideal (hReference6Ideal := Cert.Reference6Ideal.Gen.facts) :=
  fun m g _ => (θ_run Cert.Reference6Ideal.defs _ _).mono (fun r h => ⟨fun c => (h c).2.2.2, sem_eq_zero_of_no_sems (by decide) r.2⟩)
    (Cert.Reference6Ideal.Value.run m g)

/-- The gated product and the two projections are the reference's. -/
theorem algebraic6 : Cert.algebraic_Kernel6Ideal_Reference6Ideal (hKernel6Ideal := Cert.Kernel6Ideal.Gen.facts) (hReference6Ideal := Cert.Reference6Ideal.Gen.facts) := by
  intro m g m' g' _ hargs
  refine ⟨_, _, _, (θ_run Cert.Kernel6Ideal.defs _ _).mono (fun r h c => ⟨(h c).1.trans (Cert.Kernel6Ideal.Mid.final3 m c), (h c).2.1.trans (Cert.Kernel6Ideal.Mid.final4 m c),
      (h c).2.2.1.trans (Cert.Kernel6Ideal.Mid.final5 m c), (h c).2.2.2⟩) (Cert.Kernel6Ideal.Value.run_blocks m g),
    (θ_run Cert.Reference6Ideal.defs _ _).mono (fun r h c => ⟨(h c).1.trans ?_, (h c).2.1.trans ?_, (h c).2.2.1.trans ?_, (h c).2.2.2⟩) (Cert.Reference6Ideal.Value.run m' g')⟩
  · obtain ⟨e0, e1, e2⟩ := hargs c
    rw [e0, e1, e2]
    exact Cert.Reference6Ideal.Mid.gate_eq _ _ _
  · obtain ⟨e0, e1, e2⟩ := hargs c
    rw [e0, e1]
    exact Cert.Reference6Ideal.Mid.dot_eq _ _
  · obtain ⟨e0, e1, e2⟩ := hargs c
    rw [e0, e2]
    exact Cert.Reference6Ideal.Mid.dot_eq _ _

/-- As printed, the last product with its gated residual keeps its arguments and comes to rest: its text is the idealized program's, whose run is over any numbers. -/
theorem frame_kernel7 : Cert.quiescent_Kernel7 (hKernel7 := Cert.Kernel7.Gen.facts) := by
  refine cast ?_ (fun m g (_ : True) => Cert.Kernel7Ideal.Gen.frame (F := Bits) m g)
  chain_rfl

/-- The same over the extended reals. -/
theorem frame_ideal7 : Cert.quiescent_Kernel7Ideal (hKernel7Ideal := Cert.Kernel7Ideal.Gen.facts) := fun m g _ => Cert.Kernel7Ideal.Gen.frame m g

/-- Its reference keeps its arguments and comes to rest. -/
theorem frame_reference7 : Cert.quiescent_Reference7Ideal (hReference7Ideal := Cert.Reference7Ideal.Gen.facts) :=
  fun m g _ => (θ_run Cert.Reference7Ideal.defs _ _).mono (fun r h => ⟨fun c => (h c).2, sem_eq_zero_of_no_sems (by decide) r.2⟩)
    (Cert.Reference7Ideal.Value.run m g)

/-- The residual plus half the gate times the product is the reference's. -/
theorem algebraic7 : Cert.algebraic_Kernel7Ideal_Reference7Ideal (hKernel7Ideal := Cert.Kernel7Ideal.Gen.facts) (hReference7Ideal := Cert.Reference7Ideal.Gen.facts) := by
  intro m g m' g' _ hargs
  refine ⟨fun c => Cert.Kernel7Ideal.Value.G4 m c, (θ_run Cert.Kernel7Ideal.defs _ _).mono (fun r h c => h c) (Cert.Kernel7Ideal.Value.run m g),
    (θ_run Cert.Reference7Ideal.defs _ _).mono (fun r h c => ⟨(h c).1.trans ?_, (h c).2⟩) (Cert.Reference7Ideal.Value.run m' g')⟩
  obtain ⟨e0, e1, e2, e3⟩ := hargs c
  rw [e0, e1, e2, e3]
  funext y
  obtain ⟨p, q, rfl⟩ : ∃ p q, y = ix2 p q := ⟨y 0, y 1, Cert.Ffn.pair_ext _ _ _ rfl rfl⟩
  exact (Cert.Reference7Ideal.Product.result_at _ _ _ _ p q).trans (Cert.Kernel7Ideal.Product.result_at m c p q).symm

/-- As printed, the state-space mixer's input projection keeps its arguments and comes to rest: its text is the idealized program's, whose run is over any numbers. -/
theorem frame_kernel8 : Cert.quiescent_Kernel8 (hKernel8 := Cert.Kernel8.Gen.facts) := by
  refine cast ?_ (fun m g (_ : True) => Cert.Kernel8Ideal.Gen.frame (F := Bits) m g)
  chain_rfl

/-- The same over the extended reals. -/
theorem frame_ideal8 : Cert.quiescent_Kernel8Ideal (hKernel8Ideal := Cert.Kernel8Ideal.Gen.facts) := fun m g _ => Cert.Kernel8Ideal.Gen.frame m g

/-- Its reference keeps its arguments and comes to rest. -/
theorem frame_reference8 : Cert.quiescent_Reference8Ideal (hReference8Ideal := Cert.Reference8Ideal.Gen.facts) :=
  fun m g _ => (θ_run Cert.Reference8Ideal.defs _ _).mono (fun r h => ⟨fun c => (h c).2, sem_eq_zero_of_no_sems (by decide) r.2⟩)
    (Cert.Reference8Ideal.Value.run m g)

/-- The state-space mixer's input projection is the reference's. -/
theorem algebraic8 : Cert.algebraic_Kernel8Ideal_Reference8Ideal (hKernel8Ideal := Cert.Kernel8Ideal.Gen.facts) (hReference8Ideal := Cert.Reference8Ideal.Gen.facts) := by
  intro m g m' g' _ hargs
  refine ⟨_, (θ_run Cert.Kernel8Ideal.defs _ _).mono (fun r h c => ⟨(h c).1.trans (Cert.Kernel8Ideal.Product.final2 m c), (h c).2⟩) (Cert.Kernel8Ideal.Value.run_blocks m g),
    (θ_run Cert.Reference8Ideal.defs _ _).mono (fun r h c => ⟨(h c).1.trans ?_, (h c).2⟩) (Cert.Reference8Ideal.Value.run m' g')⟩
  obtain ⟨e0, e1⟩ := hargs c
  rw [e0, e1]
  exact Cert.Reference8Ideal.Product.result_eq _ _

/-- As printed, the gradient of that projection's weights keeps its arguments and comes to rest: its text is the idealized program's, whose run is over any numbers. -/
theorem frame_kernel9 : Cert.quiescent_Kernel9 (hKernel9 := Cert.Kernel9.Gen.facts) := by
  refine cast ?_ (fun m g (_ : True) => Cert.Kernel9Ideal.Gen.frame (F := Bits) m g)
  chain_rfl

/-- The same over the extended reals. -/
theorem frame_ideal9 : Cert.quiescent_Kernel9Ideal (hKernel9Ideal := Cert.Kernel9Ideal.Gen.facts) := fun m g _ => Cert.Kernel9Ideal.Gen.frame m g

/-- Its reference keeps its arguments and comes to rest. -/
theorem frame_reference9 : Cert.quiescent_Reference9Ideal (hReference9Ideal := Cert.Reference9Ideal.Gen.facts) :=
  fun m g _ => (θ_run Cert.Reference9Ideal.defs _ _).mono (fun r h => ⟨fun c => (h c).2, sem_eq_zero_of_no_sems (by decide) r.2⟩)
    (Cert.Reference9Ideal.Value.run m g)

/-- The gradient of the projection's weights is the reference's. -/
theorem algebraic9 : Cert.algebraic_Kernel9Ideal_Reference9Ideal (hKernel9Ideal := Cert.Kernel9Ideal.Gen.facts) (hReference9Ideal := Cert.Reference9Ideal.Gen.facts) := by
  intro m g m' g' _ hargs
  refine ⟨fun c => Cert.Kernel9Ideal.Value.G2 m c, (θ_run Cert.Kernel9Ideal.defs _ _).mono (fun r h c => h c) (Cert.Kernel9Ideal.Value.run m g),
    (θ_run Cert.Reference9Ideal.defs _ _).mono (fun r h c => ⟨(h c).1.trans ?_, (h c).2⟩) (Cert.Reference9Ideal.Value.run m' g')⟩
  obtain ⟨e0, e1⟩ := hargs c
  rw [e0, e1]
  funext y
  obtain ⟨p, q, rfl⟩ : ∃ p q, y = ix2 p q := ⟨y 0, y 1, Cert.Ffn.pair_ext _ _ _ rfl rfl⟩
  exact (Cert.Reference9Ideal.Product.result_at _ _ p q).trans (Cert.Kernel9Ideal.Product.result_at m c p q).symm

/-- As printed, the gradient of that projection's input keeps its arguments and comes to rest: its text is the idealized program's, whose run is over any numbers. -/
theorem frame_kernel10 : Cert.quiescent_Kernel10 (hKernel10 := Cert.Kernel10.Gen.facts) := by
  refine cast ?_ (fun m g (_ : True) => Cert.Kernel10Ideal.Gen.frame (F := Bits) m g)
  chain_rfl

/-- The same over the extended reals. -/
theorem frame_ideal10 : Cert.quiescent_Kernel10Ideal (hKernel10Ideal := Cert.Kernel10Ideal.Gen.facts) := fun m g _ => Cert.Kernel10Ideal.Gen.frame m g

/-- Its reference keeps its arguments and comes to rest. -/
theorem frame_reference10 : Cert.quiescent_Reference10Ideal (hReference10Ideal := Cert.Reference10Ideal.Gen.facts) :=
  fun m g _ => (θ_run Cert.Reference10Ideal.defs _ _).mono (fun r h => ⟨fun c => (h c).2, sem_eq_zero_of_no_sems (by decide) r.2⟩)
    (Cert.Reference10Ideal.Value.run m g)

/-- The gradient of the projection's input is the reference's. -/
theorem algebraic10 : Cert.algebraic_Kernel10Ideal_Reference10Ideal (hKernel10Ideal := Cert.Kernel10Ideal.Gen.facts) (hReference10Ideal := Cert.Reference10Ideal.Gen.facts) := by
  intro m g m' g' _ hargs
  refine ⟨fun c => Cert.Kernel10Ideal.Value.G2 m c, (θ_run Cert.Kernel10Ideal.defs _ _).mono (fun r h c => h c) (Cert.Kernel10Ideal.Value.run m g),
    (θ_run Cert.Reference10Ideal.defs _ _).mono (fun r h c => ⟨(h c).1.trans ?_, (h c).2⟩) (Cert.Reference10Ideal.Value.run m' g')⟩
  obtain ⟨e0, e1⟩ := hargs c
  rw [e0, e1]
  funext y
  obtain ⟨p, q, rfl⟩ : ∃ p q, y = ix2 p q := ⟨y 0, y 1, Cert.Ffn.pair_ext _ _ _ rfl rfl⟩
  exact (Cert.Reference10Ideal.Product.result_at _ _ p q).trans (Cert.Kernel10Ideal.Product.result_at m c p q).symm

end Cert.Proof

end
-- ==== Proof.Step.lean ====
/-
What one grid step of the attention gradient computes, and what its loads and stores are in those terms.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.FrameValue
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Lib.Pointwise
public import Idealize.ShloMosaic.Adequacy
public import Idealize.ShloMosaic.Lib.Pipeline.Value
public import Idealize.ShloMosaic.Lib.ValueLayout
public import Idealize.ShloMosaic.Init

@[expose] public section

set_option maxRecDepth 16384
set_option Elab.async false

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table of row tiles and the table of column tiles, the running gradient of `q`, its result array. -/
abbrev tabI : Memref sig .tc .smem S136 .i32 := Memref.whole main_c
abbrev tabJ : Memref sig .tc .smem S136 .i32 := Memref.whole main_c_0
abbrev accM : Memref sig .tc .vmem S16384x256 .f32 := Memref.whole cc0_scratch0
abbrev dqM : Memref sig .tc .hbm S4x16384x256 .f32 := Memref.whole main_v50_0

/-- The word of a table that the step at coordinates `i` reads. -/
abbrev wordAt (tb : Memref sig .tc .smem S136 .i32) (i : grid0.Coords)
    (T : Buf (Elt F) (tb.view.loc ((0 : Dev nD).tc : Thread nD τ))) : Elt F .i32 :=
  View.readAt (Elt F) tb.view (Rect.unit (s := S136) (k0_off1 i) S1.size (k0_off1_inb i)).toLoadRect T
    (Shape.Idx.first (numel1_S1.symm ▸ Nat.one_pos))

variable (c : Dev nD) (i : grid0.Coords)
  (arg4 : Memref sig .tc .vmem S1024x256 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x128 .bf16) (harg10 : arg10.IsWhole)
  (arg12 : Memref sig .tc .vmem S1024x256 .f32) (harg12 : arg12.IsWhole)
  (arg13 : Memref sig .tc .vmem S1024x128 .f32) (harg13 : arg13.IsWhole)
  (T0 T1 : S136.Idx → Elt F .i32)
  (x0 : S1024x256.Idx → Elt F .bf16) (x1 x2 x3 : S1024x128.Idx → Elt F .bf16)
  (x4 x5 : S1024x128.Idx → Elt F .f32) (x6 : S1024x128.Idx → Elt F .bf16)
  (y7 : S1024x256.Idx → Elt F .f32) (y8 : S1024x128.Idx → Elt F .f32)
  (a : S16384x256.Idx → Elt F .f32)

/-- What every step holds and gives back unchanged: the seven input blocks and the body's halves of the tables. -/
def held : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (arg10.view.loc (c : Thread nD τ) ↦[arg10.view.set]{fullShare} arg10.view.rep x6)
    ∗ (tabI.view.loc (c : Thread nD τ) ↦{fullShare.right} T0)
    ∗ (tabJ.view.loc (c : Thread nD τ) ↦{fullShare.right} T1))

/-- The first column of a block of row statistics. -/
def firstCol (x : S1024x128.Idx → Elt F .f32) : S1024x1.Idx → Elt F .f32 :=
  VecWindow.window x ![0, 0] S1024x1.size inb_S1024x128_S1024x1_0_0

/-- The new gradient block of the keys: set on the diagonal, added to below it. -/
def stepK (d : Bool) : S1024x256.Idx → Elt F .f32 :=
  if d then k0_pay17 x0 x6 (k0_pay10 x1 x2 x0 (firstCol x4)) k0_pay11 (iota .tc S1024x1024 32 [0] iota_S1024x1024_d0_w32) 64#32
    k0_pay12 k0_pay13 x3 (firstCol x5)
  else k0_pay8 x1 x2 x0 x6 (firstCol x4) x3 (firstCol x5) y7

/-- The new gradient block of the values: set on the diagonal, added to below it. -/
def stepV (d : Bool) : S1024x128.Idx → Elt F .f32 :=
  if d then k0_pay15 x6 (k0_pay10 x1 x2 x0 (firstCol x4)) k0_pay11 (iota .tc S1024x1024 32 [0] iota_S1024x1024_d0_w32) 64#32
    k0_pay12 k0_pay13
  else k0_pay6 x1 x2 x0 x6 (firstCol x4) y8

/-- The running gradient of the queries as a step finds it: cleared at the first step of a head. -/
def stepClear (z : Bool) : S16384x256.Idx → Elt F .f32 := if z then k0_pay1 else a

/-- The rows a step with row tile `w` adds to are inside the running gradient. -/
def RowsIn (w : BitVec 32) : Prop := ∀ x, (k0_off2 w) x + S1024x256.size x ≤ S16384x256.size x

/-- The running gradient of the queries after a step: the row tile's rows plus this tile's share. -/
def stepQ (d z : Bool) (w : BitVec 32) (hw : RowsIn w) : S16384x256.Idx → Elt F .f32 :=
  VecWindow.put (stepClear a z) (k0_off2 w) S1024x256.size
    (if d then
      k0_pay3 (k0_pay9 x1 x2) (k0_pay16 x6 (k0_pay10 x1 x2 x0 (firstCol x4)) k0_pay11 (iota .tc S1024x1024 32 [0] iota_S1024x1024_d0_w32)
        64#32 k0_pay12 k0_pay13 x3 (firstCol x5)) (VecWindow.window (stepClear a z) (k0_off2 w) S1024x256.size hw)
    else
      k0_pay2 (k0_pay4 x1 x2) (k0_pay7 x1 x2 x0 x6 (firstCol x4) x3 (firstCol x5))
        (VecWindow.window (stepClear a z) (k0_off2 w) S1024x256.size hw))

/-- The word of a bit of control. -/
abbrev zeroBit (i : grid0.Coords) : BitVec 1 :=
  Scalar.cmpi .ne (Scalar.extui (Scalar.cmpi .eq (BitVec.ofNat 32 (i 1).val) 0#32) : BitVec 32) 0#32

variable (g : S4x16384x256.Idx → Elt F .f32)

/-- The result array of the query gradients after a step: at a head's last step the head's rows are the running gradient. -/
def stepD (l : Bool) (a' : S16384x256.Idx → Elt F .f32) : S4x16384x256.Idx → Elt F .f32 := fun j =>
  if l = true ∧ (j 0).val = (i 0).val then a' (ix2 (j 1) (j 2)) else g j

/-- At any other step the result array stays. -/
theorem stepD_false (a' : S16384x256.Idx → Elt F .f32) : stepD i g false a' = g :=
  funext fun _ => if_neg fun h => Bool.false_ne_true h.1

theorem off3_eq (w : BitVec 32) : k0_off3 w = k0_off2 w := rfl

/-- Reading the whole running gradient gives its contents. -/
theorem acc_read (f : S16384x256.Idx → Elt F .f32) : accM.view.read (Elt F) f = f := View.read_whole _ _

/-- Rows stored over the running gradient. -/
theorem acc_writes (w : BitVec 32) (hw : RowsIn w) (v : S1024x256.Idx → Elt F .f32) (f : S16384x256.Idx → Elt F .f32)
    (L : List (View.Piece (Elt F) S16384x256 .f32)) :
    accM.view.writes (Elt F) f (⟨Rect.unit (k0_off2 w) S1024x256.size hw, v⟩ :: L)
      = VecWindow.put (accM.view.writes (Elt F) f L) (k0_off2 w) S1024x256.size v := by
  have h := View.read_writes_cons_put accM.view f hw v L rfl
  rw [acc_read, acc_read] at h
  exact h

/-- The running gradient stored whole. -/
theorem acc_full (f w : S16384x256.Idx → Elt F .f32) :
    accM.view.writes (Elt F) f [⟨Rect.unit (s := S16384x256) ![0, 0] S16384x256.size inb_S16384x256_S16384x256_0_0, w⟩] = w := by
  have h := View.read_writes_full accM.view f inb_S16384x256_S16384x256_0_0 w []
  rw [acc_read] at h
  exact h

/-- A load of a whole block reads the block. -/
theorem load_block (v : View sig .tc .vmem S1024x128 .bf16) (x : S1024x128.Idx → Elt F .bf16) :
    v.readAt (Elt F) (Rect.unit (s := S1024x128) ![0, 0] S1024x128.size inb_S1024x128_S1024x128_0_0).toLoadRect (v.rep x) = x :=
  View.readAt_rep_full v x _
/-- The same of a block of sums. -/
theorem load_sum (v : View sig .tc .vmem S1024x128 .f32) (x : S1024x128.Idx → Elt F .f32) :
    v.readAt (Elt F) (Rect.unit (s := S1024x128) ![0, 0] S1024x128.size inb_S1024x128_S1024x128_0_0).toLoadRect (v.rep x) = x :=
  View.readAt_rep_full v x _
/-- The same of a wide block of either type. -/
theorem load_wide {e : EltTy} (v : View sig .tc .vmem S1024x256 e) (x : S1024x256.Idx → Elt F e) :
    v.readAt (Elt F) (Rect.unit (s := S1024x256) ![0, 0] S1024x256.size inb_S1024x256_S1024x256_0_0).toLoadRect (v.rep x) = x :=
  View.readAt_rep_full v x _
/-- A load of the first column of a block of row statistics. -/
theorem load_col (v : View sig .tc .vmem S1024x128 .f32) (x : S1024x128.Idx → Elt F .f32) :
    v.readAt (Elt F) (Rect.unit (s := S1024x128) ![0, 0] S1024x1.size inb_S1024x128_S1024x1_0_0).toLoadRect (v.rep x) = firstCol x :=
  View.readAt_rep_unit v x _ rfl _
/-- A load of a row tile of the running gradient. -/
theorem load_rows (w : BitVec 32) (hw : RowsIn w) (f : S16384x256.Idx → Elt F .f32) :
    accM.view.readAt (Elt F) (Rect.unit (s := S16384x256) (k0_off2 w) S1024x256.size hw).toLoadRect f
      = VecWindow.window f (k0_off2 w) S1024x256.size hw :=
  View.readAt_unit accM.view f hw rfl hw

theorem pt_of_eq {ℓ : Loc nD τ sig} {q : PosShare TreeShare} {f f' : Buf (Elt F) ℓ} (h : f = f') :
    (ℓ ↦{q} f : sProp 𝕄) ⊢ (ℓ ↦{q} f') := by rw [h]

/-- The running gradient sent to a head's part of the result array. -/
theorem dq_write (inb : ∀ a, (k0_off4 i) a + S1x16384x256.size a ≤ S4x16384x256.size a)
    (f : S16384x256.Idx → Elt F .f32) :
    View.write (Elt F) ((dqM.slice (Rect.unit (s := S4x16384x256) (k0_off4 i) S1x16384x256.size inb) (fun _ => rfl)).squeeze S16384x256
      squeezes_S1x16384x256_S16384x256).view g f Finset.univ = stepD i g true f := by
  have e4 : k0_off4 i = ![(i 0).val, 0, 0] := k0_off4_eq i
  refine (View.write_reshape_univ ((View.whole main_v50_0).slice (Rect.unit (s := S4x16384x256) (k0_off4 i) S1x16384x256.size inb)) squeezes_S1x16384x256_S16384x256.numel_eq g f).trans ?_
  refine (View.write_whole_slice_unit main_v50_0 (k0_off4 i) S1x16384x256.size inb g _).trans ?_
  funext j
  unfold updateSlice stepD
  have hiff : (∀ a : Fin 3, (k0_off4 i) a ≤ (j a).val ∧ (j a).val < (k0_off4 i) a + S1x16384x256.size a) ↔ (j 0).val = (i 0).val := by
    rw [e4]
    constructor
    · intro h
      have h0 := h 0
      have h1 : (i 0).val ≤ (j 0).val := h0.1
      have h2 : (j 0).val < (i 0).val + 1 := h0.2
      omega
    · intro h a
      have hj := (j a).isLt
      match a with
      | ⟨0, _⟩ => exact ⟨h.ge, by show (j 0).val < (i 0).val + 1; omega⟩
      | ⟨1, _⟩ => exact ⟨Nat.zero_le _, by show (j 1).val < 0 + 16384; have : (j 1).val < 16384 := (j 1).isLt; omega⟩
      | ⟨2, _⟩ => exact ⟨Nat.zero_le _, by show (j 2).val < 0 + 256; have : (j 2).val < 256 := (j 2).isLt; omega⟩
  by_cases h : (j 0).val = (i 0).val
  · refine (dif_pos (hiff.mpr h)).trans (Eq.trans ?_ (if_pos ⟨rfl, h⟩).symm)
    refine congrArg f ?_
    rw [Equiv.symm_apply_eq]
    refine Eq.trans ?_ (ValueIdx.reshapeEquiv_ix2_1ab _ (j 1) (j 2)).symm
    funext a
    apply Fin.ext
    match a with
    | ⟨0, _⟩ => show (j 0).val - (k0_off4 i) 0 = 0; rw [e4]; show (j 0).val - (i 0).val = 0; omega
    | ⟨1, _⟩ => show (j 1).val - (k0_off4 i) 1 = (j 1).val; rw [e4]; show (j 1).val - 0 = (j 1).val; omega
    | ⟨2, _⟩ => show (j 2).val - (k0_off4 i) 2 = (j 2).val; rw [e4]; show (j 2).val - 0 = (j 2).val; omega
  · exact (dif_neg fun hh => h (hiff.mp hh)).trans (if_neg fun hh => h hh.2).symm

end Cert.KernelIdeal.Step

end
-- ==== Proof.Sched.lean ====
/-
The schedule of the attention gradient: 544 steps, head by head, each head's 136 tiles on and below the diagonal column by
column. The two tables name a step's row tile and column tile; what follows from their words is decided here.
-/
module

public import proofs.«01_k».proof.Proof.Step

@[expose] public section

set_option maxRecDepth 16384
set_option Elab.async false

noncomputable section

namespace Cert.KernelIdeal.Step

open Cert.KernelIdeal Cert.KernelIdeal.Gen
open Idealize.ShloMosaic Idealize.ShloMosaic.TcCoe Idealize.ShloMosaic.Tactic

variable {F : FTy → Type} [FloatOps F]

/-- The table of row tiles and the table of column tiles, as the host writes them. -/
abbrev rowTab : S136.Idx → BitVec 32 := fun x => lit0 (S136.rowMajor x)
abbrev colTab : S136.Idx → BitVec 32 := fun x => lit1 (S136.rowMajor x)

set_option backward.proofsInPublic true in
/-- Both tables. -/
def tabs : pre0.Contents (Elt F) := fun | ⟨0, _⟩ => rowTab | ⟨1, _⟩ => colTab | ⟨_ + 2, h⟩ => absurd h (by simp)

/-! ## Every block inside its array -/

theorem inb0I : ∀ i : grid0.Coords, ∀ a, (cc0_transform_0 k0_off1_inb numel1_S1 (tabs (F := Ideal)) i a + 1) * S1024x256.size a ≤ S16384x1024.size a := by decide +kernel
theorem inb1I : ∀ i : grid0.Coords, ∀ a, (cc0_transform_1 k0_off1_inb numel1_S1 (tabs (F := Ideal)) i a + 1) * S1024x128.size a ≤ S16384x1024.size a := by decide +kernel
theorem inb2I : ∀ i : grid0.Coords, ∀ a, (cc0_transform_2 k0_off1_inb numel1_S1 (tabs (F := Ideal)) i a + 1) * S1024x128.size a ≤ S16384x128.size a := by decide +kernel
theorem inb3I : ∀ i : grid0.Coords, ∀ a, (cc0_transform_3 k0_off1_inb numel1_S1 (tabs (F := Ideal)) i a + 1) * S1024x128.size a ≤ S16384x1024.size a := by decide +kernel
theorem inb4I : ∀ i : grid0.Coords, ∀ a, (cc0_transform_4 k0_off1_inb numel1_S1 (tabs (F := Ideal)) i a + 1) * S1024x128.size a ≤ S16384x512.size a := by decide +kernel
theorem inb8I : ∀ i : grid0.Coords, ∀ a, (cc0_transform_8 k0_off1_inb numel1_S1 (tabs (F := Ideal)) i a + 1) * S1024x256.size a ≤ S16384x1024.size a := by decide +kernel
theorem inb9I : ∀ i : grid0.Coords, ∀ a, (cc0_transform_9 k0_off1_inb numel1_S1 (tabs (F := Ideal)) i a + 1) * S1024x128.size a ≤ S16384x512.size a := by decide +kernel

theorem ok_tabs : ok0 (F := F) tabs :=
  ⟨fun i => ⟨inb0I i, .inr (Affine.block_words_dvd (s := S16384x1024) (p := EltTy.packing .bf16) (by decide) (by decide))⟩,
   fun i => ⟨inb1I i, .inr (Affine.block_words_dvd (s := S16384x1024) (p := EltTy.packing .bf16) (by decide) (by decide))⟩,
   fun i => ⟨inb2I i, .inr (Affine.block_words_dvd (s := S16384x128) (p := EltTy.packing .bf16) (by decide) (by decide))⟩,
   fun i => ⟨inb3I i, .inr (Affine.block_words_dvd (s := S16384x1024) (p := EltTy.packing .bf16) (by decide) (by decide))⟩,
   fun i => ⟨inb4I i, .inl rfl⟩, fun i => ⟨inb4I i, .inl rfl⟩,
   fun i => ⟨inb4I i, .inr (Affine.block_words_dvd (s := S16384x512) (p := EltTy.packing .bf16) (by decide) (by decide))⟩,
   fun i => ⟨inb8I i, .inl rfl⟩, fun i => ⟨inb9I i, .inl rfl⟩⟩

/-- The tables as the pipeline takes them, and the pipeline at them. -/
def adm : (pcfg0 (F := F)).Adm := ⟨tabs, ok_tabs⟩
abbrev cfgA (F : FTy → Type) [FloatOps F] : Pipeline.Cfg sig Λ₀ := cfg0 (F := F) adm
abbrev crd (t : Fin (cfgA F).N) : grid0.Coords := (cfgA F).grid.coords t

theorem cfgA_eq : cfgA F = cfgA Ideal := rfl

/-! ## The words a step reads, and what they decide -/

/-- The row tile and the column tile of the step at coordinates `i`. -/
abbrev rowOf (i : grid0.Coords) : BitVec 32 := lit0 (i 1)
abbrev colOf (i : grid0.Coords) : BitVec 32 := lit1 (i 1)

theorem off1_val (i : grid0.Coords) : S136.rowMajor ((Rect.unit (s := S136) (k0_off1 i) S1.size (k0_off1_inb i)).toLoadRect.idx (Shape.Idx.first (numel1_S1.symm ▸ Nat.one_pos))) = i 1 := by
  apply Fin.ext
  refine (Shape.rowMajor_val_one _).trans ?_
  show (k0_off1 i) 0 + 1 * 0 = (i 1).val
  rw [k0_off1_eq]
  rfl

theorem word_row (i : grid0.Coords) : wordAt (F := F) tabI i rowTab = rowOf i := congrArg lit0 (off1_val i)
theorem word_col (i : grid0.Coords) : wordAt (F := F) tabJ i colTab = colOf i := congrArg lit1 (off1_val i)

/-- Whether a step is on the diagonal, its head's first, its head's last. -/
abbrev onDiag (i : grid0.Coords) : Bool := rowOf i == colOf i
abbrev isFirst (i : grid0.Coords) : Bool := (i 1).val == 0
abbrev isLast (i : grid0.Coords) : Bool := (i 1).val == 135

/-- What the words and the coordinates decide of the step's branches and rows. -/
theorem branches : ∀ i : grid0.Coords,
    (zeroBit i = 1#1 ↔ isFirst i = true) ∧ (k0_cond2 (rowOf i) (colOf i) = 1#1 ↔ onDiag i = false)
    ∧ (k0_cond3 (rowOf i) (colOf i) = 1#1 ↔ onDiag i = true) ∧ (k0_cond4 i = 1#1 ↔ isLast i = true)
    ∧ (isFirst i = true → onDiag i = true) ∧ (isLast i = true → onDiag i = true) ∧ (isFirst i = true → isLast i = false)
    ∧ (rowOf i).toNat < 16 ∧ (colOf i).toNat ≤ (rowOf i).toNat := by
  decide +kernel

/-- Whether the gradient blocks hold nothing yet before each position: bit `n` for position `n + 1`. -/
abbrev freshMask : ℕ := 0xd221040808040100200200100040008000d221040808040100200200100040008000d221040808040100200200100040008000d221040808040100200200100040008000
def freshTab : ℕ → Bool
  | 0 => true
  | n + 1 => freshMask.testBit n

/-- A step's facts about the two gradient windows. -/
abbrev FactsAt (t : Fin (cfgA Ideal).N) : Prop :=
  freshTab (t.val + 1) = ((cfgA Ideal).win 7).flush t ∧ freshTab (t.val + 1) = ((cfgA Ideal).win 8).flush t
    ∧ (cfgA Ideal).idle 7 (crd t) = false ∧ (cfgA Ideal).idle 8 (crd t) = false ∧ freshTab t.val = onDiag (crd t)

instance (t : Fin (cfgA Ideal).N) : Decidable (FactsAt t) :=
  @instDecidableAnd _ _ inferInstance (@instDecidableAnd _ _ inferInstance (@instDecidableAnd _ _ inferInstance (@instDecidableAnd _ _ inferInstance inferInstance)))

theorem facts0 : ∀ t : Fin (cfgA Ideal).N, 0 ≤ t.val → t.val < 68 → FactsAt t := by decide +kernel
theorem facts1 : ∀ t : Fin (cfgA Ideal).N, 68 ≤ t.val → t.val < 136 → FactsAt t := by decide +kernel
theorem facts2 : ∀ t : Fin (cfgA Ideal).N, 136 ≤ t.val → t.val < 204 → FactsAt t := by decide +kernel
theorem facts3 : ∀ t : Fin (cfgA Ideal).N, 204 ≤ t.val → t.val < 272 → FactsAt t := by decide +kernel
theorem facts4 : ∀ t : Fin (cfgA Ideal).N, 272 ≤ t.val → t.val < 340 → FactsAt t := by decide +kernel
theorem facts5 : ∀ t : Fin (cfgA Ideal).N, 340 ≤ t.val → t.val < 408 → FactsAt t := by decide +kernel
theorem facts6 : ∀ t : Fin (cfgA Ideal).N, 408 ≤ t.val → t.val < 476 → FactsAt t := by decide +kernel
theorem facts7 : ∀ t : Fin (cfgA Ideal).N, 476 ≤ t.val → t.val < 544 → FactsAt t := by decide +kernel
/-- The facts at every step, decided 68 steps at a time. -/
theorem factsI (t : Fin (cfgA Ideal).N) : FactsAt t := by
  have h0 : 0 ≤ t.val := Nat.zero_le _
  have hN : t.val < 544 := t.isLt
  rcases Nat.lt_or_ge t.val 68 with h1 | h1; · exact facts0 t h0 h1
  rcases Nat.lt_or_ge t.val 136 with h2 | h2; · exact facts1 t h1 h2
  rcases Nat.lt_or_ge t.val 204 with h3 | h3; · exact facts2 t h2 h3
  rcases Nat.lt_or_ge t.val 272 with h4 | h4; · exact facts3 t h3 h4
  rcases Nat.lt_or_ge t.val 340 with h5 | h5; · exact facts4 t h4 h5
  rcases Nat.lt_or_ge t.val 408 with h6 | h6; · exact facts5 t h5 h6
  rcases Nat.lt_or_ge t.val 476 with h7 | h7; · exact facts6 t h6 h7
  exact facts7 t h7 hN

end Cert.KernelIdeal.Step

end
-- ==== Proof.Payload.lean ====
/-
What one grid step of the attention gradient adds, over the reals: the share of one tile of scores in the gradients of its queries,
keys and values.
-/
module

public import proofs.«01_k».proof.Proof.Step
public import proofs.«01_k».proof.Proof.Math
public import Idealize.ShloMosaic.Lib.IdealHost

@[expose] public section

set_option maxRecDepth 16384
set_option Elab.async false

noncomputable section

namespace Cert.KernelIdeal.Step

open Cert.KernelIdeal Cert.KernelIdeal.Gen Cert.Attn
open Idealize.ShloMosaic Idealize.ShloMosaic.TcCoe Idealize.ShloMosaic.Tactic

/-- Position `p` of tile `I` among all positions. -/
def pos (I : Fin 16) (p : Fin 1024) : Fin 16384 := ⟨1024 * I.val + p.val, by omega⟩

/-- The first column of a block, read. -/
theorem firstCol_at (x : S1024x128.Idx → EReal) (p : Fin 1024) (z : Fin 1) :
    firstCol (F := Ideal) x (ix2 p z) = x (ix2 p 0) := by
  unfold firstCol VecWindow.window
  refine congrArg x ?_
  funext a; apply Fin.ext
  match a with
  | ⟨0, _⟩ => show 0 + 1 * p.val = p.val; omega
  | ⟨1, _⟩ => show 0 + 1 * z.val = 0; omega

/-- The chunk of a position inside a tile, as the body computes it: the quotient by 64 rounded down, the operands' signs looked at. -/
theorem chunk_word : ∀ k : Fin 1024, (Scalar.select
            (IntOp.andi
              (IntOp.cmpi CmpIPredicate.ne
                (IntOp.subi (BitVec.setWidth 32 (IntOp.cmpi CmpIPredicate.sgt (BitVec.ofNat 32 k.val) 0#32))
                  (BitVec.setWidth 32 (IntOp.cmpi CmpIPredicate.slt (BitVec.ofNat 32 k.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 k.val) 64#32) 0#32))
            (IntOp.subi (IntOp.divsi ArithUnit.vector (BitVec.ofNat 32 k.val) 64#32) 1#32)
            (IntOp.divsi ArithUnit.vector (BitVec.ofNat 32 k.val) 64#32)) = BitVec.ofNat 32 (k.val / 64) := by decide +kernel

variable (x : In) (h : Fin 4) (I J : Fin 16)
  (x0 : S1024x256.Idx → EReal) (x1 x2 x3 x4 x5 x6 : S1024x128.Idx → EReal)

/-- The seven input blocks of the tile of row tile `I` and column tile `J` in head `h`. -/
structure Tile : Prop where
  q : ∀ p d, x0 (ix2 p d) = (x.q h (pos I p) d : EReal)
  kn : ∀ p d, x1 (ix2 p d) = (x.kn h (pos J p) d : EReal)
  kp : ∀ p d, x2 (ix2 p d) = (x.kp (pos J p) d : EReal)
  vv : ∀ p d, x3 (ix2 p d) = (x.vv h (pos J p) d : EReal)
  lse : ∀ p, x4 (ix2 p 0) = (Real.log (den x h (pos I p)) : EReal)
  dsum : ∀ p, x5 (ix2 p 0) = (dots x h (pos I p) : EReal)
  oo : ∀ p d, x6 (ix2 p d) = (x.oo h (pos I p) d : EReal)

variable {x h I J x0 x1 x2 x3 x4 x5 x6} (H : Tile x h I J x0 x1 x2 x3 x4 x5 x6)
include H

/-- The unmasked probabilities of a tile. -/
theorem raw_at (p q : Fin 1024) : k0_pay10 (F := Ideal) x1 x2 x0 (firstCol x4) (ix2 p q)
    = (Real.exp (score x h (pos I p) (pos J q) - Real.log (den x h (pos I p))) : EReal) := by
  have hz : firstCol (F := Ideal) x4 (ix2 p 0) = (Real.log (den x h (pos I p)) : EReal) := (firstCol_at x4 p 0).trans (H.lse p)
  generalize firstCol (F := Ideal) x4 = z at hz ⊢
  pointwise [k0_pay10, k0_pay9]
  simp only [hz, H.q, H.kn, H.kp, ← EReal.coe_mul, coe_sum, ← EReal.coe_add, ← EReal.coe_sub, exp_coe]
  rfl

theorem raw_at' (p q : Fin 1024) : k0_pay5 (F := Ideal) x1 x2 x0 (firstCol x4) (ix2 p q)
    = (Real.exp (score x h (pos I p) (pos J q) - Real.log (den x h (pos I p))) : EReal) := raw_at H p q

/-- The masked probabilities of a diagonal tile. -/
theorem prob_diag (hIJ : I = J) (p q : Fin 1024) :
    k0_pay14 (F := Ideal) (k0_pay10 x1 x2 x0 (firstCol x4)) k0_pay11 (iota .tc S1024x1024 32 [0] iota_S1024x1024_d0_w32) 64#32
      k0_pay12 k0_pay13 (ix2 p q) = (prob x h (pos I p) (pos J q) : EReal) := by
  have hr := raw_at H p q
  generalize k0_pay10 (F := Ideal) x1 x2 x0 (firstCol x4) = w at hr ⊢
  pointwise [k0_pay14, k0_pay11, k0_pay12, k0_pay13]
  rw [chunk_word p, chunk_word q, hr]
  subst hIJ
  have hs : IntOp.cmpi .sle (BitVec.ofNat 32 (q.val / 64)) (BitVec.ofNat 32 (p.val / 64)) = 1#1 ↔ seen (pos I p) (pos I q) := by
    rw [WordCmp.cmpi_sle_ofNat_eq_one_iff (by omega) (by omega)]
    show _ ↔ (1024 * I.val + q.val) / 64 ≤ (1024 * I.val + p.val) / 64
    omega
  by_cases hp : seen (pos I p) (pos I q)
  · rw [hs.2 hp, ValueIdx.select_one, exp_sub_log x h _ _ hp]
  · rw [show IntOp.cmpi .sle (BitVec.ofNat 32 (q.val / 64)) (BitVec.ofNat 32 (p.val / 64)) = 0#1 from
      ValueIdx.eq_zero_of_ne_one fun e => hp (hs.1 e), ValueIdx.select_zero, prob_unseen x h _ _ hp]
    rfl

/-- The gradients of the scores of a diagonal tile. -/
theorem ds_diag (hIJ : I = J) (p q : Fin 1024) :
    k0_pay16 (F := Ideal) x6 (k0_pay10 x1 x2 x0 (firstCol x4)) k0_pay11 (iota .tc S1024x1024 32 [0] iota_S1024x1024_d0_w32) 64#32
      k0_pay12 k0_pay13 x3 (firstCol x5) (ix2 p q) = (ds x h (pos I p) (pos J q) : EReal) := by
  have hr := prob_diag H hIJ p q
  have hz : firstCol (F := Ideal) x5 (ix2 p 0) = (dots x h (pos I p) : EReal) := (firstCol_at x5 p 0).trans (H.dsum p)
  generalize firstCol (F := Ideal) x5 = z at hz ⊢
  generalize k0_pay10 (F := Ideal) x1 x2 x0 (firstCol x4) = w at hr ⊢
  pointwise [k0_pay16]
  simp only [hr, hz, H.vv, H.oo, ← EReal.coe_mul, coe_sum, ← EReal.coe_sub]
  rfl

/-- Below the diagonal every key is seen. -/
theorem seen_below (hIJ : J < I) (p q : Fin 1024) : seen (pos I p) (pos J q) := by
  have := Fin.lt_def.1 hIJ
  show (1024 * J.val + q.val) / 64 ≤ (1024 * I.val + p.val) / 64
  omega

theorem prob_below (hIJ : J < I) (p q : Fin 1024) : k0_pay5 (F := Ideal) x1 x2 x0 (firstCol x4) (ix2 p q)
    = (prob x h (pos I p) (pos J q) : EReal) := by
  rw [raw_at' H, exp_sub_log x h _ _ (seen_below H hIJ p q)]

/-- The gradients of the scores of a tile below the diagonal. -/
theorem ds_below (hIJ : J < I) (p q : Fin 1024) :
    k0_pay7 (F := Ideal) x1 x2 x0 x6 (firstCol x4) x3 (firstCol x5) (ix2 p q) = (ds x h (pos I p) (pos J q) : EReal) := by
  have hr := prob_below H hIJ p q
  have hz : firstCol (F := Ideal) x5 (ix2 p 0) = (dots x h (pos I p) : EReal) := (firstCol_at x5 p 0).trans (H.dsum p)
  generalize firstCol (F := Ideal) x5 = z at hz ⊢
  generalize firstCol (F := Ideal) x4 = w at hr ⊢
  pointwise [k0_pay7]
  simp only [hr, hz, H.vv, H.oo, ← EReal.coe_mul, coe_sum, ← EReal.coe_sub]
  rfl

omit H in
/-- The key block, halves side by side. -/
theorem keys_at (H : Tile x h I J x0 x1 x2 x3 x4 x5 x6) (p : Fin 1024) (d : Fin 256) :
    k0_pay4 (F := Ideal) x1 x2 (ix2 p d) = (key x h (pos J p) d : EReal) := by
  pointwise [k0_pay4]
  unfold key
  split
  · rw [H.kn]
  · rw [H.kp]

/-- A step's share in the gradient of the values. -/
theorem stepV_at (hJI : J ≤ I) (y8 : S1024x128.Idx → EReal) (b : Bool) (hb : b = true ↔ I = J) (p : Fin 1024) (d : Fin 128) :
    stepV (F := Ideal) x0 x1 x2 x4 x6 y8 b (ix2 p d) = (if b then 0 else y8 (ix2 p d))
      + ((∑ r, prob x h (pos I r) (pos J p) * x.oo h (pos I r) d : ℝ) : EReal) := by
  unfold stepV
  by_cases hd : b = true
  · have hr := prob_diag H (hb.1 hd)
    rw [if_pos hd, if_pos hd]
    generalize k0_pay10 (F := Ideal) x1 x2 x0 (firstCol x4) = w at hr ⊢
    pointwise [k0_pay15]
    simp only [hr, H.oo, ← EReal.coe_mul, coe_sum, zero_add]
  · have hr := prob_below H (lt_of_le_of_ne hJI fun e => hd (hb.2 e.symm))
    rw [if_neg hd, if_neg hd]
    generalize firstCol (F := Ideal) x4 = w at hr ⊢
    pointwise [k0_pay6]
    simp only [hr, H.oo, ← EReal.coe_mul, coe_sum]

/-- A step's share in the gradient of the keys. -/
theorem stepK_at (hJI : J ≤ I) (y7 : S1024x256.Idx → EReal) (b : Bool) (hb : b = true ↔ I = J) (p : Fin 1024) (d : Fin 256) :
    stepK (F := Ideal) x0 x1 x2 x3 x4 x5 x6 y7 b (ix2 p d) = (if b then 0 else y7 (ix2 p d))
      + ((∑ r, ds x h (pos I r) (pos J p) * x.q h (pos I r) d : ℝ) : EReal) := by
  unfold stepK
  by_cases hd : b = true
  · have hr := ds_diag H (hb.1 hd)
    rw [if_pos hd, if_pos hd]
    generalize k0_pay10 (F := Ideal) x1 x2 x0 (firstCol x4) = w at hr ⊢
    generalize firstCol (F := Ideal) x5 = z at hr ⊢
    pointwise [k0_pay17]
    simp only [hr, H.q, ← EReal.coe_mul, coe_sum, zero_add]
  · have hr := ds_below H (lt_of_le_of_ne hJI fun e => hd (hb.2 e.symm))
    rw [if_neg hd, if_neg hd]
    generalize firstCol (F := Ideal) x4 = w at hr ⊢
    generalize firstCol (F := Ideal) x5 = z at hr ⊢
    pointwise [k0_pay8]
    simp only [hr, H.q, ← EReal.coe_mul, coe_sum]

/-- A step's share in the running gradient of the queries: in the rows of its row tile. -/
theorem stepQ_at (hJI : J ≤ I) (a : S16384x256.Idx → EReal) (b z : Bool) (hb : b = true ↔ I = J) (w : BitVec 32) (hw : RowsIn w)
    (hwI : w.toNat = I.val) (r : Fin 16384) (d : Fin 256) :
    stepQ (F := Ideal) x0 x1 x2 x3 x4 x5 x6 a b z w hw (ix2 r d) = (if z then 0 else a (ix2 r d))
      + if r.val / 1024 = I.val then ((∑ p, ds x h r (pos J p) * key x h (pos J p) d : ℝ) : EReal) else 0 := by
  have hc : stepClear (F := Ideal) a z (ix2 r d) = if z then 0 else a (ix2 r d) := by
    unfold stepClear
    by_cases hz : z = true
    · rw [if_pos hz, if_pos hz]; pointwise [k0_pay1]
    · rw [if_neg hz, if_neg hz]
  unfold stepQ
  rw [← hc]
  generalize stepClear (F := Ideal) a z = a'
  have hk := keys_at H
  have h0 : (k0_off2 w) 0 = 1024 * I.val := by
    show (Scalar.indexCast (Scalar.muli w 1024#32) : BitVec 32).toNat = _
    show (w * 1024#32).toNat = _
    rw [BitVec.toNat_mul, hwI]
    have := I.isLt
    show I.val * 1024 % 2 ^ 32 = _
    omega
  have tile : ∀ p : Fin 1024, (if b then
      k0_pay3 (F := Ideal) (k0_pay9 x1 x2) (k0_pay16 x6 (k0_pay10 x1 x2 x0 (firstCol x4)) k0_pay11 (iota .tc S1024x1024 32 [0] iota_S1024x1024_d0_w32)
        64#32 k0_pay12 k0_pay13 x3 (firstCol x5)) (VecWindow.window a' (k0_off2 w) S1024x256.size hw)
    else
      k0_pay2 (k0_pay4 x1 x2) (k0_pay7 x1 x2 x0 x6 (firstCol x4) x3 (firstCol x5))
        (VecWindow.window a' (k0_off2 w) S1024x256.size hw)) (ix2 p d)
      = VecWindow.window a' (k0_off2 w) S1024x256.size hw (ix2 p d)
        + ((∑ q, ds x h (pos I p) (pos J q) * key x h (pos J q) d : ℝ) : EReal) := by
    intro p
    generalize VecWindow.window a' (k0_off2 w) S1024x256.size hw = y
    by_cases hd : b = true
    · have hr := ds_diag H (hb.1 hd)
      rw [if_pos hd]
      change k0_pay3 (F := Ideal) (k0_pay4 x1 x2) _ _ _ = _
      generalize k0_pay4 (F := Ideal) x1 x2 = k at hk ⊢
      generalize k0_pay16 (F := Ideal) x6 _ _ _ _ _ _ _ _ = v at hr ⊢
      pointwise [k0_pay3]
      simp only [hr, hk, ← EReal.coe_mul, coe_sum]
    · have hr := ds_below H (lt_of_le_of_ne hJI fun e => hd (hb.2 e.symm))
      rw [if_neg hd]
      generalize k0_pay4 (F := Ideal) x1 x2 = k at hk ⊢
      generalize k0_pay7 (F := Ideal) x1 x2 x0 x6 (firstCol x4) x3 (firstCol x5) = v at hr ⊢
      pointwise [k0_pay2]
      simp only [hr, hk, ← EReal.coe_mul, coe_sum]
  have hr := r.isLt
  have hI := I.isLt
  by_cases hrI : r.val / 1024 = I.val
  · have hin : ∀ e, (k0_off2 w) e ≤ ((ix2 r d : S16384x256.Idx) e).val ∧ ((ix2 r d : S16384x256.Idx) e).val < (k0_off2 w) e + S1024x256.size e := by
      intro e
      match e with
      | ⟨0, _⟩ => show (k0_off2 w) 0 ≤ r.val ∧ r.val < (k0_off2 w) 0 + 1024; rw [h0]; omega
      | ⟨1, _⟩ => show 0 ≤ d.val ∧ d.val < 0 + 256; omega
    obtain ⟨p, hp⟩ : ∃ p : Fin 1024, r = pos I p := ⟨⟨r.val - 1024 * I.val, by omega⟩, Fin.ext (by show r.val = 1024 * I.val + (r.val - 1024 * I.val); omega)⟩
    unfold VecWindow.put
    rw [dif_pos hin, if_pos hrI]
    have hloc : Rect.unitLocal (s := S16384x256) (off := k0_off2 w) (size := S1024x256.size) (ix2 r d) hin = (ix2 p d : S1024x256.Idx) := by
      funext e
      apply Fin.ext
      match e with
      | ⟨0, _⟩ => show r.val - (k0_off2 w) 0 = p.val; rw [h0, hp]; show 1024 * I.val + p.val - 1024 * I.val = _; omega
      | ⟨1, _⟩ => rfl
    have hemb : VecWindow.window a' (k0_off2 w) S1024x256.size hw (ix2 p d) = a' (ix2 r d) := by
      unfold VecWindow.window
      refine congrArg a' ?_
      funext e
      apply Fin.ext
      match e with
      | ⟨0, _⟩ => show (k0_off2 w) 0 + 1 * p.val = r.val; rw [h0, hp]; show _ = 1024 * I.val + p.val; omega
      | ⟨1, _⟩ => show 0 + 1 * d.val = d.val; omega
    rw [hloc]
    refine (tile p).trans ?_
    rw [hemb, hp]
  · rw [if_neg hrI, add_zero]
    unfold VecWindow.put
    rw [dif_neg]
    intro hin
    have := hin 0
    have h1 : (k0_off2 w) 0 ≤ r.val ∧ r.val < (k0_off2 w) 0 + 1024 := this
    rw [h0] at h1
    omega

end Cert.KernelIdeal.Step

end
-- ==== Proof.Tiles.lean ====
/-
The tiles of the attention gradient in the order of its steps, and sums over positions taken tile by tile.
-/
module

public import proofs.«01_k».proof.Proof.Sched
public import proofs.«01_k».proof.Proof.Payload

@[expose] public section

set_option maxRecDepth 16384
set_option Elab.async false

noncomputable section

namespace Cert.KernelIdeal.Step

open Cert.KernelIdeal Cert.KernelIdeal.Gen Cert.Attn
open Idealize.ShloMosaic Idealize.ShloMosaic.TcCoe Idealize.ShloMosaic.Tactic

/-! ## Sums over the first tiles -/

/-- The sum of `f` over the positions of the first `n` tiles. -/
def part (f : Fin 16384 → ℝ) (n : ℕ) : ℝ := ∑ j : Fin 16384, if j.val / 1024 < n then f j else 0

/-- One tile more. -/
theorem part_succ (f : Fin 16384 → ℝ) (n : Fin 16) : part f (n.val + 1) = part f n.val + ∑ p, f (pos n p) := by
  have hn := n.isLt
  have hs : ∑ p, f (pos n p) = ∑ j : Fin 16384, if j.val / 1024 = n.val then f j else 0 := by
    rw [← Finset.sum_filter]
    refine Finset.sum_nbij (pos n) (fun p _ => ?_) (fun p _ p' _ e => ?_) (fun j hj => ?_) fun _ _ => rfl
    · refine Finset.mem_filter.2 ⟨Finset.mem_univ _, ?_⟩
      show (1024 * n.val + p.val) / 1024 = n.val
      omega
    · have := congrArg Fin.val e
      exact Fin.ext (by have h : 1024 * n.val + p.val = 1024 * n.val + p'.val := this; omega)
    · have h := (Finset.mem_filter.1 hj).2
      exact ⟨⟨j.val - 1024 * n.val, by omega⟩, Finset.mem_univ _, Fin.ext (by show 1024 * n.val + (j.val - 1024 * n.val) = j.val; omega)⟩
  rw [hs]
  unfold part
  rw [← Finset.sum_add_distrib]
  refine Finset.sum_congr rfl fun j _ => ?_
  rcases lt_trichotomy (j.val / 1024) n.val with h | h | h
  · rw [if_pos (by omega), if_pos h, if_neg (by omega), add_zero]
  · rw [if_pos (by omega), if_neg (by omega), if_pos h, zero_add]
  · rw [if_neg (by omega), if_neg (by omega), if_neg (by omega), add_zero]

/-- A tile whose terms are zero adds nothing. -/
theorem part_skip (f : Fin 16384 → ℝ) (n : Fin 16) (h : ∀ p, f (pos n p) = 0) : part f (n.val + 1) = part f n.val := by
  rw [part_succ, Finset.sum_eq_zero fun p _ => h p, add_zero]

/-- A sum of zeros. -/
theorem part_zero (f : Fin 16384 → ℝ) (n : ℕ) (h : ∀ j, j.val / 1024 < n → f j = 0) : part f n = 0 :=
  Finset.sum_eq_zero fun j _ => by
    split
    · exact h j ‹_›
    · rfl

/-- All tiles. -/
theorem part_all (f : Fin 16384 → ℝ) : part f 16 = ∑ j, f j :=
  Finset.sum_congr rfl fun j _ => if_pos (by have := j.isLt; omega)

/-! ## The order of the tiles -/

/-- A step's coordinates from its number. -/
theorem coords_val : ∀ t : Fin (cfgA Ideal).N, (crd t 0).val = t.val / 136 ∧ (crd t 1).val = t.val % 136 := by decide +kernel

/-- The two tables, entry after entry: down a column to its last row, then on to the next column's diagonal. -/
theorem tables : ∀ u : Fin 136, (u.val = 0 → (lit0 u).toNat = 0 ∧ (lit1 u).toNat = 0) ∧ (u.val = 135 → (lit0 u).toNat = 15 ∧ (lit1 u).toNat = 15)
    ∧ ∀ hu : u.val + 1 < 136, (lit0 ⟨u.val + 1, hu⟩ = lit1 ⟨u.val + 1, hu⟩ → (lit0 u).toNat = 15 ∧ (lit1 ⟨u.val + 1, hu⟩).toNat = (lit1 u).toNat + 1)
      ∧ (lit0 ⟨u.val + 1, hu⟩ ≠ lit1 ⟨u.val + 1, hu⟩ → (lit0 ⟨u.val + 1, hu⟩).toNat = (lit0 u).toNat + 1 ∧ (lit1 ⟨u.val + 1, hu⟩).toNat = (lit1 u).toNat) := by
  decide +kernel

/-- The row tile, the column tile and the head of a step. -/
def rowT (t : Fin (cfgA Ideal).N) : Fin 16 := ⟨(rowOf (crd t)).toNat, (branches (crd t)).2.2.2.2.2.2.2.1⟩
/-- The column tile of a step. -/
def colT (t : Fin (cfgA Ideal).N) : Fin 16 :=
  ⟨(colOf (crd t)).toNat, lt_of_le_of_lt (branches (crd t)).2.2.2.2.2.2.2.2 (branches (crd t)).2.2.2.2.2.2.2.1⟩
/-- The head of a step. -/
def headT (t : Fin (cfgA Ideal).N) : Fin 4 := ⟨(crd t 0).val, (crd t 0).isLt⟩

/-- No tile is above the diagonal. -/
theorem col_le_row (t : Fin (cfgA Ideal).N) : colT t ≤ rowT t := (branches (crd t)).2.2.2.2.2.2.2.2

/-- On the diagonal the two tiles are one. -/
theorem diag_iff (t : Fin (cfgA Ideal).N) : onDiag (crd t) = true ↔ rowT t = colT t := by
  constructor
  · intro h
    have e : rowOf (crd t) = colOf (crd t) := beq_iff_eq.1 h
    exact Fin.ext (by show (rowOf (crd t)).toNat = (colOf (crd t)).toNat; rw [e])
  · intro h
    have e : (rowT t).val = (colT t).val := by rw [h]
    exact beq_iff_eq.2 (BitVec.eq_of_toNat_eq e)

/-- A head's first step is at the first tile. -/
theorem first_tile (t : Fin (cfgA Ideal).N) (h : isFirst (crd t) = true) : (rowT t).val = 0 ∧ (colT t).val = 0 :=
  (tables (crd t 1)).1 (beq_iff_eq.1 h)

/-- A head's last step is at the last tile. -/
theorem last_tile (t : Fin (cfgA Ideal).N) (h : isLast (crd t) = true) : (rowT t).val = 15 ∧ (colT t).val = 15 :=
  (tables (crd t 1)).2.1 (beq_iff_eq.1 h)

/-- A head's first step follows the last of the head before. -/
theorem first_after (t t' : Fin (cfgA Ideal).N) (ht : t'.val + 1 = t.val) (h : isFirst (crd t) = true) :
    isLast (crd t') = true ∧ (headT t).val = (headT t').val + 1 := by
  have h0 : (crd t 1).val = 0 := beq_iff_eq.1 h
  have c := coords_val t
  have c' := coords_val t'
  refine ⟨beq_iff_eq.2 ?_, ?_⟩
  · omega
  · show (crd t 0).val = (crd t' 0).val + 1
    omega

/-- Any other step has the head of the step before, and that was not a last one. -/
theorem inside (t t' : Fin (cfgA Ideal).N) (ht : t'.val + 1 = t.val) (h : ¬ isFirst (crd t) = true) :
    (crd t' 1).val + 1 = (crd t 1).val ∧ ¬ isLast (crd t') = true ∧ headT t = headT t' := by
  have h0 : (crd t 1).val ≠ 0 := fun e => h (beq_iff_eq.2 e)
  have c := coords_val t
  have c' := coords_val t'
  refine ⟨by omega, fun e => ?_, Fin.ext ?_⟩
  · have := beq_iff_eq.1 e
    omega
  · show (crd t 0).val = (crd t' 0).val
    omega

/-- On from one tile to the next inside a head. -/
theorem next_tile (t t' : Fin (cfgA Ideal).N) (ht : t'.val + 1 = t.val) (h : ¬ isFirst (crd t) = true) :
    (onDiag (crd t) = true → (rowT t').val = 15 ∧ (colT t).val = (colT t').val + 1)
      ∧ (¬ onDiag (crd t) = true → (rowT t).val = (rowT t').val + 1 ∧ (colT t).val = (colT t').val) := by
  have hu := (inside t t' ht h).1
  have hl : (crd t' 1).val + 1 < 136 := hu ▸ (crd t 1).isLt
  have e : (⟨(crd t' 1).val + 1, hl⟩ : Fin 136) = crd t 1 := Fin.ext hu
  have := (tables (crd t' 1)).2.2 hl
  rw [e] at this
  exact ⟨fun hd => this.1 (beq_iff_eq.1 hd), fun hd => this.2 fun he => hd (beq_iff_eq.2 he)⟩

/-- A step after which the gradient blocks are written out is at its column's last row. -/
theorem flush_row (t : Fin (cfgA Ideal).N) (h : freshTab (t.val + 1) = true) : (rowT t).val = 15 := by
  rcases Nat.lt_or_ge (t.val + 1) 544 with hn | hn
  · have hd : onDiag (crd (⟨t.val + 1, hn⟩ : Fin (cfgA Ideal).N)) = true := (factsI ⟨t.val + 1, hn⟩).2.2.2.2.symm.trans h
    by_cases hf : isFirst (crd (⟨t.val + 1, hn⟩ : Fin (cfgA Ideal).N)) = true
    · exact (last_tile t (first_after ⟨t.val + 1, hn⟩ t rfl hf).1).1
    · exact ((next_tile ⟨t.val + 1, hn⟩ t rfl hf).1 hd).1
  · refine (last_tile t (beq_iff_eq.2 ?_)).1
    have c := coords_val t
    have ht : t.val < 544 := t.isLt
    omega

/-- The place of column tile `J`'s last tile in the tables. -/
def colEnd (J : Fin 16) : ℕ := 16 * (J.val + 1) - J.val * (J.val + 1) / 2 - 1

/-- It is in the tables. -/
theorem colEnd_lt : ∀ J : Fin 16, colEnd J < 136 := by decide

/-- The last step of column tile `J` of head `h`. -/
def lastOf (h : Fin 4) (J : Fin 16) : Fin (cfgA Ideal).N :=
  ⟨136 * h.val + colEnd J, by have := colEnd_lt J; have := h.isLt; show _ < 544; omega⟩

/-- There the column's gradient blocks are written out. -/
theorem lastOf_facts : ∀ h : Fin 4, ∀ J : Fin 16, freshTab ((lastOf h J).val + 1) = true ∧ colT (lastOf h J) = J ∧ headT (lastOf h J) = h := by
  decide +kernel

/-! ## Where each window's block lies -/

/-- The block index of each window at each step's coordinates. -/
theorem index_val : ∀ i : grid0.Coords,
    (cc0_transform_0 k0_off1_inb numel1_S1 (tabs (F := Ideal)) i 0 = (rowOf i).toNat ∧ cc0_transform_0 k0_off1_inb numel1_S1 (tabs (F := Ideal)) i 1 = (i 0).val)
    ∧ (cc0_transform_1 k0_off1_inb numel1_S1 (tabs (F := Ideal)) i 0 = (colOf i).toNat ∧ cc0_transform_1 k0_off1_inb numel1_S1 (tabs (F := Ideal)) i 1 = (i 0).val)
    ∧ (cc0_transform_2 k0_off1_inb numel1_S1 (tabs (F := Ideal)) i 0 = (colOf i).toNat ∧ cc0_transform_2 k0_off1_inb numel1_S1 (tabs (F := Ideal)) i 1 = 0)
    ∧ (cc0_transform_3 k0_off1_inb numel1_S1 (tabs (F := Ideal)) i 0 = (colOf i).toNat ∧ cc0_transform_3 k0_off1_inb numel1_S1 (tabs (F := Ideal)) i 1 = 4 + (i 0).val)
    ∧ (cc0_transform_4 k0_off1_inb numel1_S1 (tabs (F := Ideal)) i 0 = (rowOf i).toNat ∧ cc0_transform_4 k0_off1_inb numel1_S1 (tabs (F := Ideal)) i 1 = (i 0).val)
    ∧ (cc0_transform_5 k0_off1_inb numel1_S1 (tabs (F := Ideal)) i 0 = (rowOf i).toNat ∧ cc0_transform_5 k0_off1_inb numel1_S1 (tabs (F := Ideal)) i 1 = (i 0).val)
    ∧ (cc0_transform_6 k0_off1_inb numel1_S1 (tabs (F := Ideal)) i 0 = (rowOf i).toNat ∧ cc0_transform_6 k0_off1_inb numel1_S1 (tabs (F := Ideal)) i 1 = (i 0).val)
    ∧ (cc0_transform_8 k0_off1_inb numel1_S1 (tabs (F := Ideal)) i 0 = (colOf i).toNat ∧ cc0_transform_8 k0_off1_inb numel1_S1 (tabs (F := Ideal)) i 1 = (i 0).val)
    ∧ (cc0_transform_9 k0_off1_inb numel1_S1 (tabs (F := Ideal)) i 0 = (colOf i).toNat ∧ cc0_transform_9 k0_off1_inb numel1_S1 (tabs (F := Ideal)) i 1 = (i 0).val) := by
  decide +kernel

end Cert.KernelIdeal.Step

end
-- ==== Proof.State.lean ====
/-
The attention gradient step by step: what the running gradient, the two gradient blocks and the result array of the query
gradients hold after each of the 544 steps, as a recursion on the steps.
-/
module

public import proofs.«01_k».proof.Proof.Sched

@[expose] public section

set_option maxRecDepth 16384
set_option Elab.async false

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The rows of every step's row tile are inside the running gradient. -/
theorem rows_in : ∀ i : grid0.Coords, ∀ x, (k0_off2 (rowOf i)) x + S1024x256.size x ≤ S16384x256.size x := by decide +kernel

/-- A step's side condition on the words it reads holds of every step. -/
theorem words_ok : ∀ i : grid0.Coords, k0_chk1 (rowOf i) (colOf i) := by decide +kernel

variable (m : (ℓ : Loc nD τ sig) → Buf (Elt F) ℓ)

/-- The arrays after the host's operations. -/
abbrev V (c : Dev nD) (b : Ref sig .tc) : Buf (Elt F) ((c : Thread nD τ).loc b) := StableHlo.after hostOps0 (fun b => m (c, b)) b

/-- The block of window `w` at step `t`. -/
def iblk (c : Dev nD) (w : Fin 9) (t : Fin (cfgA F).N) : (((cfgA F).win w).xblock (crd t)).Idx → Elt F ((cfgA F).win w).elt :=
  (((cfgA F).win w).blk t).view.read (Elt F) (V m c (Pipeline.arrRef spec0 w))

/-- What a step hands on: the two gradient blocks, the running gradient, the result array of the query gradients. -/
structure St (F : FTy → Type) [FloatOps F] where
  /-- the block of key gradients -/
  k : S1024x256.Idx → Elt F .f32
  /-- the block of value gradients -/
  v : S1024x128.Idx → Elt F .f32
  /-- the running gradient -/
  a : S16384x256.Idx → Elt F .f32
  /-- the result array -/
  g : S4x16384x256.Idx → Elt F .f32

/-- The running gradient after step `t`. -/
def nextQ (c : Dev nD) (t : Fin (cfgA F).N) (a : S16384x256.Idx → Elt F .f32) : S16384x256.Idx → Elt F .f32 :=
  stepQ (iblk m c 0 t) (iblk m c 1 t) (iblk m c 2 t) (iblk m c 3 t) (iblk m c 4 t) (iblk m c 5 t) (iblk m c 6 t) a
    (onDiag (crd t)) (isFirst (crd t)) (rowOf (crd t)) (rows_in (crd t))

/-- One step. -/
def next (c : Dev nD) (t : Fin (cfgA F).N) (s : St F) : St F where
  k := stepK (iblk m c 0 t) (iblk m c 1 t) (iblk m c 2 t) (iblk m c 3 t) (iblk m c 4 t) (iblk m c 5 t) (iblk m c 6 t) s.k (onDiag (crd t))
  v := stepV (iblk m c 0 t) (iblk m c 1 t) (iblk m c 2 t) (iblk m c 4 t) (iblk m c 6 t) s.v (onDiag (crd t))
  a := nextQ m c t s.a
  g := stepD (crd t) s.g (isLast (crd t)) (nextQ m c t s.a)

/-- What the first `n` steps leave. -/
def state (c : Dev nD) : ℕ → St F
  | 0 => ⟨constant S1024x256 .f32 0x00000000#32, constant S1024x128 .f32 0x00000000#32, k0_pay1, V m c main_v50_0⟩
  | n + 1 => if h : n < (cfgA F).N then next m c ⟨n, h⟩ (state c n) else state c n

theorem state_succ (c : Dev nD) (t : Fin (cfgA F).N) : state m c (t.val + 1) = next m c t (state m c t.val) := dif_pos t.isLt

/-- Between steps: the running gradient (before the first step at anything), the generator, the semaphore at zero, the result
    array of the query gradients, the body's halves of the tables. -/
def Phi (c : Dev nD) (n : ℕ) : sProp 𝕄 :=
  iprop((∃ a, ⌜n ≠ 0 → a = (state m c n).a⌝ ∗ (accM.view.loc (c : Thread nD τ) ↦{fullShare} a)) ∗ (∃ r, prngReg c r)
    ∗ semVal ((c : Thread nD τ), SemLoc.dma cc0_scratch1.sem) 0 ∗ (dqM.view.loc (c : Thread nD τ) ↦{fullShare} (state m c n).g)
    ∗ (tabI.view.loc (c : Thread nD τ) ↦{fullShare.right} rowTab) ∗ (tabJ.view.loc (c : Thread nD τ) ↦{fullShare.right} colTab))

/-- The pipeline's data: the arrays after the host's operations, an input's block at each step, the states, the invariant. -/
def dats (_ : Fin 1) (c : Dev nD) : Dat τ (Elt F) Unit ℕ (Pipeline.UD sig nD τ) ℕ (cfgA F) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (state m c (t.val + 1)).k
    | ⟨8, _⟩ => (state m c (t.val + 1)).v
  Φ t := Phi m c t.val
  q w := Pipeline.shareOf spec0 w
  owed _ := 0

theorem after0 (c : Dev nD) (t : Fin (cfgA F).N) : (dats m 0 c).after (0 : Fin 9) t = iblk m c 0 t := rfl
theorem after1 (c : Dev nD) (t : Fin (cfgA F).N) : (dats m 0 c).after (1 : Fin 9) t = iblk m c 1 t := rfl
theorem after2 (c : Dev nD) (t : Fin (cfgA F).N) : (dats m 0 c).after (2 : Fin 9) t = iblk m c 2 t := rfl
theorem after3 (c : Dev nD) (t : Fin (cfgA F).N) : (dats m 0 c).after (3 : Fin 9) t = iblk m c 3 t := rfl
theorem after4 (c : Dev nD) (t : Fin (cfgA F).N) : (dats m 0 c).after (4 : Fin 9) t = iblk m c 4 t := rfl
theorem after5 (c : Dev nD) (t : Fin (cfgA F).N) : (dats m 0 c).after (5 : Fin 9) t = iblk m c 5 t := rfl
theorem after6 (c : Dev nD) (t : Fin (cfgA F).N) : (dats m 0 c).after (6 : Fin 9) t = iblk m c 6 t := rfl
theorem after7 (c : Dev nD) (t : Fin (cfgA F).N) : (dats m 0 c).after (7 : Fin 9) t = (state m c (t.val + 1)).k := rfl
theorem after8 (c : Dev nD) (t : Fin (cfgA F).N) : (dats m 0 c).after (8 : Fin 9) t = (state m c (t.val + 1)).v := rfl

/-! ## What each window's buffer holds when a step starts: an input its block -/

theorem before0 (c : Dev nD) (t : Fin (cfgA F).N) (d) : (dats m 0 c).before (0 : Fin 9) t d = iblk m c 0 t :=
  ((dats m 0 c).before_in_eq_fetched (0 : Fin 9) rfl (fun _ => rfl) (fun _ _ _ => rfl) (fun t => by rw [after0]; unfold Dat.blockOf iblk; rfl) t d).trans
    (by unfold Dat.fetched Dat.blockOf iblk; rfl)
theorem before1 (c : Dev nD) (t : Fin (cfgA F).N) (d) : (dats m 0 c).before (1 : Fin 9) t d = iblk m c 1 t :=
  ((dats m 0 c).before_in_eq_fetched (1 : Fin 9) rfl (fun _ => rfl) (fun _ _ _ => rfl) (fun t => by rw [after1]; unfold Dat.blockOf iblk; rfl) t d).trans
    (by unfold Dat.fetched Dat.blockOf iblk; rfl)
theorem before2 (c : Dev nD) (t : Fin (cfgA F).N) (d) : (dats m 0 c).before (2 : Fin 9) t d = iblk m c 2 t :=
  ((dats m 0 c).before_in_eq_fetched (2 : Fin 9) rfl (fun _ => rfl) (fun _ _ _ => rfl) (fun t => by rw [after2]; unfold Dat.blockOf iblk; rfl) t d).trans
    (by unfold Dat.fetched Dat.blockOf iblk; rfl)
theorem before3 (c : Dev nD) (t : Fin (cfgA F).N) (d) : (dats m 0 c).before (3 : Fin 9) t d = iblk m c 3 t :=
  ((dats m 0 c).before_in_eq_fetched (3 : Fin 9) rfl (fun _ => rfl) (fun _ _ _ => rfl) (fun t => by rw [after3]; unfold Dat.blockOf iblk; rfl) t d).trans
    (by unfold Dat.fetched Dat.blockOf iblk; rfl)
theorem before4 (c : Dev nD) (t : Fin (cfgA F).N) (d) : (dats m 0 c).before (4 : Fin 9) t d = iblk m c 4 t :=
  ((dats m 0 c).before_in_eq_fetched (4 : Fin 9) rfl (fun _ => rfl) (fun _ _ _ => rfl) (fun t => by rw [after4]; unfold Dat.blockOf iblk; rfl) t d).trans
    (by unfold Dat.fetched Dat.blockOf iblk; rfl)
theorem before5 (c : Dev nD) (t : Fin (cfgA F).N) (d) : (dats m 0 c).before (5 : Fin 9) t d = iblk m c 5 t :=
  ((dats m 0 c).before_in_eq_fetched (5 : Fin 9) rfl (fun _ => rfl) (fun _ _ _ => rfl) (fun t => by rw [after5]; unfold Dat.blockOf iblk; rfl) t d).trans
    (by unfold Dat.fetched Dat.blockOf iblk; rfl)
theorem before6 (c : Dev nD) (t : Fin (cfgA F).N) (d) : (dats m 0 c).before (6 : Fin 9) t d = iblk m c 6 t :=
  ((dats m 0 c).before_in_eq_fetched (6 : Fin 9) rfl (fun _ => rfl) (fun _ _ _ => rfl) (fun t => by rw [after6]; unfold Dat.blockOf iblk; rfl) t d).trans
    (by unfold Dat.fetched Dat.blockOf iblk; rfl)

/-! ## The two gradient windows: fresh on the diagonal, below it what the step before left -/

theorem flush7 (t : Fin (cfgA F).N) : freshTab (t.val + 1) = ((cfgA F).win 7).flush t := (factsI t).1
theorem flush8 (t : Fin (cfgA F).N) : freshTab (t.val + 1) = ((cfgA F).win 8).flush t := (factsI t).2.1
theorem idle7 (t : Fin (cfgA F).N) : (cfgA F).idle 7 (crd t) = false := (factsI t).2.2.1
theorem idle8 (t : Fin (cfgA F).N) : (cfgA F).idle 8 (crd t) = false := (factsI t).2.2.2.1
theorem fresh_diag (t : Fin (cfgA F).N) : freshTab t.val = onDiag (crd t) := (factsI t).2.2.2.2

theorem fresh7 (t : Fin (cfgA F).N) : (cfgA F).fresh (7 : Fin 9) t.val = onDiag (crd t) :=
  (Pipeline.Cfg.fresh_tab (cfgA F) (7 : Fin 9) freshTab rfl
    (fun t => by rw [flush7, show (cfgA F).idle (7 : Fin 9) ((cfgA F).grid.coords t) = false from idle7 t, Bool.false_and, Bool.or_false]; rfl) t.val (Nat.le_of_lt t.isLt)).trans (fresh_diag t)
theorem fresh8 (t : Fin (cfgA F).N) : (cfgA F).fresh (8 : Fin 9) t.val = onDiag (crd t) :=
  (Pipeline.Cfg.fresh_tab (cfgA F) (8 : Fin 9) freshTab rfl
    (fun t => by rw [flush8, show (cfgA F).idle (8 : Fin 9) ((cfgA F).grid.coords t) = false from idle8 t, Bool.false_and, Bool.or_false]; rfl) t.val (Nat.le_of_lt t.isLt)).trans (fresh_diag t)

theorem before7 (c : Dev nD) (t : Fin (cfgA F).N) (d) :
    (dats m 0 c).before (7 : Fin 9) t d = if onDiag (crd t) then d else (state m c t.val).k := by
  rw [(dats m 0 c).before_out_traj (7 : Fin 9) rfl (fun _ _ => rfl) (fun t _ h _ => absurd ((idle7 t).symm.trans h) (by decide)) t.val t rfl d, fresh7]
  by_cases hf : onDiag (crd t) = true
  · rw [if_pos hf, if_pos hf]
  · have h0 : t.val ≠ 0 := fun h0 => hf ((fresh_diag t).symm.trans (by rw [h0]; rfl))
    rw [if_neg hf, if_neg hf, after7]
    show (state m c (t.val - 1 + 1)).k = _
    rw [Nat.sub_add_cancel (Nat.pos_of_ne_zero h0)]
theorem before8 (c : Dev nD) (t : Fin (cfgA F).N) (d) :
    (dats m 0 c).before (8 : Fin 9) t d = if onDiag (crd t) then d else (state m c t.val).v := by
  rw [(dats m 0 c).before_out_traj (8 : Fin 9) rfl (fun _ _ => rfl) (fun t _ h _ => absurd ((idle8 t).symm.trans h) (by decide)) t.val t rfl d, fresh8]
  by_cases hf : onDiag (crd t) = true
  · rw [if_pos hf, if_pos hf]
  · have h0 : t.val ≠ 0 := fun h0 => hf ((fresh_diag t).symm.trans (by rw [h0]; rfl))
    rw [if_neg hf, if_neg hf, after8]
    show (state m c (t.val - 1 + 1)).v = _
    rw [Nat.sub_add_cancel (Nat.pos_of_ne_zero h0)]

end Cert.KernelIdeal.Step

end
-- ==== Proof.Body.lean ====
/-
One grid step of the attention gradient, path by path.
-/
module

public import proofs.«01_k».proof.Proof.Step

@[expose] public section

set_option maxRecDepth 16384
set_option Elab.async false

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords)
  (arg4 : Memref sig .tc .vmem S1024x256 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x128 .bf16) (harg10 : arg10.IsWhole)
  (arg12 : Memref sig .tc .vmem S1024x256 .f32) (harg12 : arg12.IsWhole)
  (arg13 : Memref sig .tc .vmem S1024x128 .f32) (harg13 : arg13.IsWhole)
  (T0 T1 : S136.Idx → Elt F .i32)
  (x0 : S1024x256.Idx → Elt F .bf16) (x1 x2 x3 : S1024x128.Idx → Elt F .bf16)
  (x4 x5 : S1024x128.Idx → Elt F .f32) (x6 : S1024x128.Idx → Elt F .bf16)
  (y7 : S1024x256.Idx → Elt F .f32) (y8 : S1024x128.Idx → Elt F .f32)
  (a : S16384x256.Idx → Elt F .f32)

variable (g : S4x16384x256.Idx → Elt F .f32)

/-- What a step does, by three facts about it (`d`: the tile is on the diagonal, `z`: it is its head's first step, `l`: its head's last):
    from the blocks, the running gradient and the result array it ends with the new blocks, the new running gradient and the new
    result array, its semaphore at zero again. -/
def StepRun (d z l : Bool) (hr : RowsIn (wordAt (F := F) tabI i T0)) : Prop :=
  ∀ (W : Waits sig Unit) (K : PUnit → sProp 𝕄),
    iprop(held c arg4 arg5 arg6 arg7 arg8 arg9 arg10 T0 T1 x0 x1 x2 x3 x4 x5 x6
      ∗ (arg12.view.loc (c : Thread nD τ) ↦[arg12.view.set]{fullShare} arg12.view.rep y7)
      ∗ (arg13.view.loc (c : Thread nD τ) ↦[arg13.view.set]{fullShare} arg13.view.rep y8)
      ∗ (accM.view.loc (c : Thread nD τ) ↦{fullShare} a)
      ∗ (dqM.view.loc (c : Thread nD τ) ↦{fullShare} g)
      ∗ semVal ((c : Thread nD τ), SemLoc.dma cc0_scratch1.sem) 0
      ∗ owes (c : Thread nD τ) 0 W
      ∗ (iprop(held c arg4 arg5 arg6 arg7 arg8 arg9 arg10 T0 T1 x0 x1 x2 x3 x4 x5 x6
          ∗ owns (c : Thread nD τ) arg12 fullShare (stepK x0 x1 x2 x3 x4 x5 x6 y7 d)
          ∗ owns (c : Thread nD τ) arg13 fullShare (stepV x0 x1 x2 x4 x6 y8 d)
          ∗ (accM.view.loc (c : Thread nD τ) ↦{fullShare} stepQ x0 x1 x2 x3 x4 x5 x6 a d z (wordAt (F := F) tabI i T0) hr)
          ∗ (dqM.view.loc (c : Thread nD τ) ↦{fullShare} stepD i g l (stepQ x0 x1 x2 x3 x4 x5 x6 a d z (wordAt (F := F) tabI i T0) hr))
          ∗ semVal ((c : Thread nD τ), SemLoc.dma cc0_scratch1.sem) 0
          ∗ (∃ W', owes (c : Thread nD τ) 0 W')) -∗ K ⟨⟩))
      ⊢ wp frame (wpE (defs₀ (F := F)) Variants.none c none) Set.univ
          (cc0_att_bwd i tabI (Memref.isWhole_whole _) tabJ (Memref.isWhole_whole _) arg4 harg4 arg5 harg5 arg6 harg6 arg7 harg7
            arg8 harg8 arg9 harg9 arg10 harg10 dqM (Memref.isWhole_whole _) arg12 harg12 arg13 harg13 accM (Memref.isWhole_whole _)
            cc0_scratch1) K

set_option maxHeartbeats 8000000 in
/-- A head's last step: the tile on the diagonal, and the running gradient sent to the result array. -/
theorem last_run
    (hz : ¬ zeroBit i = 1#1)
    (hw : k0_chk1 (wordAt (F := F) tabI i T0) (wordAt (F := F) tabJ i T1))
    (h2 : ¬ k0_cond2 (wordAt (F := F) tabI i T0) (wordAt (F := F) tabJ i T1) = 1#1)
    (h3 : k0_cond3 (wordAt (F := F) tabI i T0) (wordAt (F := F) tabJ i T1) = 1#1)
    (h4 : k0_cond4 i = 1#1) (hr : RowsIn (wordAt (F := F) tabI i T0)) :
    StepRun c i arg4 harg4 arg5 harg5 arg6 harg6 arg7 harg7 arg8 harg8 arg9 harg9 arg10 harg10 arg12 harg12 arg13 harg13 T0 T1 x0 x1 x2 x3 x4 x5 x6 y7 y8 a g true false true hr := by
  unfold StepRun held; intro W K
  rw [cc0_att_bwd_eq_skeleton]; unfold cc0_att_bwd_skel
  rw [k0_part1_eq_skeleton, k0_part2_eq_skeleton, k0_part3_eq_skeleton]; unfold k0_part1_skel k0_part2_skel k0_part3_skel
  iintro ⟨⟨H0, H1, H2, H3, H4, H5, H6, HT0, HT1⟩, HO7, HO8, HA, HG, HS, HW, Hk⟩
  have hT0 : tabI.IsWhole := Memref.isWhole_whole _
  have hT1 : tabJ.IsWhole := Memref.isWhole_whole _
  have hA : accM.IsWhole := Memref.isWhole_whole _
  have hG : dqM.IsWhole := Memref.isWhole_whole _
  sl_exec! (disch := first | exact hz | exact hw | exact h2 | exact h3 | exact h4)
  sl_step
  iapply Hk
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  isplitl [HO7]
  · unfold owns
    iexists _; isplitr; swap; · iexact HO7
    ipureintro
    refine (View.read_writes_full _ _ _ _ _).trans ?_
    rw [load_block, load_block, load_block, load_block, load_wide, load_col, load_col]
    rfl
  isplitl [HO8]
  · unfold owns
    iexists _; isplitr; swap; · iexact HO8
    ipureintro
    refine (View.read_writes_full _ _ _ _ _).trans ?_
    rw [load_block, load_block, load_block, load_wide, load_col]
    rfl
  isplitl [HA]
  · refine pt_of_eq ?_
    refine (acc_writes _ hr _ _ _).trans ?_
    rw [load_block, load_block, load_block, load_block, load_wide, load_col, load_col]
    exact congrArg (fun v => VecWindow.put a (k0_off2 (wordAt (F := F) tabI i T0)) S1024x256.size (k0_pay3 (k0_pay9 x1 x2) _ v)) (load_rows _ hr a)
  isplitl [HG]
  · refine pt_of_eq ?_
    unfold last_run.sl.HG_w0
    refine (dq_write i g _ _).trans (congrArg (stepD i g true) ?_)
    unfold last_run.sl.dma16
    refine (View.read_whole _ _).trans ((acc_writes _ hr _ _ _).trans ?_)
    rw [load_block, load_block, load_block, load_block, load_wide, load_col, load_col]
    exact congrArg (fun v => VecWindow.put a (k0_off2 (wordAt (F := F) tabI i T0)) S1024x256.size (k0_pay3 (k0_pay9 x1 x2) _ v)) (load_rows _ hr a)
  isplitl [HS]; · iexact HS
  iexists _; iexact HW

set_option maxHeartbeats 8000000 in
/-- A step on the diagonal. -/
theorem diag_run
    (hz : ¬ zeroBit i = 1#1)
    (hw : k0_chk1 (wordAt (F := F) tabI i T0) (wordAt (F := F) tabJ i T1))
    (h2 : ¬ k0_cond2 (wordAt (F := F) tabI i T0) (wordAt (F := F) tabJ i T1) = 1#1)
    (h3 : k0_cond3 (wordAt (F := F) tabI i T0) (wordAt (F := F) tabJ i T1) = 1#1)
    (h4 : ¬ k0_cond4 i = 1#1) (hr : RowsIn (wordAt (F := F) tabI i T0)) :
    StepRun c i arg4 harg4 arg5 harg5 arg6 harg6 arg7 harg7 arg8 harg8 arg9 harg9 arg10 harg10 arg12 harg12 arg13 harg13 T0 T1 x0 x1 x2 x3 x4 x5 x6 y7 y8 a g true false false hr := by
  unfold StepRun held; intro W K
  rw [cc0_att_bwd_eq_skeleton]; unfold cc0_att_bwd_skel
  rw [k0_part1_eq_skeleton, k0_part2_eq_skeleton, k0_part3_eq_skeleton]; unfold k0_part1_skel k0_part2_skel k0_part3_skel
  iintro ⟨⟨H0, H1, H2, H3, H4, H5, H6, HT0, HT1⟩, HO7, HO8, HA, HG, HS, HW, Hk⟩
  have hT0 : tabI.IsWhole := Memref.isWhole_whole _
  have hT1 : tabJ.IsWhole := Memref.isWhole_whole _
  have hA : accM.IsWhole := Memref.isWhole_whole _
  have hG : dqM.IsWhole := Memref.isWhole_whole _
  sl_exec! (disch := first | exact hz | exact hw | exact h2 | exact h3 | exact h4)
  sl_step
  iapply Hk
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  isplitl [HO7]
  · unfold owns
    iexists _; isplitr; swap; · iexact HO7
    ipureintro
    refine (View.read_writes_full _ _ _ _ _).trans ?_
    rw [load_block, load_block, load_block, load_block, load_wide, load_col, load_col]
    rfl
  isplitl [HO8]
  · unfold owns
    iexists _; isplitr; swap; · iexact HO8
    ipureintro
    refine (View.read_writes_full _ _ _ _ _).trans ?_
    rw [load_block, load_block, load_block, load_wide, load_col]
    rfl
  isplitl [HA]
  · refine pt_of_eq ?_
    refine (acc_writes _ hr _ _ _).trans ?_
    rw [load_block, load_block, load_block, load_block, load_wide, load_col, load_col]
    exact congrArg (fun v => VecWindow.put a (k0_off2 (wordAt (F := F) tabI i T0)) S1024x256.size (k0_pay3 (k0_pay9 x1 x2) _ v)) (load_rows _ hr a)
  isplitl [HG]
  · refine pt_of_eq ?_
    exact (stepD_false i g _).symm
  isplitl [HS]; · iexact HS
  iexists _; iexact HW

set_option maxHeartbeats 8000000 in
/-- A step below the diagonal. -/
theorem off_run
    (hz : ¬ zeroBit i = 1#1)
    (hw : k0_chk1 (wordAt (F := F) tabI i T0) (wordAt (F := F) tabJ i T1))
    (h2 : k0_cond2 (wordAt (F := F) tabI i T0) (wordAt (F := F) tabJ i T1) = 1#1)
    (h3 : ¬ k0_cond3 (wordAt (F := F) tabI i T0) (wordAt (F := F) tabJ i T1) = 1#1)
    (h4 : ¬ k0_cond4 i = 1#1) (hr : RowsIn (wordAt (F := F) tabI i T0)) :
    StepRun c i arg4 harg4 arg5 harg5 arg6 harg6 arg7 harg7 arg8 harg8 arg9 harg9 arg10 harg10 arg12 harg12 arg13 harg13 T0 T1 x0 x1 x2 x3 x4 x5 x6 y7 y8 a g false false false hr := by
  unfold StepRun held; intro W K
  rw [cc0_att_bwd_eq_skeleton]; unfold cc0_att_bwd_skel
  rw [k0_part1_eq_skeleton, k0_part2_eq_skeleton, k0_part3_eq_skeleton]; unfold k0_part1_skel k0_part2_skel k0_part3_skel
  iintro ⟨⟨H0, H1, H2, H3, H4, H5, H6, HT0, HT1⟩, HO7, HO8, HA, HG, HS, HW, Hk⟩
  have hT0 : tabI.IsWhole := Memref.isWhole_whole _
  have hT1 : tabJ.IsWhole := Memref.isWhole_whole _
  have hA : accM.IsWhole := Memref.isWhole_whole _
  have hG : dqM.IsWhole := Memref.isWhole_whole _
  sl_exec! (disch := first | exact hz | exact hw | exact h2 | exact h3 | exact h4)
  sl_step
  iapply Hk
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  isplitl [HO7]
  · unfold owns
    iexists _; isplitr; swap; · iexact HO7
    ipureintro
    refine (View.read_writes_full _ _ _ _ _).trans ?_
    rw [load_block, load_block, load_block, load_block, load_wide, load_wide, load_col, load_col]
    rfl
  isplitl [HO8]
  · unfold owns
    iexists _; isplitr; swap; · iexact HO8
    ipureintro
    refine (View.read_writes_full _ _ _ _ _).trans ?_
    rw [load_block, load_block, load_block, load_sum, load_wide, load_col]
    rfl
  isplitl [HA]
  · refine pt_of_eq ?_
    refine (acc_writes _ hr _ _ _).trans ?_
    rw [load_block, load_block, load_block, load_block, load_wide, load_col, load_col]
    exact congrArg (fun v => VecWindow.put a (k0_off2 (wordAt (F := F) tabI i T0)) S1024x256.size (k0_pay2 (k0_pay4 x1 x2) _ v)) (load_rows _ hr a)
  isplitl [HG]
  · refine pt_of_eq ?_
    exact (stepD_false i g _).symm
  isplitl [HS]; · iexact HS
  iexists _; iexact HW

set_option maxHeartbeats 8000000 in
/-- A head's first step: the running gradient cleared, the tile on the diagonal. -/
theorem first_run
    (hz : zeroBit i = 1#1)
    (hw : k0_chk1 (wordAt (F := F) tabI i T0) (wordAt (F := F) tabJ i T1))
    (h2 : ¬ k0_cond2 (wordAt (F := F) tabI i T0) (wordAt (F := F) tabJ i T1) = 1#1)
    (h3 : k0_cond3 (wordAt (F := F) tabI i T0) (wordAt (F := F) tabJ i T1) = 1#1)
    (h4 : ¬ k0_cond4 i = 1#1) (hr : RowsIn (wordAt (F := F) tabI i T0)) :
    StepRun c i arg4 harg4 arg5 harg5 arg6 harg6 arg7 harg7 arg8 harg8 arg9 harg9 arg10 harg10 arg12 harg12 arg13 harg13 T0 T1 x0 x1 x2 x3 x4 x5 x6 y7 y8 a g true true false hr := by
  unfold StepRun held; intro W K
  rw [cc0_att_bwd_eq_skeleton]; unfold cc0_att_bwd_skel
  rw [k0_part1_eq_skeleton, k0_part2_eq_skeleton, k0_part3_eq_skeleton]; unfold k0_part1_skel k0_part2_skel k0_part3_skel
  iintro ⟨⟨H0, H1, H2, H3, H4, H5, H6, HT0, HT1⟩, HO7, HO8, HA, HG, HS, HW, Hk⟩
  have hT0 : tabI.IsWhole := Memref.isWhole_whole _
  have hT1 : tabJ.IsWhole := Memref.isWhole_whole _
  have hA : accM.IsWhole := Memref.isWhole_whole _
  have hG : dqM.IsWhole := Memref.isWhole_whole _
  sl_exec! (disch := first | exact hz | exact hw | exact h2 | exact h3 | exact h4)
  sl_step
  iapply Hk
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  isplitl [HO7]
  · unfold owns
    iexists _; isplitr; swap; · iexact HO7
    ipureintro
    refine (View.read_writes_full _ _ _ _ _).trans ?_
    rw [load_block, load_block, load_block, load_block, load_wide, load_col, load_col]
    rfl
  isplitl [HO8]
  · unfold owns
    iexists _; isplitr; swap; · iexact HO8
    ipureintro
    refine (View.read_writes_full _ _ _ _ _).trans ?_
    rw [load_block, load_block, load_block, load_wide, load_col]
    rfl
  isplitl [HA]
  · refine pt_of_eq ?_
    refine (acc_writes _ hr _ _ _).trans ?_
    rw [load_block, load_block, load_block, load_block, load_wide, load_col, load_col]
    rw [show accM.view.writes (Elt F) accM.view.junk first_run.sl.HA_1 = k0_pay1 from acc_full _ _]
    exact congrArg (fun v => VecWindow.put k0_pay1 (k0_off2 (wordAt (F := F) tabI i T0)) S1024x256.size (k0_pay3 (k0_pay9 x1 x2) _ v)) (load_rows _ hr k0_pay1)
  isplitl [HG]
  · refine pt_of_eq ?_
    exact (stepD_false i g _).symm
  isplitl [HS]; · iexact HS
  iexists _; iexact HW

end Cert.KernelIdeal.Step

end
-- ==== Proof.Frame.lean ====
/-
The run of the attention gradient: every step from its state to the next, the launch, and what the launch leaves.
-/
module

public import proofs.«01_k».proof.Proof.State
public import proofs.«01_k».proof.Proof.Body
public import Idealize.ShloMosaic.Lib.StableHlo.RunRead

@[expose] public section

set_option maxRecDepth 16384
set_option Elab.async false

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

section Run

variable (c : Dev nD) (i : grid0.Coords)
  (arg4 : Memref sig .tc .vmem S1024x256 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1024x128 .f32) (harg9 : arg9.IsWhole)
  (arg10 : Memref sig .tc .vmem S1024x128 .bf16) (harg10 : arg10.IsWhole)
  (arg12 : Memref sig .tc .vmem S1024x256 .f32) (harg12 : arg12.IsWhole)
  (arg13 : Memref sig .tc .vmem S1024x128 .f32) (harg13 : arg13.IsWhole)
  (x0 : S1024x256.Idx → Elt F .bf16) (x1 x2 x3 : S1024x128.Idx → Elt F .bf16)
  (x4 x5 : S1024x128.Idx → Elt F .f32) (x6 : S1024x128.Idx → Elt F .bf16)
  (y7 : S1024x256.Idx → Elt F .f32) (y8 : S1024x128.Idx → Elt F .f32)
  (a : S16384x256.Idx → Elt F .f32) (g : S4x16384x256.Idx → Elt F .f32)

/-- The step at coordinates `i` takes the path its words and coordinates say. -/
theorem step_run (hr : RowsIn (wordAt (F := F) tabI i rowTab)) :
    StepRun c i arg4 harg4 arg5 harg5 arg6 harg6 arg7 harg7 arg8 harg8 arg9 harg9 arg10 harg10 arg12 harg12 arg13 harg13
      rowTab colTab x0 x1 x2 x3 x4 x5 x6 y7 y8 a g (onDiag i) (isFirst i) (isLast i) hr := by
  obtain ⟨hz, h2, h3, h4, hfd, hld, hfl, -, -⟩ := branches i
  have hw : k0_chk1 (wordAt (F := F) tabI i rowTab) (wordAt (F := F) tabJ i colTab) := by rw [word_row, word_col]; exact words_ok i
  rw [← word_row (F := F) i, ← word_col (F := F) i] at h2 h3
  generalize onDiag i = d at *
  generalize isFirst i = z at *
  generalize isLast i = l at *
  match d, z, l with
  | true, false, true => exact last_run c i _ _ _ _ _ _ _ _ _ _ _ _ _ _ _ _ _ _ _ _ _ _ _ _ _ _ _ _ _ _ _ (fun h => absurd (hz.mp h) (by decide)) hw (fun h => absurd (h2.mp h) (by decide)) (h3.mpr rfl) (h4.mpr rfl) hr
  | true, false, false => exact diag_run c i _ _ _ _ _ _ _ _ _ _ _ _ _ _ _ _ _ _ _ _ _ _ _ _ _ _ _ _ _ _ _ (fun h => absurd (hz.mp h) (by decide)) hw (fun h => absurd (h2.mp h) (by decide)) (h3.mpr rfl) (fun h => absurd (h4.mp h) (by decide)) hr
  | true, true, false => exact first_run c i _ _ _ _ _ _ _ _ _ _ _ _ _ _ _ _ _ _ _ _ _ _ _ _ _ _ _ _ _ _ _ (hz.mpr rfl) hw (fun h => absurd (h2.mp h) (by decide)) (h3.mpr rfl) (fun h => absurd (h4.mp h) (by decide)) hr
  | false, false, false => exact off_run c i _ _ _ _ _ _ _ _ _ _ _ _ _ _ _ _ _ _ _ _ _ _ _ _ _ _ _ _ _ _ _ (fun h => absurd (hz.mp h) (by decide)) hw (h2.mpr rfl) (fun h => absurd (h3.mp h) (by decide)) (fun h => absurd (h4.mp h) (by decide)) hr
  | _, true, true => exact absurd (hfl rfl) (by decide)
  | false, true, _ => exact absurd (hfd rfl) (by decide)
  | false, _, true => exact absurd (hld rfl) (by decide)

/-- On the diagonal the old block of key gradients does not matter. -/
theorem stepK_old (d : Bool) (y : S1024x256.Idx → Elt F .f32) :
    stepK x0 x1 x2 x3 x4 x5 x6 (if d = true then y else y7) d = stepK x0 x1 x2 x3 x4 x5 x6 y7 d := by
  cases d <;> rfl
/-- On the diagonal the old block of value gradients does not matter. -/
theorem stepV_old (d : Bool) (y : S1024x128.Idx → Elt F .f32) :
    stepV x0 x1 x2 x4 x6 (if d = true then y else y8) d = stepV x0 x1 x2 x4 x6 y8 d := by
  cases d <;> rfl
/-- A head's first step does not look at the running gradient it finds. -/
theorem stepQ_old (d z : Bool) (w w' : BitVec 32) (hw : RowsIn w) (hw' : RowsIn w') (e : w = w') (b : S16384x256.Idx → Elt F .f32)
    (h : z = true ∨ b = a) :
    stepQ x0 x1 x2 x3 x4 x5 x6 b d z w hw = stepQ x0 x1 x2 x3 x4 x5 x6 a d z w' hw' := by
  subst e
  rcases h with h | h
  · subst h; rfl
  · subst h; rfl

end Run

variable (m : (ℓ : Loc nD τ sig) → Buf (Elt F) ℓ) (ρ : Dev nD → PrngReg)

theorem first_zeroI : isFirst ((cfgA Ideal).grid.coords ⟨0, by decide⟩) = true := by decide +kernel

/-- The first step is its head's first. -/
theorem first_zero (t : Fin (cfgA F).N) (h : t.val = 0) : isFirst (crd t) = true := by
  have e : crd t = crd ⟨0, Nat.zero_lt_of_lt t.isLt⟩ := congrArg crd (Fin.ext h)
  rw [e]
  exact first_zeroI

theorem Phi_now (c : Dev nD) (t : Fin (cfgA F).N) : (dats m 0 c).Φ t.castSucc = Phi m c t.val := by
  show Phi m c t.castSucc.val = _
  rw [Fin.val_castSucc]
theorem Phi_then (c : Dev nD) (t : Fin (cfgA F).N) : (dats m 0 c).Φ t.succ = Phi m c (t.val + 1) := by
  show Phi m c t.succ.val = _
  rw [Fin.val_succ]

/-- The staging buffer of a window at a step. -/
abbrev ms (w : Fin 9) (t : Fin (cfgA F).N) := ((cfgA F).win w).stage ((cfgA F).slots t w)

/-- The body of step `t`. -/
abbrev bodyAt (t : Fin (cfgA F).N) : Prog (TpuEff nD τ sig (Elt F) Λ₀ .tc) PUnit :=
  (defs₀ (F := F)) .tc (cfgA F).body ((cfgA F).bodyArgs t ((cfgA F).slots t))

/-- Before the first step the query gradients are as launched. -/
theorem state_zero (c : Dev nD) : (state m c 0).g = V m c main_v50_0 := rfl

attribute [local irreducible] state

set_option maxHeartbeats 800000 in
/-- Every step, from its state to the next. -/
theorem sound_body (c : Dev nD) (t : Fin (cfgA F).N) :
    iprop((dats m 0 c).Φ t.castSucc ∗ (dats m 0 c).owesAt () t.castSucc
        ∗ bigSep Finset.univ fun w : Fin (cfgA F).W => iprop(∃ d, owns (c : Thread nD τ) (((cfgA F).win w).stage ((cfgA F).slots t w)) fullShare ((dats m 0 c).before w t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0, bigSep_W0]
  unfold bodyAt defs₀
  rw [Defs.onTc_tc]
  rewrite [show (cfgA F).idle (7 : Fin 9) ((cfgA F).grid.coords t) = false from idle7 t]
  simp only [before0, before1, before2, before3, before4, before5, before6, before7, before8, after0, after1, after2, after3, after4, after5, after6, after7, after8]
  rewrite [Phi_then, Phi_now]
  unfold Dat.owesAt Pipeline.owesWithin
  rewrite [show (dats m 0 c).owed t.castSucc = 0 from rfl, show (dats m 0 c).owed t.succ = 0 from rfl]
  unfold Phi
  rewrite [state_succ m c t]
  iintro ⟨⟨⟨%a, %ha, HA⟩, Hg, HS, HG, HT0, HT1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (step_run c (crd t) _ _ _ _ _ _ _ _ _ _ _ _ _ _ _ _ _ _ (iblk m c 0 t) (iblk m c 1 t) (iblk m c 2 t) (iblk m c 3 t) (iblk m c 4 t) (iblk m c 5 t) (iblk m c 6 t)
    _ _ a (state m c t.val).g (by rw [word_row]; exact rows_in (crd t)) W _)
  isplitl [H0 H1 H2 H3 H4 H5 H6 HT0 HT1]
  · unfold held
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    iexact HT1
  isplitl [H7]; · iapply rep_of_owns; iexact H7
  isplitl [H8]; · iapply rep_of_owns; iexact H8
  isplitl [HA]; · iexact HA
  isplitl [HG]; · iexact HG
  isplitl [HS]; · iexact HS
  isplitl [HW]; · iexact HW
  have hQ : ∀ hr, stepQ (iblk m c 0 t) (iblk m c 1 t) (iblk m c 2 t) (iblk m c 3 t) (iblk m c 4 t) (iblk m c 5 t) (iblk m c 6 t) a
      (onDiag (crd t)) (isFirst (crd t)) (wordAt (F := F) tabI (crd t) rowTab) hr = nextQ m c t (state m c t.val).a := fun hr =>
    stepQ_old _ _ _ _ _ _ _ _ _ _ _ _ _ _ (word_row (crd t)) _ (by
      by_cases h : t.val = 0
      · exact Or.inl (first_zero t h)
      · exact Or.inr (ha h))
  rewrite [hQ, stepK_old, stepV_old]
  unfold held
  iintro ⟨⟨H0, H1, H2, H3, H4, H5, H6, HT0, HT1⟩, H7, H8, HA, HG, HS, ⟨%W', HW'⟩⟩
  isplitl [HA Hg HS HG HT0 HT1]
  · isplitl [HA]
    · iexists _; isplitr; swap; · iexact HA
      ipureintro; exact fun _ => rfl
    isplitl [Hg]; · iexact Hg
    isplitl [HS]; · iexact HS
    isplitl [HG]; · iexact HG
    isplitl [HT0]; · iexact HT0
    iexact HT1
  isplitl [HW']
  · iexists W'; isplitr; · ipureintro; exact fun _ _ => Or.inl trivial
    iexact HW'
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iexact H7
  iexact H8

theorem body_obligation (c : Dev nD) : BodyObligation (dats m 0 c) (defs₀ (F := F)) Variants.none () Set.univ := fun t =>
  sound_body m c t

/-! ## The launch -/

/-- The body's own semaphore. -/
def osem0 : Fin 1 → SemLoc sig := fun j => ![SemLoc.dma cc0_scratch1.sem] j
theorem ownSemFacts0 : Pipeline.OwnSemFacts spec0 osem0 := by decide

/-- The one array that the body writes itself: the query gradients. -/
abbrev R0 : Finset (Ref sig .tc) := {main_v50_0}
theorem R0_sub : R0 ⊆ Pipeline.restRefsP sig pre0 spec0 \ ∅ := by decide

/-- What the arrays hold after the launch, where the body writes them itself. -/
def G (c : Dev nD) : (b : Ref sig .tc) → Buf (Elt F) ((c : Thread nD τ).loc b) :=
  Function.update (V m c) main_v50_0 (state m c 544).g

theorem tabs_held (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop(((c : Thread nD τ).loc (pre0.ref 0) ↦{q 0} v 0) ∗ ((c : Thread nD τ).loc (pre0.ref 1) ↦{q 1} v 1)) := by
  unfold Pipeline.prefHeld
  rw [BI.bigSep_univ_eq_bigSepL [(0 : Fin 2), 1] (by decide) (by decide)]
  rw [BI.bigSepL_cons, BI.bigSepL_singleton]
  rfl

theorem routed0 (c : Dev nD) (f : (b : Ref sig .tc) → Buf (Elt F) ((c : Thread nD τ).loc b)) :
    (Pipeline.routed R0 c f : sProp 𝕄) = iprop((c : Thread nD τ).loc main_v50_0 ↦{fullShare} f main_v50_0) := by
  unfold Pipeline.routed
  rw [BI.bigSep_eq_bigSepL_of_eq [main_v50_0] (by decide) (by decide)]
  simp only [BI.bigSepL_singleton]

theorem ownSems_eq (c : Dev nD) : (Pipeline.ownSems0 osem0 c : sProp 𝕄) = semVal ((c : Thread nD τ), SemLoc.dma cc0_scratch1.sem) 0 := by
  rw [Pipeline.ownSems0_eq_of_list c osem0 [0] (by decide) (by decide)]; rfl

/-- The launch hands the body what its invariant asks before the first step. -/
theorem enter (c : Dev nD) : iprop(Pipeline.ΦDRG osem0 spec0 ∅ R0 (V m) (V m) c ∗ Pipeline.ΦT pre0 (tabs (F := F)) c) ⊢ (dats m 0 c).Φ 0 := by
  unfold Pipeline.ΦT
  rw [show (dats m 0 c).Φ 0 = Phi m c 0 from rfl, Pipeline.ΦDRG_eq, scopedRest0_eq, routed0, ownSems_eq, tabs_held, BI.bigSep_empty]
  unfold Phi
  rw [state_zero]
  iintro ⟨⟨⟨%f, HA⟩, Hg, HS, -, HG⟩, HT0, HT1⟩
  isplitl [HA]
  · iexists f; isplitr; swap; · iexact HA
    ipureintro; exact fun h => absurd rfl h
  isplitl [Hg]; · iexact Hg
  isplitl [HS]; · iexact HS
  isplitl [HG]; · iexact HG
  isplitl [HT0]; · iexact HT0
  iexact HT1

/-- After the last step the body's invariant gives back what the launch asks. -/
theorem leave (c : Dev nD) : (dats m 0 c).Φ (Fin.last (cfgA F).N) ⊢ Pipeline.ΦDRG osem0 spec0 ∅ R0 (V m) (G m) c := by
  rw [show (dats m 0 c).Φ (Fin.last (cfgA F).N) = Phi m c 544 from rfl, Pipeline.ΦDRG_eq, scopedRest0_eq, routed0, ownSems_eq, BI.bigSep_empty]
  unfold Phi G
  rw [Function.update_self]
  iintro ⟨⟨%a, -, HA⟩, Hg, HS, HG, -, -⟩
  isplitl [HA]; · iexists a; iexact HA
  isplitl [Hg]; · iexact Hg
  isplitl [HS]; · iexact HS
  isplitr; · iempintro
  iexact HG

/-- The tables hold what the steps' words are read from. -/
theorem tabs_eq (c : Dev nD) (k : Fin 2) : V m c (pre0.ref k) = (adm (F := F)).1 k := by
  match k with
  | 0 => show V m c main_c = rowTab; unfold V; after_reads_simp; rfl
  | 1 => show V m c main_c_0 = colTab; unfold V; after_reads_simp; rfl

/-- No host operation makes a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option backward.isDefEq.respectTransparency.types false in
/-- The run: every array ends as the pipeline's data say, the query gradients at the last state, every other buffer as the host's
    operations left it, every semaphore at zero. -/
theorem run_main : θ_run defs (onTc (τ := τ) (main (F := F))) ⟨m, fun _ => 0, ρ⟩
    (fun r => Pipeline.FramePostRG (Pipeline.pin pcfgs fun _ => adm) (dats m) 0 R0 (V m) (G m) r ∧ r.2.sem = fun _ => 0) :=
  Pipeline.θ_run_frameP_dmaRG_shared (Q' := _) pcfgs (fun _ => adm) (dats m) (0 : Fin 1) launch₀0 osem0 defs₀ Variants.none ownSemFacts0 ∅ R0
    (Finset.empty_subset _) R0_sub m ρ main
    (hbody := fun c => (body_obligation m c).loose) (hq := fun _ _ _ => rfl) (howed := fun _ _ => rfl) (V := V m)
    (hmain := Pipeline.hmainP_prefix pcfgs 0 defs₀ Variants.none m main hostOps0 hostOps0_sub hostOps0_fresh (h := main_chain))
    (hA := fun _ _ => rfl) (hpf := tabs_eq m) (G := G m) (hin := enter m) (hout := leave m)

end Cert.KernelIdeal.Step

end
-- ==== Proof.Frames.lean ====
/-
What a run of the attention gradient leaves in its arguments: what it found.
-/
module

public import proofs.«01_k».proof.Proof.Frame

@[expose] public section

set_option maxRecDepth 16384
set_option Elab.async false

noncomputable section

namespace Cert.KernelIdeal.Step

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- No host operation writes an argument. -/
theorem V_arg0 (c : Dev nD) : V m c main_arg0 = m ((c.tc : Thread nD τ).loc main_arg0) := by unfold V; after_reads_simp
/-- The same of the keys and values. -/
theorem V_arg1 (c : Dev nD) : V m c main_arg1 = m ((c.tc : Thread nD τ).loc main_arg1) := by unfold V; after_reads_simp
/-- The same of the shared keys. -/
theorem V_arg2 (c : Dev nD) : V m c main_arg2 = m ((c.tc : Thread nD τ).loc main_arg2) := by unfold V; after_reads_simp
/-- The same of the result's gradient. -/
theorem V_arg3 (c : Dev nD) : V m c main_arg3 = m ((c.tc : Thread nD τ).loc main_arg3) := by unfold V; after_reads_simp

/-- The array of an input window ends as the launch found it. -/
theorem input_kept {r} (h : Pipeline.FramePostRG (Pipeline.pin pcfgs fun _ => adm) (dats m) 0 R0 (V m) (G m) r) (c : Dev nD) (w : Fin 9)
    (hw : ((cfgA F).win w).isOut = false) :
    r.2.mem ((c.tc : Thread nD τ).loc (Pipeline.arrRef spec0 w)) = V m c (Pipeline.arrRef spec0 w) :=
  ((h.toR c).1 w).trans ((dats m 0 c).arrAt_in w hw _)

/-- A run ends with the arguments as they were. -/
theorem args_kept {r} (h : Pipeline.FramePostRG (Pipeline.pin pcfgs fun _ => adm) (dats m) 0 R0 (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h0 := input_kept m h c (0 : Fin 9) rfl
  have h1 := input_kept m h c (1 : Fin 9) rfl
  have h2 := input_kept m h c (2 : Fin 9) rfl
  have h3 := input_kept m h c (6 : Fin 9) rfl
  have e0 := V_arg0 m c
  have e1 := V_arg1 m c
  have e2 := V_arg2 m c
  have e3 := V_arg3 m c
  generalize V m c = v at h0 h1 h2 h3 e0 e1 e2 e3
  exact ⟨h0.trans e0, h1.trans e1, h2.trans e2, h3.trans e3⟩

end Cert.KernelIdeal.Step

end
-- ==== Proof.RefValue.lean ====
/-
The reference over real arguments: each of its arrays, read at an index, is what the definitions of the gradient say.
-/
module

public import proofs.«01_k».proof.Proof.Gen.ReferenceIdeal
public import proofs.«01_k».proof.Proof.Gen.ReferenceIdeal.Run
public import proofs.«01_k».proof.Proof.Math
public import Idealize.ShloMosaic.Lib.IdealHost

@[expose] public section

set_option maxRecDepth 16384
set_option Elab.async false

noncomputable section

namespace Cert.ReferenceIdeal.Chain

open Cert.ReferenceIdeal Cert.ReferenceIdeal.Gen Cert.Attn
open Idealize.ShloMosaic Idealize.ShloMosaic.TcCoe

/-! ## The reference's arrays, one from another -/

variable (Q KV : FVec Ideal S16384x1024 .bf16) (KP : FVec Ideal S16384x128 .bf16) (O : FVec Ideal S16384x512 .bf16)

/-- The queries, head by head. -/
def queries : FVec Ideal S16384x4x256 .f32 := shapeCast _ (extf .f32 Q bitsLt_bf16_f32) shapeCasts_S16384x1024_S16384x4x256
/-- The queries' first halves. -/
def queriesN : FVec Ideal S16384x4x128 .f32 := extractStridedSlice S16384x4x128 ![0, 0, 0] (queries Q) slices_S16384x4x256_S16384x4x128_0_0_0
/-- The queries' second halves. -/
def queriesP : FVec Ideal S16384x4x128 .f32 := extractStridedSlice S16384x4x128 ![0, 0, 128] (queries Q) slices_S16384x4x256_S16384x4x128_0_0_128
/-- The keys' first halves. -/
def keysN : FVec Ideal S16384x4x128 .f32 :=
  shapeCast _ (extf .f32 (extractStridedSlice S16384x512 ![0, 0] KV slices_S16384x1024_S16384x512_0_0) bitsLt_bf16_f32) shapeCasts_S16384x512_S16384x4x128
/-- The values. -/
def vals : FVec Ideal S16384x4x128 .f32 :=
  shapeCast _ (extf .f32 (extractStridedSlice S16384x512 ![0, 512] KV slices_S16384x1024_S16384x512_0_512) bitsLt_bf16_f32) shapeCasts_S16384x512_S16384x4x128
/-- The keys' second halves, the same for every head. -/
def keysP : FVec Ideal S16384x4x128 .f32 :=
  broadcastInDim S16384x4x128 ![0, 1, 2] bcast_S16384x1x128_S16384x4x128_0_1_2
    (broadcastInDim S16384x1x128 ![0, 2] bcast_S16384x128_S16384x1x128_0_2 (extf .f32 KP bitsLt_bf16_f32))
/-- The gradients of the result, head by head. -/
def grads : FVec Ideal S16384x4x128 .f32 := shapeCast _ (extf .f32 O bitsLt_bf16_f32) shapeCasts_S16384x512_S16384x4x128

/-- The chunk of each position. -/
def chunks : IVec S16384 32 := Host.divsi (iotaInDim S16384 32 0) (broadcastInDim S16384 ![] bcast_S_S16384 (constantI S_ 32 64#32))
/-- Which keys each query sees. -/
def mask : IVec S4x16384x16384 1 :=
  broadcastInDim S4x16384x16384 ![1, 2] bcast_S16384x16384_S4x16384x16384_1_2
    (cmpi .sle (broadcastInDim S16384x16384 ![0, 1] bcast_S1x16384_S16384x16384_0_1 (broadcastInDim S1x16384 ![1] bcast_S16384_S1x16384_1 chunks))
      (broadcastInDim S16384x16384 ![0, 1] bcast_S16384x1_S16384x16384_0_1 (broadcastInDim S16384x1 ![0] bcast_S16384_S16384x1_0 chunks)))
/-- The masked scores. -/
def scores : FVec Ideal S4x16384x16384 .f32 :=
  select mask
    (addf (Host.dotGeneral dot_S16384x4x128_S16384x4x128_S4x16384x16384_2_2_0_0_1_1 none (queriesN Q) (keysN KV))
      (Host.dotGeneral dot_S16384x4x128_S16384x4x128_S4x16384x16384_2_2_0_0_1_1 none (queriesP Q) (keysP KP)))
    (broadcastInDim S4x16384x16384 ![] bcast_S_S4x16384x16384 (constant S_ .f32 0xFF800000#32))
/-- The greatest score of each query. -/
def tops : FVec Ideal S4x16384 .f32 :=
  Host.reduce FloatOps.maximumf (scores Q KV KP) (constant S_ .f32 0xFF800000#32) reducesTo_S4x16384x16384_S4x16384_d2 h_S_
/-- The same, against minus infinity. -/
def tops' : FVec Ideal S4x16384 .f32 :=
  maximumf (broadcastInDim S4x16384 ![] bcast_S_S4x16384 (constant S_ .f32 0xFF800000#32)) (tops Q KV KP)

variable (M : FVec Ideal S4x16384 .f32)

/-- The exponentials of the scores less `M`. -/
def exps : FVec Ideal S4x16384x16384 .f32 :=
  Host.exp (subf (scores Q KV KP) (broadcastInDim S4x16384x16384 ![0, 1, 2] bcast_S4x16384x1_S4x16384x16384_0_1_2
    (broadcastInDim S4x16384x1 ![0, 1] bcast_S4x16384_S4x16384x1_0_1 M)))
/-- Their sums. -/
def sums : FVec Ideal S4x16384x1 .f32 :=
  broadcastInDim S4x16384x1 ![0, 1] bcast_S4x16384_S4x16384x1_0_1
    (Host.reduceAdd (exps Q KV KP M) (constant S_ .f32 0x00000000#32) reducesTo_S4x16384x16384_S4x16384_d2 h_S_)
/-- The probabilities. -/
def probs : FVec Ideal S4x16384x16384 .f32 :=
  Host.divf (exps Q KV KP M) (broadcastInDim S4x16384x16384 ![0, 1, 2] bcast_S4x16384x1_S4x16384x16384_0_1_2 (sums Q KV KP M))

/-- One over the squared sums. -/
def invsq : FVec Ideal S4x16384x1 .f32 :=
  Host.divf (broadcastInDim S4x16384x1 ![] bcast_S_S4x16384x1 (constant S_ .f32 0x3F800000#32)) (mulf (sums Q KV KP M) (sums Q KV KP M))
/-- The gradients of the result, positions last. -/
def gradsT : FVec Ideal S4x128x16384 .f32 := transpose S4x128x16384 [1, 2, 0] (grads O) transposes_S16384x4x128_S4x128x16384_1_2_0
/-- The gradients of the probabilities. -/
def dprobs : FVec Ideal S4x16384x16384 .f32 :=
  Host.dotGeneral dot_S4x128x16384_S16384x4x128_S4x16384x16384_1_2_2_0_0_1 none (gradsT O) (vals KV)
/-- The gradient of the values. -/
def dvals : FVec Ideal S16384x512 .f32 :=
  shapeCast _ (transpose S16384x4x128 [2, 0, 1]
    (Host.dotGeneral dot_S4x128x16384_S4x16384x16384_S4x128x16384_2_1_1_2_0_0 none (gradsT O) (probs Q KV KP M)) transposes_S4x128x16384_S16384x4x128_2_0_1)
    shapeCasts_S16384x4x128_S16384x512
/-- The gradient of each query's sum. -/
def dsums : FVec Ideal S4x16384 .f32 :=
  Host.reduceAdd (Host.negf (shapeCast S4x16384x1 (Host.reduceAdd (mulf (mulf (dprobs KV O)
    (broadcastInDim S4x16384x16384 ![0, 1, 2] bcast_S4x16384x1_S4x16384x16384_0_1_2 (invsq Q KV KP M))) (exps Q KV KP M))
    (constant S_ .f32 0x00000000#32) reducesTo_S4x16384x16384_S4x16384_d2 h_S_) shapeCasts_S4x16384_S4x16384x1))
    (constant S_ .f32 0x00000000#32) reducesTo_S4x16384x1_S4x16384_d2 h_S_
/-- The gradients of the scores. -/
def dscores : FVec Ideal S4x16384x16384 .f32 :=
  select mask (mulf (addf (Host.divf (dprobs KV O) (broadcastInDim S4x16384x16384 ![0, 1, 2] bcast_S4x16384x1_S4x16384x16384_0_1_2 (sums Q KV KP M)))
    (broadcastInDim S4x16384x16384 ![0, 1] bcast_S4x16384_S4x16384x16384_0_1 (dsums Q KV KP O M))) (exps Q KV KP M))
    (broadcastInDim S4x16384x16384 ![] bcast_S_S4x16384x16384 (constant S_ .f32 0x00000000#32))

variable (D : FVec Ideal S4x16384x16384 .f32)

/-- Score gradients times keys: one half of the gradient of the queries. -/
def byKeys (K : FVec Ideal S16384x4x128 .f32) : FVec Ideal S16384x4x128 .f32 :=
  transpose S16384x4x128 [1, 0, 2] (Host.dotGeneral dot_S4x16384x16384_S16384x4x128_S4x16384x128_2_0_1_2_0_1 none D K)
    transposes_S4x16384x128_S16384x4x128_1_0_2
/-- Score gradients, the other way round, times queries: one half of the gradient of the keys. -/
def byQueries (K : FVec Ideal S16384x4x128 .f32) : FVec Ideal S16384x4x128 .f32 :=
  transpose S16384x4x128 [1, 0, 2] (Host.dotGeneral dot_S4x16384x16384_S16384x4x128_S4x16384x128_1_0_2_2_0_1 none D K)
    transposes_S4x16384x128_S16384x4x128_1_0_2
/-- Two halves side by side. -/
def halves (A B : FVec Ideal S16384x4x128 .f32) : FVec Ideal S16384x4x256 .f32 :=
  concatenate S16384x4x256 2 [⟨S16384x4x128, A⟩, ⟨S16384x4x128, B⟩] concatenates_S16384x4x128_S16384x4x128_S16384x4x256_d2
/-- The gradient of the queries. -/
def dqueries : FVec Ideal S4x16384x256 .f32 :=
  transpose S4x16384x256 [1, 0, 2] (halves (byKeys D (keysN KV)) (byKeys D (keysP KP))) transposes_S16384x4x256_S4x16384x256_1_0_2
/-- The gradient of the keys. -/
def dkeys : FVec Ideal S16384x1024 .f32 :=
  shapeCast _ (halves (byQueries D (queriesN Q)) (byQueries D (queriesP Q))) shapeCasts_S16384x4x256_S16384x1024

variable (m : (ℓ : Loc nD τ sig) → Buf (Elt Ideal) ℓ) (c : Dev nD)

/-- The reference's arguments on a device. -/
abbrev argQ : FVec Ideal S16384x1024 .bf16 := m ((c.tc : Thread nD τ).loc main_arg0)
abbrev argKV : FVec Ideal S16384x1024 .bf16 := m ((c.tc : Thread nD τ).loc main_arg1)
abbrev argKP : FVec Ideal S16384x128 .bf16 := m ((c.tc : Thread nD τ).loc main_arg2)
abbrev argO : FVec Ideal S16384x512 .bf16 := m ((c.tc : Thread nD τ).loc main_arg3)

theorem res_dv : Value.res_main_v86 m c
    = dvals (argQ m c) (argKV m c) (argKP m c) (argO m c) (tops' (argQ m c) (argKV m c) (argKP m c)) := by
  unfold Value.res_main_v86
  rfl

theorem res_dq : Value.res_main_v83 m c = dqueries (argKV m c) (argKP m c)
    (dscores (argQ m c) (argKV m c) (argKP m c) (argO m c) (tops' (argQ m c) (argKV m c) (argKP m c))) := by
  unfold Value.res_main_v83
  rfl

theorem res_dk : Value.res_main_v85 m c = dkeys (argQ m c)
    (dscores (argQ m c) (argKV m c) (argKP m c) (argO m c) (tops' (argQ m c) (argKV m c) (argKP m c))) := by
  unfold Value.res_main_v85
  rfl

/-! ## The arrays over real arguments -/

section Values

variable (q kv : S16384x1024.Idx → ℝ) (kp : S16384x128.Idx → ℝ) (o : S16384x512.Idx → ℝ)
  (h : Fin 4) (i j : Fin 16384) (d : Fin 128) (e : Fin 256)

theorem queriesN_at : queriesN (up q) (ix3 i h d) = ((inOf q kv kp o).q h i ⟨d.val, by omega⟩ : EReal) := by pointwise [queriesN, queries]; rfl
theorem queriesP_at : queriesP (up q) (ix3 i h d) = ((inOf q kv kp o).q h i ⟨128 + d.val, by omega⟩ : EReal) := by pointwise [queriesP, queries]; rfl
theorem keysN_at : keysN (up kv) (ix3 i h d) = ((inOf q kv kp o).kn h i d : EReal) := by pointwise [keysN]; rfl
theorem keysP_at : keysP (up kp) (ix3 i h d) = ((inOf q kv kp o).kp i d : EReal) := by pointwise [keysP]; rfl
theorem vals_at : vals (up kv) (ix3 i h d) = ((inOf q kv kp o).vv h i d : EReal) := by pointwise [vals]; rfl
theorem gradsT_at : gradsT (up o) (ix3 h d i) = ((inOf q kv kp o).oo h i d : EReal) := by pointwise [gradsT, grads]; rfl

/-- The mask says which keys are seen. -/
theorem mask_at : mask (ix3 h i j) = if seen i j then 1#1 else 0#1 := by
  pointwise [mask, chunks]
  have hs := seen_word i j
  split
  · exact hs.2 ‹_›
  · exact ValueIdx.eq_zero_of_ne_one fun he => ‹¬ seen i j› (hs.1 he)

theorem scores_at : scores (up q) (up kv) (up kp) (ix3 h i j) = masked (inOf q kv kp o) h i j := by
  pointwise [scores]
  simp only [queriesN_at q kv kp o, queriesP_at q kv kp o, keysN_at q kv kp o, keysP_at q kv kp o, ← EReal.coe_mul, coe_sum, ← EReal.coe_add]
  rw [mask_at, neg_inf]
  unfold masked score
  split
  · rw [ValueIdx.select_one]
  · rw [ValueIdx.select_zero]

theorem tops_at : tops (up q) (up kv) (up kp) (ix2 h i) = (top (inOf q kv kp o) h i : EReal) := by
  pointwise [tops]
  simp only [scores_at q kv kp o]
  rw [neg_inf]
  exact top_eq (inOf q kv kp o) h i

/-- The greater of minus infinity and an entry. -/
theorem max_bot_at (t : FVec Ideal S4x16384 .f32) (k : S4x16384.Idx) :
    maximumf (broadcastInDim S4x16384 ![] bcast_S_S4x16384 (constant S_ .f32 0xFF800000#32)) t k
      = max (Ideal.ofBits .f32 0xFF800000#32) (t k) := rfl

theorem tops'_at : tops' (up q) (up kv) (up kp) (ix2 h i) = (top (inOf q kv kp o) h i : EReal) := by
  unfold tops'
  rw [max_bot_at, tops_at q kv kp o, neg_inf]
  exact max_eq_right bot_le

variable (M : FVec Ideal S4x16384 .f32) (hM : ∀ h i, M (ix2 h i) = (top (inOf q kv kp o) h i : EReal))
include hM

theorem exps_at : exps (up q) (up kv) (up kp) M (ix3 h i j) = ((weight (inOf q kv kp o) h i j * Real.exp (-top (inOf q kv kp o) h i) : ℝ) : EReal) := by
  pointwise [exps]
  rw [hM, scores_at q kv kp o, exp_masked]

theorem sums_at : sums (up q) (up kv) (up kp) M (ix3 h i 0) = ((den (inOf q kv kp o) h i * Real.exp (-top (inOf q kv kp o) h i) : ℝ) : EReal) := by
  pointwise [sums]
  simp only [exps_at q kv kp o (hM := hM), coe_sum, sum_shift]

omit hM in
theorem scaled_ne : den (inOf q kv kp o) h i * Real.exp (-top (inOf q kv kp o) h i) ≠ 0 := mul_ne_zero (den_pos (inOf q kv kp o) h i).ne' (Real.exp_ne_zero _)

theorem probs_at : probs (up q) (up kv) (up kp) M (ix3 h i j) = (prob (inOf q kv kp o) h i j : EReal) := by
  pointwise [probs]
  rw [exps_at q kv kp o (hM := hM), sums_at q kv kp o (hM := hM), div_real _ (scaled_ne q kv kp o h i), prob_shift]

theorem invsq_at : invsq (up q) (up kv) (up kp) M (ix3 h i 0)
    = ((1 / (den (inOf q kv kp o) h i * Real.exp (-top (inOf q kv kp o) h i) * (den (inOf q kv kp o) h i * Real.exp (-top (inOf q kv kp o) h i))) : ℝ) : EReal) := by
  pointwise [invsq]
  rw [sums_at q kv kp o (hM := hM), ← EReal.coe_mul, ← EReal.coe_one, div_real _ (mul_ne_zero (scaled_ne q kv kp o h i) (scaled_ne q kv kp o h i))]

omit hM in
theorem dprobs_at : dprobs (up kv) (up o) (ix3 h i j) = (dprob (inOf q kv kp o) h i j : EReal) := by
  pointwise [dprobs]
  simp only [gradsT_at q kv kp o, vals_at q kv kp o, ← EReal.coe_mul, coe_sum]
  rfl

/-- The reference's gradient of the values. -/
theorem dvals_at (p : Fin 512) : dvals (up q) (up kv) (up kp) (up o) M (ix2 i p)
    = (dV (inOf q kv kp o) ⟨p.val / 128, by omega⟩ i ⟨p.val % 128, by omega⟩ : EReal) := by
  pointwise [dvals]
  simp only [gradsT_at q kv kp o, probs_at q kv kp o (hM := hM), ← EReal.coe_mul, coe_sum]
  exact congrArg _ (Finset.sum_congr rfl fun k _ => mul_comm _ _)

theorem dsums_at : dsums (up q) (up kv) (up kp) (up o) M (ix2 h i)
    = ((-∑ k, dprob (inOf q kv kp o) h i k * (1 / (den (inOf q kv kp o) h i * Real.exp (-top (inOf q kv kp o) h i) * (den (inOf q kv kp o) h i * Real.exp (-top (inOf q kv kp o) h i)))) * (weight (inOf q kv kp o) h i k * Real.exp (-top (inOf q kv kp o) h i)) : ℝ) : EReal) := by
  pointwise [dsums]
  simp only [dprobs_at q kv kp o, invsq_at q kv kp o (hM := hM), exps_at q kv kp o (hM := hM), ← EReal.coe_mul, coe_sum, ← EReal.coe_neg]
  simp

theorem dscores_at : dscores (up q) (up kv) (up kp) (up o) M (ix3 h i j) = (ds (inOf q kv kp o) h i j : EReal) := by
  pointwise [dscores]
  rw [mask_at]
  split
  · rw [ValueIdx.select_one, dprobs_at q kv kp o, sums_at q kv kp o (hM := hM), dsums_at q kv kp o (hM := hM), exps_at q kv kp o (hM := hM),
      div_real _ (scaled_ne q kv kp o h i), ← EReal.coe_add, ← EReal.coe_mul, ds_shift]
  · rw [ValueIdx.select_zero, ds_unseen (inOf q kv kp o) h i j ‹_›]; rfl

omit hM
variable (D : FVec Ideal S4x16384x16384 .f32) (hD : ∀ h i j, D (ix3 h i j) = (ds (inOf q kv kp o) h i j : EReal))
include hD

/-- The reference's gradient of the queries. -/
theorem dqueries_at : dqueries (up kv) (up kp) D (ix3 h i e) = (dQ (inOf q kv kp o) h i e : EReal) := by
  pointwise [dqueries, halves, byKeys]
  simp only [hD, keysN_at q kv kp o, keysP_at q kv kp o, ← EReal.coe_mul, coe_sum]
  by_cases he : e.val < 128
  · rw [dif_pos he]
    exact congrArg _ (Finset.sum_congr rfl fun j _ => by rw [key, dif_pos he])
  · rw [dif_neg he]
    exact congrArg _ (Finset.sum_congr rfl fun j _ => by rw [key, dif_neg he])

/-- The reference's gradient of the keys. -/
theorem dkeys_at (p : Fin 1024) : dkeys (up q) D (ix2 i p) = (dK (inOf q kv kp o) ⟨p.val / 256, by omega⟩ i ⟨p.val % 256, by omega⟩ : EReal) := by
  pointwise [dkeys, halves, byQueries]
  simp only [hD, queriesN_at q kv kp o, queriesP_at q kv kp o, ← EReal.coe_mul, coe_sum]
  by_cases he : p.val % 256 < 128
  · rw [dif_pos he]
    rfl
  · rw [dif_neg he]
    exact congrArg _ (Finset.sum_congr rfl fun k _ => by
      rw [show (⟨128 + (p.val % 256 - 128), by omega⟩ : Fin 256) = ⟨p.val % 256, by omega⟩ from Fin.ext (by show 128 + (p.val % 256 - 128) = p.val % 256; omega)])

end Values

end Cert.ReferenceIdeal.Chain

end
-- ==== Proof.HostValue.lean ====
/-
What the host hands the gradient kernel besides the arguments, over real arguments: each row's logarithm of its summed weights, and
each row's sum of the result times its gradient.
-/
module

public import proofs.«01_k».proof.Proof.Frames
public import proofs.«01_k».proof.Proof.RefValue

@[expose] public section

set_option maxRecDepth 16384
set_option Elab.async false

noncomputable section

namespace Cert.KernelIdeal.Host

open Cert.KernelIdeal Cert.KernelIdeal.Gen Cert.Attn Cert.ReferenceIdeal.Chain
open Idealize.ShloMosaic Idealize.ShloMosaic.TcCoe Idealize.ShloMosaic.Tactic

variable (Q KV : FVec Ideal S16384x1024 .bf16) (KP : FVec Ideal S16384x128 .bf16) (O : FVec Ideal S16384x512 .bf16)

/-- A column of numbers spread over 128 columns a head. -/
def rows (t : FVec Ideal S4x16384x1 .f32) : FVec Ideal S16384x512 .f32 :=
  shapeCast _ (transpose S16384x4x128 [1, 0, 2] (broadcastInDim S4x16384x128 ![0, 1, 2] bcast_S4x16384x1_S4x16384x128_0_1_2 t)
    transposes_S4x16384x128_S16384x4x128_1_0_2) shapeCasts_S16384x4x128_S16384x512

/-- Each row's logarithm of its summed weights. -/
def logSums : FVec Ideal S4x16384x1 .f32 :=
  addf (broadcastInDim S4x16384x1 ![0, 1] bcast_S4x16384_S4x16384x1_0_1 (tops Q KV KP)) (Host.log (sums Q KV KP (tops Q KV KP)))

/-- Each row's sum of the result times its gradient. -/
def rowDots : FVec Ideal S4x16384x1 .f32 :=
  broadcastInDim S4x16384x1 ![0, 1] bcast_S4x16384_S4x16384x1_0_1
    (Host.reduceAdd (mulf (transpose S4x16384x128 [1, 0, 2] (grads O) transposes_S16384x4x128_S4x16384x128_1_0_2)
      (Host.dotGeneral dot_S4x16384x16384_S16384x4x128_S4x16384x128_2_0_1_2_0_1 none (probs Q KV KP (tops Q KV KP)) (vals KV)))
      (constant S_ .f32 0x00000000#32) reducesTo_S4x16384x128_S4x16384_d2 h_S_)

variable (m : (ℓ : Loc nD τ sig) → Buf (Elt Ideal) ℓ) (c : Dev nD)

/-- Widening a slice is slicing the widened array. -/
theorem slice_extf (x : FVec Ideal S16384x1024 .bf16) (off : Fin 2 → ℕ) (hs : S16384x1024.Slices off S16384x512) :
    extractStridedSlice S16384x512 off (extf .f32 x bitsLt_bf16_f32) hs = extf .f32 (extractStridedSlice S16384x512 off x hs) bitsLt_bf16_f32 := rfl

/-- The first array of row statistics, from the arguments. -/
theorem V_lse : Step.V m c main_v43 = rows (logSums (m ((c.tc : Thread nD τ).loc main_arg0)) (m ((c.tc : Thread nD τ).loc main_arg1)) (m ((c.tc : Thread nD τ).loc main_arg2))) := by
  unfold Step.V
  after_results_simp
  simp only [slice_extf]
  chain_rfl

/-- The second array of row statistics, from the arguments. -/
theorem V_dsum : Step.V m c main_v49 = rows (rowDots (m ((c.tc : Thread nD τ).loc main_arg0)) (m ((c.tc : Thread nD τ).loc main_arg1)) (m ((c.tc : Thread nD τ).loc main_arg2))
    (m ((c.tc : Thread nD τ).loc main_arg3))) := by
  unfold Step.V
  after_results_simp
  simp only [slice_extf]
  chain_rfl

section Values

variable (q kv : S16384x1024.Idx → ℝ) (kp : S16384x128.Idx → ℝ) (o : S16384x512.Idx → ℝ)
  (h : Fin 4) (i : Fin 16384)

/-- The spread column, read at an index of head `h`. -/
theorem rows_at (t : FVec Ideal S4x16384x1 .f32) (d : Fin 128) :
    rows t (ix2 i ⟨h.val * 128 + d.val, by have := h.isLt; omega⟩) = t (ix3 h i 0) := by
  pointwise [rows]

/-- The gradients of the result, read at an index. -/
theorem grads_at (d : Fin 128) : grads (up o) (ix3 i h d) = ((inOf q kv kp o).oo h i d : EReal) := by pointwise [grads]; rfl

/-- The sum of a column and a logarithm, read at an index. -/
theorem add_log_at (t : FVec Ideal S4x16384 .f32) (s : FVec Ideal S4x16384x1 .f32) :
    addf (broadcastInDim S4x16384x1 ![0, 1] bcast_S4x16384_S4x16384x1_0_1 t) (Host.log s) (ix3 h i 0) = t (ix2 h i) + Ideal.log (s (ix3 h i 0)) := by
  pointwise

/-- The logarithm of a query's summed weights. -/
theorem logSums_at : logSums (up q) (up kv) (up kp) (ix3 h i 0) = (Real.log (den (inOf q kv kp o) h i) : EReal) := by
  have ht := tops_at q kv kp o h i
  have hs := sums_at q kv kp o (hM := tops_at q kv kp o) (h := h) (i := i)
  unfold logSums
  rw [add_log_at, hs, ht, log_coe (mul_pos (den_pos _ h i) (Real.exp_pos _)), ← EReal.coe_add, log_shift]

/-- A query's probabilities times their gradients, summed. -/
theorem rowDots_at : rowDots (up q) (up kv) (up kp) (up o) (ix3 h i 0) = (dots (inOf q kv kp o) h i : EReal) := by
  have hp := probs_at q kv kp o (hM := tops_at q kv kp o)
  have hv := vals_at q kv kp o
  have hg := grads_at q kv kp o
  unfold rowDots
  generalize probs (up q) (up kv) (up kp) (tops (up q) (up kv) (up kp)) = s at hp ⊢
  generalize vals (up kv) = v at hv ⊢
  generalize grads (up o) = g at hg ⊢
  pointwise
  simp only [hp, hv, hg, ← EReal.coe_mul, coe_sum]
  rw [dots_eq]

variable {q kv kp o}

/-- The arguments on a device are these arrays of reals. -/
structure Args (q kv : S16384x1024.Idx → ℝ) (kp : S16384x128.Idx → ℝ) (o : S16384x512.Idx → ℝ) : Prop where
  q : m ((c.tc : Thread nD τ).loc main_arg0) = up q
  kv : m ((c.tc : Thread nD τ).loc main_arg1) = up kv
  kp : m ((c.tc : Thread nD τ).loc main_arg2) = up kp
  o : m ((c.tc : Thread nD τ).loc main_arg3) = up o

/-- The first array of row statistics over real arguments, read at an index of head `h`. -/
theorem lse_at (A : Args m c q kv kp o) (d : Fin 128) : Step.V m c main_v43 (ix2 i ⟨h.val * 128 + d.val, by have := h.isLt; omega⟩)
    = (Real.log (den (inOf q kv kp o) h i) : EReal) := by
  refine (congrFun (V_lse m c) _).trans ((rows_at h i _ d).trans ?_)
  rw [A.q, A.kv, A.kp]
  exact logSums_at q kv kp o h i

/-- The second array of row statistics over real arguments, read at an index of head `h`. -/
theorem dsum_at (A : Args m c q kv kp o) (d : Fin 128) : Step.V m c main_v49 (ix2 i ⟨h.val * 128 + d.val, by have := h.isLt; omega⟩)
    = (dots (inOf q kv kp o) h i : EReal) := by
  refine (congrFun (V_dsum m c) _).trans ((rows_at h i _ d).trans ?_)
  rw [A.q, A.kv, A.kp, A.o]
  exact rowDots_at q kv kp o h i

end Values

end Cert.KernelIdeal.Host

end
-- ==== Proof.Blocks.lean ====
/-
What each step of the attention gradient reads, over real arguments: the seven blocks of its tile.
-/
module

public import proofs.«01_k».proof.Proof.Tiles
public import proofs.«01_k».proof.Proof.HostValue

@[expose] public section

set_option maxRecDepth 16384
set_option Elab.async false

noncomputable section

namespace Cert.KernelIdeal.Step

open Cert.KernelIdeal Cert.KernelIdeal.Gen Cert.Attn
open Idealize.ShloMosaic Idealize.ShloMosaic.TcCoe Idealize.ShloMosaic.Tactic

variable (m : (ℓ : Loc nD τ sig) → Buf (Elt Ideal) ℓ) (c : Dev nD) (t : Fin (cfgA Ideal).N)

/-- Two indices of a two-axis array with the same coordinates. -/
theorem ix2_ext {n0 n1 : ℕ} (k : (⟨2, ![n0, n1]⟩ : Shape).Idx) (a : Fin n0) (b : Fin n1) (h0 : (k 0).val = a.val) (h1 : (k 1).val = b.val) :
    k = ix2 a b := by
  funext e
  match e with
  | ⟨0, _⟩ => exact Fin.ext h0
  | ⟨1, _⟩ => exact Fin.ext h1

/-- The block of queries, read at an index. -/
theorem blk0 (p : Fin 1024) (d : Fin 256) : iblk m c 0 t (ix2 p d)
    = V m c main_arg0 (ix2 (pos (rowT t) p) ⟨(headT t).val * 256 + d.val, by have := (headT t).isLt; omega⟩) := by
  refine congrArg (V m c main_arg0) (ix2_ext _ _ _ ?_ ?_)
  · refine (((cfgA Ideal).win 0).rect_emb_val t (ix2 p d) 0).trans ?_
    show cc0_transform_0 k0_off1_inb numel1_S1 (tabs (F := Ideal)) (crd t) 0 * 1024 + p.val = 1024 * (rowOf (crd t)).toNat + p.val
    rw [(index_val (crd t)).1.1, Nat.mul_comm]
  · refine (((cfgA Ideal).win 0).rect_emb_val t (ix2 p d) 1).trans ?_
    show cc0_transform_0 k0_off1_inb numel1_S1 (tabs (F := Ideal)) (crd t) 1 * 256 + d.val = (crd t 0).val * 256 + d.val
    rw [(index_val (crd t)).1.2]

/-- The block of first halves of the keys, read at an index. -/
theorem blk1 (p : Fin 1024) (d : Fin 128) : iblk m c 1 t (ix2 p d) = V m c main_arg1 (ix2 (pos (colT t) p) ⟨(headT t).val * 128 + d.val, by have := (headT t).isLt; omega⟩) := by
  refine congrArg (V m c main_arg1) (ix2_ext _ _ _ ?_ ?_)
  · refine (((cfgA Ideal).win 1).rect_emb_val t (ix2 p d) 0).trans ?_
    show cc0_transform_1 k0_off1_inb numel1_S1 (tabs (F := Ideal)) (crd t) 0 * 1024 + p.val = 1024 * (colOf (crd t)).toNat + p.val
    rw [(index_val (crd t)).2.1.1, Nat.mul_comm]
  · refine (((cfgA Ideal).win 1).rect_emb_val t (ix2 p d) 1).trans ?_
    show cc0_transform_1 k0_off1_inb numel1_S1 (tabs (F := Ideal)) (crd t) 1 * 128 + d.val = (crd t 0).val * 128 + d.val
    rw [(index_val (crd t)).2.1.2]

/-- The block of second halves of the keys, read at an index. -/
theorem blk2 (p : Fin 1024) (d : Fin 128) : iblk m c 2 t (ix2 p d) = V m c main_arg2 (ix2 (pos (colT t) p) d) := by
  refine congrArg (V m c main_arg2) (ix2_ext _ _ _ ?_ ?_)
  · refine (((cfgA Ideal).win 2).rect_emb_val t (ix2 p d) 0).trans ?_
    show cc0_transform_2 k0_off1_inb numel1_S1 (tabs (F := Ideal)) (crd t) 0 * 1024 + p.val = 1024 * (colOf (crd t)).toNat + p.val
    rw [(index_val (crd t)).2.2.1.1, Nat.mul_comm]
  · refine (((cfgA Ideal).win 2).rect_emb_val t (ix2 p d) 1).trans ?_
    show cc0_transform_2 k0_off1_inb numel1_S1 (tabs (F := Ideal)) (crd t) 1 * 128 + d.val = d.val
    rw [(index_val (crd t)).2.2.1.2, Nat.zero_mul, Nat.zero_add]

/-- The block of values, read at an index. -/
theorem blk3 (p : Fin 1024) (d : Fin 128) : iblk m c 3 t (ix2 p d) = V m c main_arg1 (ix2 (pos (colT t) p) ⟨512 + ((headT t).val * 128 + d.val), by have := (headT t).isLt; omega⟩) := by
  refine congrArg (V m c main_arg1) (ix2_ext _ _ _ ?_ ?_)
  · refine (((cfgA Ideal).win 3).rect_emb_val t (ix2 p d) 0).trans ?_
    show cc0_transform_3 k0_off1_inb numel1_S1 (tabs (F := Ideal)) (crd t) 0 * 1024 + p.val = 1024 * (colOf (crd t)).toNat + p.val
    rw [(index_val (crd t)).2.2.2.1.1, Nat.mul_comm]
  · refine (((cfgA Ideal).win 3).rect_emb_val t (ix2 p d) 1).trans ?_
    show cc0_transform_3 k0_off1_inb numel1_S1 (tabs (F := Ideal)) (crd t) 1 * 128 + d.val = 512 + ((crd t 0).val * 128 + d.val)
    rw [(index_val (crd t)).2.2.2.1.2]; omega

/-- The fifth window's block of any contents of its array, read at an index. -/
theorem read4 (f : Buf (Elt Ideal) ((c : Thread nD τ).loc main_v43)) (p : Fin 1024) (d : Fin 128) :
    (((cfgA Ideal).win 4).blk t).view.read (Elt Ideal) f (ix2 p d)
      = f (ix2 (pos (rowT t) p) ⟨(headT t).val * 128 + d.val, by have := (headT t).isLt; omega⟩) := by
  refine congrArg f (ix2_ext _ _ _ ?_ ?_)
  · refine (((cfgA Ideal).win 4).rect_emb_val t (ix2 p d) 0).trans ?_
    show cc0_transform_4 k0_off1_inb numel1_S1 (tabs (F := Ideal)) (crd t) 0 * 1024 + p.val = 1024 * (rowOf (crd t)).toNat + p.val
    rw [(index_val (crd t)).2.2.2.2.1.1, Nat.mul_comm]
  · refine (((cfgA Ideal).win 4).rect_emb_val t (ix2 p d) 1).trans ?_
    show cc0_transform_4 k0_off1_inb numel1_S1 (tabs (F := Ideal)) (crd t) 1 * 128 + d.val = (crd t 0).val * 128 + d.val
    rw [(index_val (crd t)).2.2.2.2.1.2]

/-- The block of logarithms of summed weights, read at an index. -/
theorem blk4 (p : Fin 1024) (d : Fin 128) : iblk m c 4 t (ix2 p d)
    = V m c main_v43 (ix2 (pos (rowT t) p) ⟨(headT t).val * 128 + d.val, by have := (headT t).isLt; omega⟩) :=
  read4 c t (V m c main_v43) p d

/-- The block of row sums, read at an index. -/
theorem blk5 (p : Fin 1024) (d : Fin 128) : iblk m c 5 t (ix2 p d) = V m c main_v49 (ix2 (pos (rowT t) p) ⟨(headT t).val * 128 + d.val, by have := (headT t).isLt; omega⟩) := by
  refine congrArg (V m c main_v49) (ix2_ext _ _ _ ?_ ?_)
  · refine (((cfgA Ideal).win 5).rect_emb_val t (ix2 p d) 0).trans ?_
    show cc0_transform_5 k0_off1_inb numel1_S1 (tabs (F := Ideal)) (crd t) 0 * 1024 + p.val = 1024 * (rowOf (crd t)).toNat + p.val
    rw [(index_val (crd t)).2.2.2.2.2.1.1, Nat.mul_comm]
  · refine (((cfgA Ideal).win 5).rect_emb_val t (ix2 p d) 1).trans ?_
    show cc0_transform_5 k0_off1_inb numel1_S1 (tabs (F := Ideal)) (crd t) 1 * 128 + d.val = (crd t 0).val * 128 + d.val
    rw [(index_val (crd t)).2.2.2.2.2.1.2]

/-- The block of gradients of the result, read at an index. -/
theorem blk6 (p : Fin 1024) (d : Fin 128) : iblk m c 6 t (ix2 p d) = V m c main_arg3 (ix2 (pos (rowT t) p) ⟨(headT t).val * 128 + d.val, by have := (headT t).isLt; omega⟩) := by
  refine congrArg (V m c main_arg3) (ix2_ext _ _ _ ?_ ?_)
  · refine (((cfgA Ideal).win 6).rect_emb_val t (ix2 p d) 0).trans ?_
    show cc0_transform_6 k0_off1_inb numel1_S1 (tabs (F := Ideal)) (crd t) 0 * 1024 + p.val = 1024 * (rowOf (crd t)).toNat + p.val
    rw [(index_val (crd t)).2.2.2.2.2.2.1.1, Nat.mul_comm]
  · refine (((cfgA Ideal).win 6).rect_emb_val t (ix2 p d) 1).trans ?_
    show cc0_transform_6 k0_off1_inb numel1_S1 (tabs (F := Ideal)) (crd t) 1 * 128 + d.val = (crd t 0).val * 128 + d.val
    rw [(index_val (crd t)).2.2.2.2.2.2.1.2]

variable {q kv : S16384x1024.Idx → ℝ} {kp : S16384x128.Idx → ℝ} {o : S16384x512.Idx → ℝ}

/-- A step reads the blocks of its tile. -/
theorem tile (A : Host.Args m c q kv kp o) : Tile (inOf q kv kp o) (headT t) (rowT t) (colT t) (iblk m c 0 t) (iblk m c 1 t) (iblk m c 2 t)
    (iblk m c 3 t) (iblk m c 4 t) (iblk m c 5 t) (iblk m c 6 t) where
  q p d := (blk0 m c t p d).trans (((congrFun (V_arg0 m c) _).trans (congrFun A.q _)))
  kn p d := (blk1 m c t p d).trans ((congrFun (V_arg1 m c) _).trans (congrFun A.kv _))
  kp p d := (blk2 m c t p d).trans ((congrFun (V_arg2 m c) _).trans (congrFun A.kp _))
  vv p d := (blk3 m c t p d).trans ((congrFun (V_arg1 m c) _).trans (congrFun A.kv _))
  lse p := (blk4 m c t p 0).trans (Host.lse_at m c (headT t) _ A 0)
  dsum p := (blk5 m c t p 0).trans (Host.dsum_at m c (headT t) _ A 0)
  oo p d := (blk6 m c t p d).trans ((congrFun (V_arg3 m c) _).trans (congrFun A.o _))

end Cert.KernelIdeal.Step

end
-- ==== Proof.Closed.lean ====
/-
The attention gradient after every step, over real arguments: the gradient blocks and the running gradient are the gradients' sums
over the tiles done so far, and the result array of the query gradients has the heads that are done.
-/
module

public import proofs.«01_k».proof.Proof.Blocks

@[expose] public section

set_option maxRecDepth 16384
set_option Elab.async false

noncomputable section

namespace Cert.KernelIdeal.Step

open Cert.KernelIdeal Cert.KernelIdeal.Gen Cert.Attn
open Idealize.ShloMosaic Idealize.ShloMosaic.TcCoe Idealize.ShloMosaic.Tactic

/-- A key in a tile after the query's is not seen. -/
theorem unseen_above (i : Fin 16384) (J : Fin 16) (p : Fin 1024) (h : i.val / 1024 < J.val) : ¬ seen i (pos J p) := by
  intro hs
  have : (1024 * J.val + p.val) / 64 ≤ i.val / 64 := hs
  omega

variable (m : (ℓ : Loc nD τ sig) → Buf (Elt Ideal) ℓ) (c : Dev nD) (x : In)

/-- What holds after step `t`. -/
structure Inv (t : Fin (cfgA Ideal).N) : Prop where
  k : ∀ p d, (state m c (t.val + 1)).k (ix2 p d)
    = (part (fun i => ds x (headT t) i (pos (colT t) p) * x.q (headT t) i d) ((rowT t).val + 1) : EReal)
  v : ∀ p d, (state m c (t.val + 1)).v (ix2 p d)
    = (part (fun i => prob x (headT t) i (pos (colT t) p) * x.oo (headT t) i d) ((rowT t).val + 1) : EReal)
  a : ∀ r d, (state m c (t.val + 1)).a (ix2 r d)
    = (part (fun j => ds x (headT t) r j * key x (headT t) j d) (if r.val / 1024 ≤ (rowT t).val then (colT t).val + 1 else (colT t).val) : EReal)
  g : ∀ h : Fin 4, (h.val < (headT t).val ∨ h.val = (headT t).val ∧ isLast (crd t) = true) →
    ∀ r d, (state m c (t.val + 1)).g (ix3 h r d) = (dQ x h r d : EReal)

variable {m c x} (t : Fin (cfgA Ideal).N)
  (H : Tile x (headT t) (rowT t) (colT t) (iblk m c 0 t) (iblk m c 1 t) (iblk m c 2 t) (iblk m c 3 t) (iblk m c 4 t) (iblk m c 5 t) (iblk m c 6 t))
  (P : ∀ t' : Fin (cfgA Ideal).N, t'.val + 1 = t.val → Inv m c x t')
include H P

omit H P in
/-- A step that is not the first has one before it. -/
theorem before_step (h : ¬ isFirst (crd t) = true) : ∃ t' : Fin (cfgA Ideal).N, t'.val + 1 = t.val := by
  have h0 : (crd t 1).val ≠ 0 := fun e => h (beq_iff_eq.2 e)
  have hc := coords_val t
  exact ⟨⟨t.val - 1, lt_of_le_of_lt (Nat.sub_le _ _) t.isLt⟩, by show t.val - 1 + 1 = t.val; omega⟩

omit H P in
/-- A head's first step is on the diagonal. -/
theorem first_diag (h : isFirst (crd t) = true) : onDiag (crd t) = true := (branches (crd t)).2.2.2.2.1 h

/-- The block of key gradients after a step. -/
theorem k_step (p : Fin 1024) (d : Fin 256) : (state m c (t.val + 1)).k (ix2 p d)
    = (part (fun i => ds x (headT t) i (pos (colT t) p) * x.q (headT t) i d) ((rowT t).val + 1) : EReal) := by
  rw [state_succ]
  refine (stepK_at H (col_le_row t) _ _ (diag_iff t) p d).trans ?_
  rw [part_succ, EReal.coe_add]
  congr 1
  by_cases hd : onDiag (crd t) = true
  · rw [if_pos hd, part_zero _ _ fun i hi => ?_, EReal.coe_zero]
    rw [ds_unseen x _ _ _ (unseen_above i _ p (by rw [← (diag_iff t).1 hd]; exact hi)), zero_mul]
  · have hf : ¬ isFirst (crd t) = true := fun h => hd (first_diag t h)
    obtain ⟨t', ht⟩ := before_step t hf
    have e := (next_tile t t' ht hf).2 hd
    have eh := (inside t t' ht hf).2.2
    have ec : colT t = colT t' := Fin.ext e.2
    rw [if_neg hd, ← ht, (P t' ht).k, eh, ec, e.1]

/-- The block of value gradients after a step. -/
theorem v_step (p : Fin 1024) (d : Fin 128) : (state m c (t.val + 1)).v (ix2 p d)
    = (part (fun i => prob x (headT t) i (pos (colT t) p) * x.oo (headT t) i d) ((rowT t).val + 1) : EReal) := by
  rw [state_succ]
  refine (stepV_at H (col_le_row t) _ _ (diag_iff t) p d).trans ?_
  rw [part_succ, EReal.coe_add]
  congr 1
  by_cases hd : onDiag (crd t) = true
  · rw [if_pos hd, part_zero _ _ fun i hi => ?_, EReal.coe_zero]
    rw [prob_unseen x _ _ _ (unseen_above i _ p (by rw [← (diag_iff t).1 hd]; exact hi)), zero_mul]
  · have hf : ¬ isFirst (crd t) = true := fun h => hd (first_diag t h)
    obtain ⟨t', ht⟩ := before_step t hf
    have e := (next_tile t t' ht hf).2 hd
    have eh := (inside t t' ht hf).2.2
    have ec : colT t = colT t' := Fin.ext e.2
    rw [if_neg hd, ← ht, (P t' ht).v, eh, ec, e.1]

omit H in
/-- The running gradient as a step finds it: rows of tiles before the step's have this column tile, the others do not yet. -/
theorem a_before (r : Fin 16384) (d : Fin 256) : (if isFirst (crd t) = true then 0 else (state m c t.val).a (ix2 r d))
    = (part (fun j => ds x (headT t) r j * key x (headT t) j d) (if r.val / 1024 < (rowT t).val then (colT t).val + 1 else (colT t).val) : EReal) := by
  have hr := r.isLt
  by_cases hf : isFirst (crd t) = true
  · have e := first_tile t hf
    rw [if_pos hf, e.1, e.2, if_neg (Nat.not_lt_zero _), part_zero _ _ fun j hj => absurd hj (Nat.not_lt_zero _), EReal.coe_zero]
  · obtain ⟨t', ht⟩ := before_step t hf
    have eh := (inside t t' ht hf).2.2
    rw [if_neg hf, ← ht, (P t' ht).a, eh]
    by_cases hd : onDiag (crd t) = true
    · have e := (next_tile t t' ht hf).1 hd
      rw [e.1, if_pos (by omega), ← e.2, (diag_iff t).1 hd]
      by_cases hl : r.val / 1024 < (colT t).val
      · rw [if_pos hl, part_skip _ _ fun p => by rw [ds_unseen x _ _ _ (unseen_above r _ p hl), zero_mul]]
      · rw [if_neg hl]
    · have e := (next_tile t t' ht hf).2 hd
      rw [e.1, e.2]
      by_cases hl : r.val / 1024 ≤ (rowT t').val
      · rw [if_pos hl, if_pos (by omega)]
      · rw [if_neg hl, if_neg (by omega)]

/-- The running gradient after a step. -/
theorem a_step (r : Fin 16384) (d : Fin 256) : nextQ m c t (state m c t.val).a (ix2 r d)
    = (part (fun j => ds x (headT t) r j * key x (headT t) j d) (if r.val / 1024 ≤ (rowT t).val then (colT t).val + 1 else (colT t).val) : EReal) := by
  refine (stepQ_at H (col_le_row t) _ _ _ (diag_iff t) _ (rows_in (crd t)) rfl r d).trans ?_
  rw [a_before t P]
  rcases lt_trichotomy (r.val / 1024) (rowT t).val with h | h | h
  · rw [if_pos h, if_neg h.ne, if_pos h.le, add_zero]
  · rw [if_neg (by omega), if_pos h, if_pos h.le, part_succ, EReal.coe_add]
  · rw [if_neg (by omega), if_neg h.ne', if_neg (by omega), add_zero]

/-- The result array of the query gradients after a step. -/
theorem g_step (h : Fin 4) (hh : h.val < (headT t).val ∨ h.val = (headT t).val ∧ isLast (crd t) = true) (r : Fin 16384) (d : Fin 256) :
    (state m c (t.val + 1)).g (ix3 h r d) = (dQ x h r d : EReal) := by
  have hr := r.isLt
  rw [state_succ]
  show (if isLast (crd t) = true ∧ h.val = (headT t).val then nextQ m c t (state m c t.val).a (ix2 r d) else (state m c t.val).g (ix3 h r d)) = _
  by_cases hl : isLast (crd t) = true ∧ h.val = (headT t).val
  · have e := last_tile t hl.1
    have eh : h = headT t := Fin.ext hl.2
    rw [if_pos hl, a_step t H P, e.1, e.2, if_pos (by omega), part_all, eh]
    rfl
  · have hlt : h.val < (headT t).val := hh.resolve_right fun h' => hl ⟨h'.2, h'.1⟩
    rw [if_neg hl]
    have hc := coords_val t
    have ht0 : t.val ≠ 0 := fun e => by
      have h0 : (crd t 0).val = 0 := by omega
      have : h.val < (crd t 0).val := hlt
      omega
    have ht : (⟨t.val - 1, lt_of_le_of_lt (Nat.sub_le _ _) t.isLt⟩ : Fin (cfgA Ideal).N).val + 1 = t.val := by show t.val - 1 + 1 = t.val; omega
    generalize (⟨t.val - 1, lt_of_le_of_lt (Nat.sub_le _ _) t.isLt⟩ : Fin (cfgA Ideal).N) = t' at ht
    rw [← ht]
    refine (P t' ht).g h ?_ r d
    by_cases hf : isFirst (crd t) = true
    · have e := first_after t t' ht hf
      rcases Nat.lt_or_ge h.val (headT t').val with h1 | h1
      · exact .inl h1
      · exact .inr ⟨by omega, e.1⟩
    · exact .inl ((inside t t' ht hf).2.2 ▸ hlt)

/-- One step. -/
theorem inv_step : Inv m c x t where
  k := k_step t H P
  v := v_step t H P
  a r d := by rw [state_succ]; exact a_step t H P r d
  g := g_step t H P

omit H P
variable {q kv : S16384x1024.Idx → ℝ} {kp : S16384x128.Idx → ℝ} {o : S16384x512.Idx → ℝ}

/-- After every step. -/
theorem inv (A : Host.Args m c q kv kp o) (n : ℕ) : ∀ hn : n < (cfgA Ideal).N, Inv m c (inOf q kv kp o) ⟨n, hn⟩ := by
  induction n with
  | zero => exact fun hn => inv_step _ (tile m c _ A) fun t' h => absurd h (Nat.succ_ne_zero _)
  | succ n ih =>
    intro hn
    refine inv_step _ (tile m c _ A) fun t' h => ?_
    have e : t' = ⟨n, Nat.lt_of_succ_lt hn⟩ := Fin.ext (Nat.succ.inj h)
    rw [e]
    exact ih _

end Cert.KernelIdeal.Step

end
-- ==== Proof.Final.lean ====
/-
What a run of the attention gradient leaves in its three results, over real arguments: the three gradients.
-/
module

public import proofs.«01_k».proof.Proof.Closed

@[expose] public section

set_option maxRecDepth 16384
set_option Elab.async false

noncomputable section

namespace Cert.KernelIdeal.Step

open Cert.KernelIdeal Cert.KernelIdeal.Gen Cert.Attn
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD) (x : In)

/-- The gradient of the keys as an array. -/
def keyGrads : S16384x1024.Idx → EReal := fun j => (dK x ⟨(j 1).val / 256, by have h : (j 1).val < 1024 := (j 1).isLt; omega⟩ (j 0) ⟨(j 1).val % 256, by omega⟩ : EReal)
/-- The gradient of the values as an array. -/
def valGrads : S16384x512.Idx → EReal := fun j => (dV x ⟨(j 1).val / 128, by have h : (j 1).val < 512 := (j 1).isLt; omega⟩ (j 0) ⟨(j 1).val % 128, by omega⟩ : EReal)
/-- The gradient of the queries as an array. -/
def queryGrads : S4x16384x256.Idx → EReal := fun j => (dQ x (j 0) (j 1) (j 2) : EReal)

/-- The array of key gradients, read through a step's block. -/
theorem read7 (t : Fin (cfgA Ideal).N) (f : Buf (Elt Ideal) ((c : Thread nD τ).loc main_v50_1)) (p : Fin 1024) (d : Fin 256) :
    (((cfgA Ideal).win 7).blk t).view.read (Elt Ideal) f (ix2 p d)
      = f (ix2 (pos (colT t) p) ⟨(headT t).val * 256 + d.val, by have := (headT t).isLt; omega⟩) := by
  refine congrArg f (ix2_ext _ _ _ ?_ ?_)
  · refine (((cfgA Ideal).win 7).rect_emb_val t (ix2 p d) 0).trans ?_
    show cc0_transform_8 k0_off1_inb numel1_S1 (tabs (F := Ideal)) (crd t) 0 * 1024 + p.val = 1024 * (colOf (crd t)).toNat + p.val
    rw [(index_val (crd t)).2.2.2.2.2.2.2.1.1, Nat.mul_comm]
  · refine (((cfgA Ideal).win 7).rect_emb_val t (ix2 p d) 1).trans ?_
    show cc0_transform_8 k0_off1_inb numel1_S1 (tabs (F := Ideal)) (crd t) 1 * 256 + d.val = (crd t 0).val * 256 + d.val
    rw [(index_val (crd t)).2.2.2.2.2.2.2.1.2]

/-- The array of value gradients, read through a step's block. -/
theorem read8 (t : Fin (cfgA Ideal).N) (f : Buf (Elt Ideal) ((c : Thread nD τ).loc main_v50_2)) (p : Fin 1024) (d : Fin 128) :
    (((cfgA Ideal).win 8).blk t).view.read (Elt Ideal) f (ix2 p d)
      = f (ix2 (pos (colT t) p) ⟨(headT t).val * 128 + d.val, by have := (headT t).isLt; omega⟩) := by
  refine congrArg f (ix2_ext _ _ _ ?_ ?_)
  · refine (((cfgA Ideal).win 8).rect_emb_val t (ix2 p d) 0).trans ?_
    show cc0_transform_9 k0_off1_inb numel1_S1 (tabs (F := Ideal)) (crd t) 0 * 1024 + p.val = 1024 * (colOf (crd t)).toNat + p.val
    rw [(index_val (crd t)).2.2.2.2.2.2.2.2.1, Nat.mul_comm]
  · refine (((cfgA Ideal).win 8).rect_emb_val t (ix2 p d) 1).trans ?_
    show cc0_transform_9 k0_off1_inb numel1_S1 (tabs (F := Ideal)) (crd t) 1 * 128 + d.val = (crd t 0).val * 128 + d.val
    rw [(index_val (crd t)).2.2.2.2.2.2.2.2.2]

/-- An index of the key gradients is in the block of its column's last step. -/
theorem cover7 (i : S16384x1024.Idx) : ∃ t : Fin (cfgA Ideal).N, ((cfgA Ideal).win 7).flush t = true ∧ i ∈ (((cfgA Ideal).win 7).blk t).view.set := by
  have h0 : (i 0).val < 16384 := (i 0).isLt
  have h1 : (i 1).val < 1024 := (i 1).isLt
  have F := lastOf_facts ⟨(i 1).val / 256, by omega⟩ ⟨(i 0).val / 1024, by omega⟩
  generalize lastOf ⟨(i 1).val / 256, by omega⟩ ⟨(i 0).val / 1024, by omega⟩ = t at F
  refine ⟨t, (flush7 (F := Ideal) t).symm.trans F.1, ?_⟩
  have ec : (colOf (crd t)).toNat = (i 0).val / 1024 := congrArg Fin.val F.2.1
  have eh : (crd t 0).val = (i 1).val / 256 := congrArg Fin.val F.2.2
  have hx := (index_val (crd t)).2.2.2.2.2.2.2.1
  show i ∈ ((View.whole main_v50_1).slice (((cfgA Ideal).win 7).rect t)).set
  rw [View.set_slice_whole, Rect.mem_set_unit]
  intro a
  match a with
  | ⟨0, _⟩ =>
    show cc0_transform_8 k0_off1_inb numel1_S1 (tabs (F := Ideal)) (crd t) 0 * 1024 ≤ (i 0).val
      ∧ (i 0).val < cc0_transform_8 k0_off1_inb numel1_S1 (tabs (F := Ideal)) (crd t) 0 * 1024 + 1024
    rw [hx.1, ec]; omega
  | ⟨1, _⟩ =>
    show cc0_transform_8 k0_off1_inb numel1_S1 (tabs (F := Ideal)) (crd t) 1 * 256 ≤ (i 1).val
      ∧ (i 1).val < cc0_transform_8 k0_off1_inb numel1_S1 (tabs (F := Ideal)) (crd t) 1 * 256 + 256
    rw [hx.2, eh]; omega

/-- An index of the value gradients is in the block of its column's last step. -/
theorem cover8 (i : S16384x512.Idx) : ∃ t : Fin (cfgA Ideal).N, ((cfgA Ideal).win 8).flush t = true ∧ i ∈ (((cfgA Ideal).win 8).blk t).view.set := by
  have h0 : (i 0).val < 16384 := (i 0).isLt
  have h1 : (i 1).val < 512 := (i 1).isLt
  have F := lastOf_facts ⟨(i 1).val / 128, by omega⟩ ⟨(i 0).val / 1024, by omega⟩
  generalize lastOf ⟨(i 1).val / 128, by omega⟩ ⟨(i 0).val / 1024, by omega⟩ = t at F
  refine ⟨t, (flush8 (F := Ideal) t).symm.trans F.1, ?_⟩
  have ec : (colOf (crd t)).toNat = (i 0).val / 1024 := congrArg Fin.val F.2.1
  have eh : (crd t 0).val = (i 1).val / 128 := congrArg Fin.val F.2.2
  have hx := (index_val (crd t)).2.2.2.2.2.2.2.2
  show i ∈ ((View.whole main_v50_2).slice (((cfgA Ideal).win 8).rect t)).set
  rw [View.set_slice_whole, Rect.mem_set_unit]
  intro a
  match a with
  | ⟨0, _⟩ =>
    show cc0_transform_9 k0_off1_inb numel1_S1 (tabs (F := Ideal)) (crd t) 0 * 1024 ≤ (i 0).val
      ∧ (i 0).val < cc0_transform_9 k0_off1_inb numel1_S1 (tabs (F := Ideal)) (crd t) 0 * 1024 + 1024
    rw [hx.1, ec]; omega
  | ⟨1, _⟩ =>
    show cc0_transform_9 k0_off1_inb numel1_S1 (tabs (F := Ideal)) (crd t) 1 * 128 ≤ (i 1).val
      ∧ (i 1).val < cc0_transform_9 k0_off1_inb numel1_S1 (tabs (F := Ideal)) (crd t) 1 * 128 + 128
    rw [hx.2, eh]; omega

variable {q kv : S16384x1024.Idx → ℝ} {kp : S16384x128.Idx → ℝ} {o : S16384x512.Idx → ℝ} (A : Host.Args m c q kv kp o)
include A

/-- The result array of the key gradients ends as the gradient of the keys. -/
theorem final7 : (dats m 0 c).arrAt 7 (cfgA Ideal).N = keyGrads (inOf q kv kp o) := by
  refine (dats m 0 c).arrAt_eq_of_cover 7 (keyGrads (inOf q kv kp o)) (fun t ht => ?_) (cover7)
  funext y
  show (state m c (t.val + 1)).k y = _
  have I := inv A t.val t.isLt
  have hr := flush_row t ((flush7 (F := Ideal) t).trans ht)
  have hh := (headT t).isLt
  obtain ⟨p, d, rfl⟩ : ∃ (p : Fin 1024) (d : Fin 256), y = ix2 p d := ⟨y 0, y 1, ix2_ext _ _ _ rfl rfl⟩
  have hd := d.isLt
  refine (I.k p d).trans (Eq.trans ?_ (read7 c t _ p d).symm)
  rw [hr, part_all]
  unfold keyGrads
  refine congrArg _ (show dK _ (headT t) (pos (colT t) p) d = _ from ?_)
  congr 1
  · exact Fin.ext (by show (headT t).val = ((headT t).val * 256 + d.val) / 256; omega)
  · exact Fin.ext (by show d.val = ((headT t).val * 256 + d.val) % 256; omega)

/-- The result array of the value gradients ends as the gradient of the values. -/
theorem final8 : (dats m 0 c).arrAt 8 (cfgA Ideal).N = valGrads (inOf q kv kp o) := by
  refine (dats m 0 c).arrAt_eq_of_cover 8 (valGrads (inOf q kv kp o)) (fun t ht => ?_) (cover8)
  funext y
  show (state m c (t.val + 1)).v y = _
  have I := inv A t.val t.isLt
  have hr := flush_row t ((flush8 (F := Ideal) t).trans ht)
  have hh := (headT t).isLt
  obtain ⟨p, d, rfl⟩ : ∃ (p : Fin 1024) (d : Fin 128), y = ix2 p d := ⟨y 0, y 1, ix2_ext _ _ _ rfl rfl⟩
  have hd := d.isLt
  refine (I.v p d).trans (Eq.trans ?_ (read8 c t _ p d).symm)
  rw [hr, part_all]
  unfold valGrads
  refine congrArg _ (show dV _ (headT t) (pos (colT t) p) d = _ from ?_)
  congr 1
  · exact Fin.ext (by show (headT t).val = ((headT t).val * 128 + d.val) / 128; omega)
  · exact Fin.ext (by show d.val = ((headT t).val * 128 + d.val) % 128; omega)

/-- The result array of the query gradients ends as the gradient of the queries. -/
theorem final_g : (state m c 544).g = queryGrads (inOf q kv kp o) := by
  have I := inv A 543 (by decide)
  have hc := coords_val ⟨543, by decide⟩
  funext j
  obtain ⟨h, r, d, rfl⟩ : ∃ (h : Fin 4) (r : Fin 16384) (d : Fin 256), j = ix3 h r d :=
    ⟨j 0, j 1, j 2, by funext e; match e with | ⟨0, _⟩ => rfl | ⟨1, _⟩ => rfl | ⟨2, _⟩ => rfl⟩
  refine I.g h ?_ r d
  have hh := h.isLt
  have h3 : (headT ⟨543, by decide⟩).val = 3 := hc.1
  rw [h3]
  rcases Nat.lt_or_ge h.val 3 with h1 | h1
  · exact .inl h1
  · exact .inr ⟨by omega, beq_iff_eq.2 hc.2⟩

/-- What a run leaves in the three results. -/
theorem results {r} (h : Pipeline.FramePostRG (Pipeline.pin pcfgs fun _ => adm) (dats m) 0 R0 (V m) (G m) r) :
    r.2.mem ((c.tc : Thread nD τ).loc main_v50_0) = queryGrads (inOf q kv kp o)
      ∧ r.2.mem ((c.tc : Thread nD τ).loc main_v50_1) = keyGrads (inOf q kv kp o)
      ∧ r.2.mem ((c.tc : Thread nD τ).loc main_v50_2) = valGrads (inOf q kv kp o) := by
  refine ⟨?_, ((h.toR c).1 7).trans (final7 m c A), ((h.toR c).1 8).trans (final8 m c A)⟩
  refine (h.written c (Finset.mem_singleton_self main_v50_0)).trans ?_
  unfold G
  rw [Function.update_self]
  exact final_g m c A

end Cert.KernelIdeal.Step

end
-- ==== Proof.lean ====
/-
The claims of the attention gradient: that the kernel keeps its arguments and comes to rest, and that over real arguments its three
results are the reference's; and with them those of the feed-forward layer's calls and of the state-space mixer's input projection, all that the certificate claims.
-/
module

public import proofs.«01_k».proof.Defs
public import proofs.«01_k».proof.Proof.Feed
public import proofs.«01_k».proof.Proof.Final
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import Idealize.ShloMosaic.Lib.Quiescent
public import Idealize.ShloMosaic.Adequacy
public import Idealize.ShloMosaic.Init

@[expose] public section

set_option maxRecDepth 16384
set_option maxHeartbeats 400000
set_option Elab.async false

noncomputable section

namespace Cert.Proof

open Idealize.ShloMosaic Idealize.SL.Sem Cert.KernelIdeal.Step Cert.Attn

/-- What the run over the words says of the arguments and the semaphores. -/
def FrameBits : Prop := ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two programs have the same text, so the printed kernel's frame is the run over the words. -/
theorem same_text : Cert.quiescent_Kernel (hKernel := Cert.Kernel.Gen.facts) = FrameBits := by chain_rfl

/-- The kernel as printed keeps its arguments and comes to rest. -/
theorem frame_kernel : Cert.quiescent_Kernel (hKernel := Cert.Kernel.Gen.facts) := by
  rw [same_text]
  exact fun m g _ => (θ_run Cert.KernelIdeal.defs _ _).mono (fun _ h => ⟨args_kept m h.1, h.2⟩) (run_main (F := Bits) m g)

/-- The kernel over the extended reals keeps its arguments and comes to rest. -/
theorem frame_ideal : Cert.quiescent_KernelIdeal (hKernelIdeal := Cert.KernelIdeal.Gen.facts) :=
  fun m g _ => (θ_run Cert.KernelIdeal.defs _ _).mono (fun _ h => ⟨args_kept m h.1, h.2⟩) (run_main m g)

/-- The same where the precondition holds. -/
theorem frame_ideal_pre : Cert.quiescent_KernelIdeal_pre_finite (hKernelIdeal := Cert.KernelIdeal.Gen.facts) (hPre_finite := Cert.Pre_finite.Gen.facts) :=
  fun m g _ => frame_ideal m g trivial

/-- The reference keeps its arguments and comes to rest. -/
theorem frame_reference : Cert.quiescent_ReferenceIdeal (hReferenceIdeal := Cert.ReferenceIdeal.Gen.facts) :=
  fun m g _ => (θ_run Cert.ReferenceIdeal.defs _ _).mono (fun r h => ⟨fun c => (h c).2.2.2, sem_eq_zero_of_no_sems (by decide) r.2⟩)
    (Cert.ReferenceIdeal.Value.run m g)

/-- The same where the precondition holds. -/
theorem frame_reference_pre : Cert.quiescent_ReferenceIdeal_pre_finite (hReferenceIdeal := Cert.ReferenceIdeal.Gen.facts) (hPre_finite := Cert.Pre_finite.Gen.facts) :=
  fun m g _ => frame_reference m g trivial

/-- The real inputs a device's memory holds. -/
def inputs (m : (ℓ : Loc Cert.KernelIdeal.nD Cert.KernelIdeal.τ Cert.KernelIdeal.sig) → Buf (Elt Ideal) ℓ) (c : Dev Cert.KernelIdeal.nD) : In :=
  inOf (fun i => (show EReal from m ((c.tc : Thread Cert.KernelIdeal.nD Cert.KernelIdeal.τ).loc Cert.KernelIdeal.main_arg0) i).toReal)
    (fun i => (show EReal from m ((c.tc : Thread Cert.KernelIdeal.nD Cert.KernelIdeal.τ).loc Cert.KernelIdeal.main_arg1) i).toReal)
    (fun i => (show EReal from m ((c.tc : Thread Cert.KernelIdeal.nD Cert.KernelIdeal.τ).loc Cert.KernelIdeal.main_arg2) i).toReal)
    (fun i => (show EReal from m ((c.tc : Thread Cert.KernelIdeal.nD Cert.KernelIdeal.τ).loc Cert.KernelIdeal.main_arg3) i).toReal)

open Cert.ReferenceIdeal.Chain in
/-- The reference's three results over real arguments are the three gradients. -/
theorem reference_values (m : (ℓ : Loc Cert.ReferenceIdeal.nD Cert.ReferenceIdeal.τ Cert.ReferenceIdeal.sig) → Buf (Elt Ideal) ℓ)
    (c : Dev Cert.ReferenceIdeal.nD) (q kv : Cert.KernelIdeal.S16384x1024.Idx → ℝ) (kp : Cert.KernelIdeal.S16384x128.Idx → ℝ)
    (o : Cert.KernelIdeal.S16384x512.Idx → ℝ) (hq : argQ m c = up q) (hkv : argKV m c = up kv) (hkp : argKP m c = up kp) (ho : argO m c = up o) :
    Cert.ReferenceIdeal.Value.res_main_v83 m c = queryGrads (inOf q kv kp o)
      ∧ Cert.ReferenceIdeal.Value.res_main_v85 m c = keyGrads (inOf q kv kp o)
      ∧ Cert.ReferenceIdeal.Value.res_main_v86 m c = valGrads (inOf q kv kp o) := by
  have hM := tops'_at q kv kp o
  have hD := dscores_at q kv kp o (hM := hM)
  rw [res_dq, res_dk, res_dv, hq, hkv, hkp, ho]
  refine ⟨funext fun j => ?_, funext fun j => ?_, funext fun j => ?_⟩
  · obtain ⟨h, r, d, rfl⟩ : ∃ (h : Fin 4) (r : Fin 16384) (d : Fin 256), j = ix3 h r d :=
      ⟨j 0, j 1, j 2, by funext e; match e with | ⟨0, _⟩ => rfl | ⟨1, _⟩ => rfl | ⟨2, _⟩ => rfl⟩
    exact dqueries_at q kv kp o h r d _ hD
  · obtain ⟨r, p, rfl⟩ : ∃ (r : Fin 16384) (p : Fin 1024), j = ix2 r p := ⟨j 0, j 1, ix2_ext _ _ _ rfl rfl⟩
    exact dkeys_at q kv kp o r _ hD p
  · obtain ⟨r, p, rfl⟩ : ∃ (r : Fin 16384) (p : Fin 512), j = ix2 r p := ⟨j 0, j 1, ix2_ext _ _ _ rfl rfl⟩
    exact dvals_at q kv kp o r _ hM p

/-- Where the arguments are finite the kernel's three results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => queryGrads (inputs m c), fun c => keyGrads (inputs m c), fun c => valGrads (inputs m c),
    (θ_run Cert.KernelIdeal.defs _ _).mono (fun r h c => ?_) (run_main m g),
    (θ_run Cert.ReferenceIdeal.defs _ _).mono (fun r h c => ?_) (Cert.ReferenceIdeal.Value.run m' g')⟩
  · obtain ⟨hq, hkv, hkp, ho⟩ := Cert.Pre_finite.real_args _ _ _ _ (hpre c)
    have hr := results m c (Cert.KernelIdeal.Host.Args.mk hq hkv hkp ho) h.1
    exact ⟨hr.1, hr.2.1, hr.2.2, args_kept m h.1 c⟩
  · obtain ⟨hq, hkv, hkp, ho⟩ := Cert.Pre_finite.real_args _ _ _ _ (hpre c)
    obtain ⟨e0, e1, e2, e3⟩ := hargs c
    have hv := reference_values m' c _ _ _ _ (e0.trans hq) (e1.trans hkv) (e2.trans hkp) (e3.trans ho)
    exact ⟨(h c).1.trans hv.1, (h c).2.1.trans hv.2.1, (h c).2.2.1.trans hv.2.2, (h c).2.2.2⟩

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts, Cert.Pre_finite5.holds,
    frame_kernel, frame_ideal, frame_ideal_pre, frame_reference, frame_reference_pre,
    frame_kernel2, frame_ideal2, frame_reference2,
    frame_kernel3, frame_ideal3, frame_reference3,
    frame_kernel4, frame_ideal4, frame_reference4,
    frame_kernel5, frame_ideal5, fun m g _ => frame_ideal5 m g trivial, frame_reference5, fun m g _ => frame_reference5 m g trivial,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    trivial, algebraic, trivial, algebraic2, trivial, algebraic3, trivial, algebraic4, trivial, algebraic5, trivial, algebraic6, trivial, algebraic7,
    trivial, algebraic8, trivial, algebraic9, trivial, algebraic10⟩

end Cert.Proof

end
